-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S32x1x7168 : Shape := ⟨3, ![32, 1, 7168]⟩
abbrev S7168x32256 : Shape := ⟨2, ![7168, 32256]⟩
abbrev S32256 : Shape := ⟨1, ![32256]⟩
abbrev S_ : Shape := ⟨0, ![]⟩
abbrev S32x1 : Shape := ⟨2, ![32, 1]⟩

class Facts : Prop where
  bitsLt_bf16_f32 : FTy.bits .bf16 < FTy.bits .f32
  reducesTo_S32x1x7168_S32x1_d2 : S32x1x7168.ReducesTo [2] S32x1
  h_S_ : 0 < S_.numel
  bcast_S_S32x1 : S_.BroadcastsInDim S32x1 (![] : Fin 0 → Fin S32x1.rank)

variable [Facts]

def fn {F : FTy → Type} [FloatOps F] (main_arg0 : FVec F S32x1x7168 .bf16) (main_arg1 : FVec F S7168x32256 .fp8e4m3) (main_arg2 : FVec F S32256 .f32) (main_arg3 : FVec F S32256 .f32) : IVec S32x1 1 :=
  let main_v0 : FVec F S32x1x7168 .f32 := (extf .f32 · bitsLt_bf16_f32) main_arg0
  let main_v1 : FVec F S32x1x7168 .f32 := Host.absf main_v0
  let main_cst : FVec F S_ .f32 := constant S_ .f32 0xFF800000#32
  let main_v2 : FVec F S32x1 .f32 := (fun x v => Host.reduce FloatOps.maximumf x v reducesTo_S32x1x7168_S32x1_d2 h_S_) main_v1 main_cst
  let main_cst_0 : FVec F S_ .f32 := constant S_ .f32 0x3B124925#32
  let main_v3 : FVec F S32x1 .f32 := broadcastInDim S32x1 ![] bcast_S_S32x1 main_cst_0
  let main_v4 : FVec F S32x1 .f32 := mulf main_v2 main_v3
  let main_cst_1 : FVec F S_ .f32 := constant S_ .f32 0x00800000#32
  let main_v5 : FVec F S32x1 .f32 := broadcastInDim S32x1 ![] bcast_S_S32x1 main_cst_1
  let main_v6 : IVec S32x1 1 := cmpf .oge main_v4 main_v5
  let main_cst_2 : FVec F S_ .f32 := constant S_ .f32 0x7F7F0000#32
  let main_v7 : FVec F S32x1 .f32 := broadcastInDim S32x1 ![] bcast_S_S32x1 main_cst_2
  let main_v8 : IVec S32x1 1 := cmpf .ole main_v2 main_v7
  let main_v9 : IVec S32x1 1 := andi main_v6 main_v8
  let main_cst_3 : FVec F S_ .f32 := constant S_ .f32 0x00000000#32
  let main_v10 : FVec F S32x1 .f32 := broadcastInDim S32x1 ![] bcast_S_S32x1 main_cst_3
  let main_v11 : IVec S32x1 1 := cmpf .oeq main_v2 main_v10
  let main_cst_4 : FVec F S_ .f32 := constant S_ .f32 0x7F800000#32
  let main_v12 : FVec F S32x1 .f32 := broadcastInDim S32x1 ![] bcast_S_S32x1 main_cst_4
  let main_v13 : IVec S32x1 1 := cmpf .oeq main_v2 main_v12
  let main_v14 : IVec S32x1 1 := ori main_v11 main_v13
  let main_v15 : IVec S32x1 1 := ori main_v14 main_v9
  main_v15
-- ==== Kernel.lean ====
abbrev S32x1x7168 : Shape := ⟨3, ![32, 1, 7168]⟩
abbrev S7168x32256 : Shape := ⟨2, ![7168, 32256]⟩
abbrev S32256 : Shape := ⟨1, ![32256]⟩
abbrev S32x7168 : Shape := ⟨2, ![32, 7168]⟩
abbrev S8x32 : Shape := ⟨2, ![8, 32]⟩
abbrev S1x32 : Shape := ⟨2, ![1, 32]⟩
abbrev S32x128 : Shape := ⟨2, ![32, 128]⟩
abbrev S8x32x128 : Shape := ⟨3, ![8, 32, 128]⟩
abbrev S8x7168x512 : Shape := ⟨3, ![8, 7168, 512]⟩
abbrev S8 : Shape := ⟨1, ![8]⟩
abbrev S_ : Shape := ⟨0, ![]⟩
abbrev S2 : Shape := ⟨1, ![2]⟩
abbrev S1 : Shape := ⟨1, ![1]⟩
abbrev S1x7168x512 : Shape := ⟨3, ![1, 7168, 512]⟩
abbrev S7168x512 : Shape := ⟨2, ![7168, 512]⟩
abbrev S32 : Shape := ⟨1, ![32]⟩
abbrev S32x1 : Shape := ⟨2, ![32, 1]⟩
abbrev S1x255 : Shape := ⟨2, ![1, 255]⟩
abbrev S32x255 : Shape := ⟨2, ![32, 255]⟩
abbrev S128x32 : Shape := ⟨2, ![128, 32]⟩
abbrev S32x512 : Shape := ⟨2, ![32, 512]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1x32x128 : Shape := ⟨3, ![1, 32, 128]⟩
abbrev S32x8 : Shape := ⟨2, ![32, 8]⟩
abbrev S32x1x8 : Shape := ⟨3, ![32, 1, 8]⟩
abbrev S32x1x1 : Shape := ⟨3, ![32, 1, 1]⟩

abbrev nBuf : Space → Nat
  | .hbm => 16
  | .vmem => 11
  | .smem => 0
  | _ => 0

abbrev bufTy : (tb : Table) → Fin (tcTables nBuf tb) → BufTy
  | .hbm, ⟨0, _⟩ => ⟨S32x1x7168, .bf16⟩
  | .hbm, ⟨1, _⟩ => ⟨S7168x32256, .fp8e4m3⟩
  | .hbm, ⟨2, _⟩ => ⟨S32256, .f32⟩
  | .hbm, ⟨3, _⟩ => ⟨S32256, .f32⟩
  | .hbm, ⟨4, _⟩ => ⟨S32x7168, .bf16⟩
  | .hbm, ⟨5, _⟩ => ⟨S8x32, .f32⟩
  | .hbm, ⟨6, _⟩ => ⟨S8x32, .i32⟩
  | .hbm, ⟨7, _⟩ => ⟨S32x7168, .fp8e4m3⟩
  | .hbm, ⟨8, _⟩ => ⟨S1x32, .f32⟩
  | .hbm, ⟨9, _⟩ => ⟨S32x8, .f32⟩
  | .hbm, ⟨10, _⟩ => ⟨S32x1x8, .f32⟩
  | .hbm, ⟨11, _⟩ => ⟨S32x8, .i32⟩
  | .hbm, ⟨12, _⟩ => ⟨S32x1x8, .i32⟩
  | .hbm, ⟨13, _⟩ => ⟨S32x1x7168, .fp8e4m3⟩
  | .hbm, ⟨14, _⟩ => ⟨S32x1, .f32⟩
  | .hbm, ⟨15, _⟩ => ⟨S32x1x1, .f32⟩
  | .local _ .vmem, ⟨0, _⟩ => ⟨S8x32, .f32⟩
  | .local _ .vmem, ⟨1, _⟩ => ⟨S8x32, .i32⟩
  | .local _ .vmem, ⟨2, _⟩ => ⟨S1x32, .f32⟩
  | .local _ .vmem, ⟨3, _⟩ => ⟨S32x7168, .bf16⟩
  | .local _ .vmem, ⟨4, _⟩ => ⟨S32x7168, .fp8e4m3⟩
  | .local _ .vmem, ⟨5, _⟩ => ⟨S32256, .f32⟩
  | .local _ .vmem, ⟨6, _⟩ => ⟨S32256, .f32⟩
  | .local _ .vmem, ⟨7, _⟩ => ⟨S32x128, .f32⟩
  | .local _ .vmem, ⟨8, _⟩ => ⟨S8x32x128, .f32⟩
  | .local _ .vmem, ⟨9, _⟩ => ⟨S8x32x128, .i32⟩
  | .local _ .vmem, ⟨10, _⟩ => ⟨S8x7168x512, .fp8e4m3⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
@[reducible] def k0_t1_loop : Scf.Loop 32 :=
  let c0_i32_63 : BitVec 32 := 0#32
  let c63_i32 : BitVec 32 := 63#32
  let v121 : BitVec 32 := Scalar.addi c0_i32_63 c63_i32
  let c1_i32_64 : BitVec 32 := 1#32
  ⟨c0_i32_63, v121, c1_i32_64⟩
def k0_mult9 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_153 : BitVec 32 := 512#32
  let v385 : BitVec 32 := Scalar.muli arg20 c512_i32_153
  v385
def k0_off1 (k0_t1 : Fin k0_t1_loop.trips) : Fin 1 → Nat :=
  let c0_i32_63 : BitVec 32 := 0#32
  let c1_i32_64 : BitVec 32 := 1#32
  let arg20 : BitVec 32 := Scf.iv c0_i32_63 c1_i32_64 k0_t1
  let c8_i32 : BitVec 32 := 8#32
  let v384 : BitVec 32 := Scalar.remsi arg20 c8_i32
  ![v384.toNat]
def k0_off2 (k0_t1 : Fin k0_t1_loop.trips) : Fin 3 → Nat :=
  let c0_i32_63 : BitVec 32 := 0#32
  let c1_i32_64 : BitVec 32 := 1#32
  let arg20 : BitVec 32 := Scf.iv c0_i32_63 c1_i32_64 k0_t1
  let c8_i32 : BitVec 32 := 8#32
  let v384 : BitVec 32 := Scalar.remsi arg20 c8_i32
  let c0_i32_154 : BitVec 32 := 0#32
  let c0_i32_155 : BitVec 32 := 0#32
  ![v384.toNat, 0, 0]
def k0_off3 (k0_t1 : Fin k0_t1_loop.trips) : Fin 2 → Nat :=
  let c0_i32_156 : BitVec 32 := 0#32
  let c0_i32_63 : BitVec 32 := 0#32
  let c1_i32_64 : BitVec 32 := 1#32
  let arg20 : BitVec 32 := Scf.iv c0_i32_63 c1_i32_64 k0_t1
  let c512_i32_153 : BitVec 32 := 512#32
  let v385 : BitVec 32 := Scalar.muli arg20 c512_i32_153
  let v386 : BitVec 32 := v385
  ![0, v386.toNat]
def k0_off4 (k0_t1 : Fin k0_t1_loop.trips) : Fin 3 → Nat :=
  let c0_i32_63 : BitVec 32 := 0#32
  let c1_i32_64 : BitVec 32 := 1#32
  let arg20 : BitVec 32 := Scf.iv c0_i32_63 c1_i32_64 k0_t1
  let c8_i32 : BitVec 32 := 8#32
  let v384 : BitVec 32 := Scalar.remsi arg20 c8_i32
  let v393 : Index := Scalar.indexCast v384
  let c0_159 : Index := 0#32
  let c0_160 : Index := 0#32
  ![v393.toNat, 0, 0]
def k0_cond1 (k0_t1 : Fin k0_t1_loop.trips) : BitVec 1 :=
  let c0_i32_63 : BitVec 32 := 0#32
  let c1_i32_64 : BitVec 32 := 1#32
  let arg20 : BitVec 32 := Scf.iv c0_i32_63 c1_i32_64 k0_t1
  let c8_i32_162 : BitVec 32 := 8#32
  let v397 : BitVec 32 := Scalar.addi arg20 c8_i32_162
  let c63_i32_163 : BitVec 32 := 63#32
  let v398 : BitVec 1 := Scalar.cmpi .slt v397 c63_i32_163
  let v399 : BitVec 32 := Scalar.extui v398
  let c0_i32_164 : BitVec 32 := 0#32
  let v400 : BitVec 1 := Scalar.cmpi .ne v399 c0_i32_164
  v400

def k0_mult10 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c8_i32_583 : BitVec 32 := 8#32
  let v1606 : BitVec 32 := Scalar.addi arg20 c8_i32_583
  let c512_i32_584 : BitVec 32 := 512#32
  let v1607 : BitVec 32 := Scalar.muli v1606 c512_i32_584
  v1607
def k0_off5 (k0_t1 : Fin k0_t1_loop.trips) : Fin 1 → Nat :=
  let c0_i32_63 : BitVec 32 := 0#32
  let c1_i32_64 : BitVec 32 := 1#32
  let arg20 : BitVec 32 := Scf.iv c0_i32_63 c1_i32_64 k0_t1
  let c8_i32 : BitVec 32 := 8#32
  let v384 : BitVec 32 := Scalar.remsi arg20 c8_i32
  ![v384.toNat]
def k0_off6 (k0_t1 : Fin k0_t1_loop.trips) : Fin 3 → Nat :=
  let c0_i32_63 : BitVec 32 := 0#32
  let c1_i32_64 : BitVec 32 := 1#32
  let arg20 : BitVec 32 := Scf.iv c0_i32_63 c1_i32_64 k0_t1
  let c8_i32 : BitVec 32 := 8#32
  let v384 : BitVec 32 := Scalar.remsi arg20 c8_i32
  let c0_i32_585 : BitVec 32 := 0#32
  let c0_i32_586 : BitVec 32 := 0#32
  ![v384.toNat, 0, 0]
def k0_off7 (k0_t1 : Fin k0_t1_loop.trips) : Fin 2 → Nat :=
  let c0_i32_587 : BitVec 32 := 0#32
  let c0_i32_63 : BitVec 32 := 0#32
  let c1_i32_64 : BitVec 32 := 1#32
  let arg20 : BitVec 32 := Scf.iv c0_i32_63 c1_i32_64 k0_t1
  let c8_i32_583 : BitVec 32 := 8#32
  let v1606 : BitVec 32 := Scalar.addi arg20 c8_i32_583
  let c512_i32_584 : BitVec 32 := 512#32
  let v1607 : BitVec 32 := Scalar.muli v1606 c512_i32_584
  let v1608 : BitVec 32 := v1607
  ![0, v1608.toNat]
def k0_mult11 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_215 : BitVec 32 := 512#32
  let v435 : BitVec 32 := Scalar.muli arg20 c512_i32_215
  let c0_i32_216 : BitVec 32 := 0#32
  let v436 : BitVec 32 := Scalar.addi v435 c0_i32_216
  v436
def k0_off8 (k0_t1 : Fin k0_t1_loop.trips) (c0_i32_216 : BitVec 32) : Fin 1 → Nat :=
  let c0_i32_63 : BitVec 32 := 0#32
  let c1_i32_64 : BitVec 32 := 1#32
  let arg20 : BitVec 32 := Scf.iv c0_i32_63 c1_i32_64 k0_t1
  let c512_i32_215 : BitVec 32 := 512#32
  let v435 : BitVec 32 := Scalar.muli arg20 c512_i32_215
  let v436 : BitVec 32 := Scalar.addi v435 c0_i32_216
  let v437 : BitVec 32 := v436
  let v438 : Index := Scalar.indexCast v437
  ![v438.toNat]
def k0_mult12 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_217 : BitVec 32 := 512#32
  let v490 : BitVec 32 := Scalar.muli arg20 c512_i32_217
  let c128_i32 : BitVec 32 := 128#32
  let v491 : BitVec 32 := Scalar.addi v490 c128_i32
  v491
def k0_mult13 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_218 : BitVec 32 := 512#32
  let v545 : BitVec 32 := Scalar.muli arg20 c512_i32_218
  let c256_i32 : BitVec 32 := 256#32
  let v546 : BitVec 32 := Scalar.addi v545 c256_i32
  v546
def k0_mult14 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_219 : BitVec 32 := 512#32
  let v600 : BitVec 32 := Scalar.muli arg20 c512_i32_219
  let c384_i32 : BitVec 32 := 384#32
  let v601 : BitVec 32 := Scalar.addi v600 c384_i32
  v601
def k0_mult15 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_317 : BitVec 32 := 512#32
  let v736 : BitVec 32 := Scalar.muli arg20 c512_i32_317
  let c0_i32_318 : BitVec 32 := 0#32
  let v737 : BitVec 32 := Scalar.addi v736 c0_i32_318
  v737
def k0_mult16 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_319 : BitVec 32 := 512#32
  let v791 : BitVec 32 := Scalar.muli arg20 c512_i32_319
  let c128_i32_320 : BitVec 32 := 128#32
  let v792 : BitVec 32 := Scalar.addi v791 c128_i32_320
  v792
def k0_mult17 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_321 : BitVec 32 := 512#32
  let v846 : BitVec 32 := Scalar.muli arg20 c512_i32_321
  let c256_i32_322 : BitVec 32 := 256#32
  let v847 : BitVec 32 := Scalar.addi v846 c256_i32_322
  v847
def k0_mult18 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_323 : BitVec 32 := 512#32
  let v901 : BitVec 32 := Scalar.muli arg20 c512_i32_323
  let c384_i32_324 : BitVec 32 := 384#32
  let v902 : BitVec 32 := Scalar.addi v901 c384_i32_324
  v902
def k0_mult19 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_422 : BitVec 32 := 512#32
  let v1037 : BitVec 32 := Scalar.muli arg20 c512_i32_422
  let c0_i32_423 : BitVec 32 := 0#32
  let v1038 : BitVec 32 := Scalar.addi v1037 c0_i32_423
  v1038
def k0_mult20 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_424 : BitVec 32 := 512#32
  let v1092 : BitVec 32 := Scalar.muli arg20 c512_i32_424
  let c128_i32_425 : BitVec 32 := 128#32
  let v1093 : BitVec 32 := Scalar.addi v1092 c128_i32_425
  v1093
def k0_mult21 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_426 : BitVec 32 := 512#32
  let v1147 : BitVec 32 := Scalar.muli arg20 c512_i32_426
  let c256_i32_427 : BitVec 32 := 256#32
  let v1148 : BitVec 32 := Scalar.addi v1147 c256_i32_427
  v1148
def k0_mult22 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_428 : BitVec 32 := 512#32
  let v1202 : BitVec 32 := Scalar.muli arg20 c512_i32_428
  let c384_i32_429 : BitVec 32 := 384#32
  let v1203 : BitVec 32 := Scalar.addi v1202 c384_i32_429
  v1203
def k0_mult23 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_527 : BitVec 32 := 512#32
  let v1338 : BitVec 32 := Scalar.muli arg20 c512_i32_527
  let c0_i32_528 : BitVec 32 := 0#32
  let v1339 : BitVec 32 := Scalar.addi v1338 c0_i32_528
  v1339
def k0_mult24 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_529 : BitVec 32 := 512#32
  let v1393 : BitVec 32 := Scalar.muli arg20 c512_i32_529
  let c128_i32_530 : BitVec 32 := 128#32
  let v1394 : BitVec 32 := Scalar.addi v1393 c128_i32_530
  v1394
def k0_mult25 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_531 : BitVec 32 := 512#32
  let v1448 : BitVec 32 := Scalar.muli arg20 c512_i32_531
  let c256_i32_532 : BitVec 32 := 256#32
  let v1449 : BitVec 32 := Scalar.addi v1448 c256_i32_532
  v1449
def k0_mult26 (k0_t1 : Fin k0_t1_loop.trips) : BitVec 32 :=
  let c0_i32_63 : BitVec 32 := 0#32
  let c1_i32_64 : BitVec 32 := 1#32
  let arg20 : BitVec 32 := Scf.iv c0_i32_63 c1_i32_64 k0_t1
  let c512_i32_533 : BitVec 32 := 512#32
  let v1503 : BitVec 32 := Scalar.muli arg20 c512_i32_533
  let c384_i32_534 : BitVec 32 := 384#32
  let v1504 : BitVec 32 := Scalar.addi v1503 c384_i32_534
  v1504
abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x1x7168 : Shape := ⟨3, ![32, 1, 7168]⟩
abbrev S7168x32256 : Shape := ⟨2, ![7168, 32256]⟩
abbrev S32256 : Shape := ⟨1, ![32256]⟩
abbrev S32x7168 : Shape := ⟨2, ![32, 7168]⟩
abbrev S1x32256 : Shape := ⟨2, ![1, 32256]⟩
abbrev S32x32256 : Shape := ⟨2, ![32, 32256]⟩
abbrev S32x1 : Shape := ⟨2, ![32, 1]⟩
abbrev S32 : Shape := ⟨1, ![32]⟩
abbrev S1x254 : Shape := ⟨2, ![1, 254]⟩
abbrev S32x254 : Shape := ⟨2, ![32, 254]⟩
abbrev S32x8 : Shape := ⟨2, ![32, 8]⟩
abbrev S_ : Shape := ⟨0, ![]⟩
abbrev S32x1x8 : Shape := ⟨3, ![32, 1, 8]⟩
abbrev S32x1x1 : Shape := ⟨3, ![32, 1, 1]⟩

abbrev nBuf : Space → Nat
  | .hbm => 23
  | .vmem => 7
  | .smem => 0
  | _ => 0

abbrev bufTy : (tb : Table) → Fin (tcTables nBuf tb) → BufTy
  | .hbm, ⟨0, _⟩ => ⟨S32x1x7168, .bf16⟩
  | .hbm, ⟨1, _⟩ => ⟨S7168x32256, .fp8e4m3⟩
  | .hbm, ⟨2, _⟩ => ⟨S32256, .f32⟩
  | .hbm, ⟨3, _⟩ => ⟨S32256, .f32⟩
  | .hbm, ⟨4, _⟩ => ⟨S32x7168, .bf16⟩
  | .hbm, ⟨5, _⟩ => ⟨S1x32256, .f32⟩
  | .hbm, ⟨6, _⟩ => ⟨S1x32256, .f32⟩
  | .hbm, ⟨7, _⟩ => ⟨S32x32256, .f32⟩
  | .hbm, ⟨8, _⟩ => ⟨S32x7168, .fp8e4m3⟩
  | .hbm, ⟨9, _⟩ => ⟨S32x1, .f32⟩
  | .hbm, ⟨10, _⟩ => ⟨S32x8, .f32⟩
  | .hbm, ⟨11, _⟩ => ⟨S32x8, .i32⟩
  | .hbm, ⟨12, _⟩ => ⟨S_, .f32⟩
  | .hbm, ⟨13, _⟩ => ⟨S32x8, .f32⟩
  | .hbm, ⟨14, _⟩ => ⟨S32x8, .i1⟩
  | .hbm, ⟨15, _⟩ => ⟨S_, .i32⟩
  | .hbm, ⟨16, _⟩ => ⟨S_, .i32⟩
  | .hbm, ⟨17, _⟩ => ⟨S32x8, .i32⟩
  | .hbm, ⟨18, _⟩ => ⟨S32x8, .i32⟩
  | .hbm, ⟨19, _⟩ => ⟨S32x1x8, .f32⟩
  | .hbm, ⟨20, _⟩ => ⟨S32x1x8, .i32⟩
  | .hbm, ⟨21, _⟩ => ⟨S32x1x7168, .fp8e4m3⟩
  | .hbm, ⟨22, _⟩ => ⟨S32x1x1, .f32⟩
  | .local _ .vmem, ⟨0, _⟩ => ⟨S32x7168, .bf16⟩
  | .local _ .vmem, ⟨1, _⟩ => ⟨S7168x32256, .fp8e4m3⟩
  | .local _ .vmem, ⟨2, _⟩ => ⟨S1x32256, .f32⟩
  | .local _ .vmem, ⟨3, _⟩ => ⟨S1x32256, .f32⟩
  | .local _ .vmem, ⟨4, _⟩ => ⟨S32x32256, .f32⟩
  | .local _ .vmem, ⟨5, _⟩ => ⟨S32x7168, .fp8e4m3⟩
  | .local _ .vmem, ⟨6, _⟩ => ⟨S32x1, .f32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_values : Ref sig .tc := ⟨.hbm, 10, rfl⟩
abbrev main_indices : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x32256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BNames.lean ====
/-
  Names for the pieces of the kernel's ring: block `b` of the weights (512 columns), slot `s` of the ring, slot `s`'s
  semaphore, and the equations by which the body's slices are these.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
/-- Equal assertions entail one another. -/
theorem entails_of_eq {P Q : sProp 𝕄} (e : P = Q) : P ⊢ Q := e ▸ .rfl

/-! ## Blocks, slots, semaphores -/

abbrev wM : Memref sig .tc .hbm S7168x32256 .fp8e4m3 := Memref.whole main_arg1
abbrev ringM : Memref sig .tc .vmem S8x7168x512 .fp8e4m3 := Memref.whole cc0_scratch7

abbrev blkOff (b : Fin 63) : Fin 2 → Nat := ![0, 512 * b.val]
/-- A block lies within the weights. -/
theorem blkOff_inb (b : Fin 63) : ∀ a, blkOff b a + S7168x512.size a ≤ S7168x32256.size a := by
  have := b.isLt; intro a; fin_cases a
  · show 0 + 7168 ≤ 7168; omega
  · show 512 * b.val + 512 ≤ 32256; omega
abbrev slotOff (s : Fin 8) : Fin 3 → Nat := ![s.val, 0, 0]
/-- A slot lies within the ring. -/
theorem slotOff_inb (s : Fin 8) : ∀ a, slotOff s a + S1x7168x512.size a ≤ S8x7168x512.size a := by
  have := s.isLt; intro a; fin_cases a
  · show s.val + 1 ≤ 8; omega
  · show 0 + 7168 ≤ 7168; omega
  · show 0 + 512 ≤ 512; omega
abbrev semOff (s : Fin 8) : Fin 1 → Nat := ![s.val]
/-- A cell lies within the eight cells. -/
theorem semOff_inb (s : Fin 8) : ∀ a, semOff s a + S1.size a ≤ S8.size a := by
  have := s.isLt; intro a; fin_cases a; show s.val + 1 ≤ 8; omega

/-- Block `b` of the weights: 512 columns, as the body slices them. -/
def blk (b : Fin 63) : Memref sig .tc .hbm S7168x512 .fp8e4m3 :=
  wM.slice (Rect.unit (s := S7168x32256) (blkOff b) S7168x512.size (blkOff_inb b)) (fun _ => rfl)
/-- Slot `s` of the ring, as the body slices and squeezes it. -/
def rslot (s : Fin 8) : Memref sig .tc .vmem S7168x512 .fp8e4m3 :=
  (ringM.slice (Rect.unit (s := S8x7168x512) (slotOff s) S1x7168x512.size (slotOff_inb s)) (fun _ => rfl)).squeeze S7168x512 squeezes_S1x7168x512_S7168x512
/-- Slot `s`'s DMA semaphore. -/
def csm (s : Fin 8) : DmaSems sig S_ := (cc0_scratch8.slice (Rect.unit (s := S8) (semOff s) S1.size (semOff_inb s))).squeeze S_ squeezes_S1_S_

instance (s : Fin 8) : ClosedOff (slotOff s) := ⟨slotOff s, rfl⟩
instance (b : Fin 63) : ClosedOff (blkOff b) := ⟨blkOff b, rfl⟩

/-- The loop makes 63 trips. -/
theorem trips_eq : k0_t1_loop.trips = 63 := by decide +kernel

/-- The cell awaited is the trip's. -/
theorem off1_eq (k : Fin k0_t1_loop.trips) : k0_off1 k = semOff (Ring.sl 8 k.val) := (k0_off1_eq k).trans rfl
/-- The slot awaited is the trip's. -/
theorem off2_eq (k : Fin k0_t1_loop.trips) : k0_off2 k = slotOff (Ring.sl 8 k.val) := (k0_off2_eq k).trans rfl
/-- The cell of the new transfer is the trip's. -/
theorem off5_eq (k : Fin k0_t1_loop.trips) : k0_off5 k = semOff (Ring.sl 8 k.val) := (k0_off5_eq k).trans rfl
/-- The slot of the new transfer is the trip's. -/
theorem off6_eq (k : Fin k0_t1_loop.trips) : k0_off6 k = slotOff (Ring.sl 8 k.val) := (k0_off6_eq k).trans rfl
/-- The slot read is the trip's. -/
theorem off4_eq (k : Fin k0_t1_loop.trips) : k0_off4 k = slotOff (Ring.sl 8 k.val) := (k0_off4_eq k).trans rfl
instance (k : Fin k0_t1_loop.trips) : ClosedOff (k0_off4 k) := ⟨slotOff (Ring.sl 8 k.val), off4_eq k⟩
instance (k : Fin k0_t1_loop.trips) : ClosedOff (k0_off2 k) := ⟨slotOff (Ring.sl 8 k.val), off2_eq k⟩
/-- The block awaited is the trip's. -/
theorem off3_eq (k : Fin k0_t1_loop.trips) : k0_off3 k = blkOff (Ring.bk 63 k.val) := by
  rw [k0_off3_eq]; unfold blkOff; rw [Ring.bk_val (Nat.lt_of_lt_of_eq k.isLt trips_eq)]
/-- The block of the new transfer is the eighth after the trip's. -/
theorem off7_eq (k : Fin k0_t1_loop.trips) (hk : k.val + 8 < 63) : k0_off7 k = blkOff (Ring.bk 63 (k.val + 8)) := by
  rw [k0_off7_eq]; unfold blkOff; rw [Ring.bk_val hk, Nat.mul_add]

/-- The guard of the re-issue: a block eight further on exists. -/
theorem cond1_iff : ∀ k : Fin k0_t1_loop.trips, k0_cond1 k = 1#1 ↔ k.val + 8 < 63 := by decide +kernel

/-! ### The body's slices are `csm`, `rslot`, `blk` -/

/-- Equal offsets name one cell. -/
theorem csm_congr {off : Fin 1 → Nat} {s : Fin 8} (e : off = semOff s) (hh) :
    (cc0_scratch8.slice (Rect.unit (s := S8) off S1.size hh)).squeeze S_ squeezes_S1_S_ = csm s :=
  congrArg (fun A : DmaSems sig S1 => A.squeeze S_ squeezes_S1_S_) (SemArray.slice_unit_congr _ e _ _)
/-- Equal offsets name one slot. -/
theorem rslot_congr {off : Fin 3 → Nat} {s : Fin 8} (e : off = slotOff s) (hh hs) :
    (ringM.slice (Rect.unit (s := S8x7168x512) off S1x7168x512.size hh) hs).squeeze S7168x512 squeezes_S1x7168x512_S7168x512 = rslot s :=
  congrArg (fun M : Memref sig .tc .vmem S1x7168x512 .fp8e4m3 => M.squeeze S7168x512 squeezes_S1x7168x512_S7168x512) (Memref.slice_unit_congr _ e _ _ _ _)
/-- Equal offsets name one block. -/
theorem blk_congr {off : Fin 2 → Nat} {b : Fin 63} (e : off = blkOff b) (hh hs) :
    wM.slice (Rect.unit (s := S7168x32256) off S7168x512.size hh) hs = blk b :=
  Memref.slice_unit_congr _ e _ _ _ (fun _ => rfl)

/-! The eight transfers issued before the loop, and the drains at literal positions. -/

/-- Cell 0, by name. -/
@[sl_canon] theorem semL0 (hh) : (cc0_scratch8.slice (Rect.unit (s := S8) ![0] S1.size hh)).squeeze S_ squeezes_S1_S_ = csm 0 := csm_congr (by decide) _
/-- Slot 0, by name. -/
@[sl_canon] theorem slotL0 (hh hs) : (ringM.slice (Rect.unit (s := S8x7168x512) ![0, 0, 0] S1x7168x512.size hh) hs).squeeze S7168x512 squeezes_S1x7168x512_S7168x512 = rslot 0 := rslot_congr (by decide) _ _
/-- Block 0, by name. -/
@[sl_canon] theorem blkL0 (hh hs) : wM.slice (Rect.unit (s := S7168x32256) ![0, 0] S7168x512.size hh) hs = blk 0 := blk_congr (by decide) _ _
/-- Cell 1, by name. -/
@[sl_canon] theorem semL1 (hh) : (cc0_scratch8.slice (Rect.unit (s := S8) ![1] S1.size hh)).squeeze S_ squeezes_S1_S_ = csm 1 := csm_congr (by decide) _
/-- Slot 1, by name. -/
@[sl_canon] theorem slotL1 (hh hs) : (ringM.slice (Rect.unit (s := S8x7168x512) ![1, 0, 0] S1x7168x512.size hh) hs).squeeze S7168x512 squeezes_S1x7168x512_S7168x512 = rslot 1 := rslot_congr (by decide) _ _
/-- Block 1, by name. -/
@[sl_canon] theorem blkL1 (hh hs) : wM.slice (Rect.unit (s := S7168x32256) ![0, 512] S7168x512.size hh) hs = blk 1 := blk_congr (by decide) _ _
/-- Cell 2, by name. -/
@[sl_canon] theorem semL2 (hh) : (cc0_scratch8.slice (Rect.unit (s := S8) ![2] S1.size hh)).squeeze S_ squeezes_S1_S_ = csm 2 := csm_congr (by decide) _
/-- Slot 2, by name. -/
@[sl_canon] theorem slotL2 (hh hs) : (ringM.slice (Rect.unit (s := S8x7168x512) ![2, 0, 0] S1x7168x512.size hh) hs).squeeze S7168x512 squeezes_S1x7168x512_S7168x512 = rslot 2 := rslot_congr (by decide) _ _
/-- Block 2, by name. -/
@[sl_canon] theorem blkL2 (hh hs) : wM.slice (Rect.unit (s := S7168x32256) ![0, 1024] S7168x512.size hh) hs = blk 2 := blk_congr (by decide) _ _
/-- Cell 3, by name. -/
@[sl_canon] theorem semL3 (hh) : (cc0_scratch8.slice (Rect.unit (s := S8) ![3] S1.size hh)).squeeze S_ squeezes_S1_S_ = csm 3 := csm_congr (by decide) _
/-- Slot 3, by name. -/
@[sl_canon] theorem slotL3 (hh hs) : (ringM.slice (Rect.unit (s := S8x7168x512) ![3, 0, 0] S1x7168x512.size hh) hs).squeeze S7168x512 squeezes_S1x7168x512_S7168x512 = rslot 3 := rslot_congr (by decide) _ _
/-- Block 3, by name. -/
@[sl_canon] theorem blkL3 (hh hs) : wM.slice (Rect.unit (s := S7168x32256) ![0, 1536] S7168x512.size hh) hs = blk 3 := blk_congr (by decide) _ _
/-- Cell 4, by name. -/
@[sl_canon] theorem semL4 (hh) : (cc0_scratch8.slice (Rect.unit (s := S8) ![4] S1.size hh)).squeeze S_ squeezes_S1_S_ = csm 4 := csm_congr (by decide) _
/-- Slot 4, by name. -/
@[sl_canon] theorem slotL4 (hh hs) : (ringM.slice (Rect.unit (s := S8x7168x512) ![4, 0, 0] S1x7168x512.size hh) hs).squeeze S7168x512 squeezes_S1x7168x512_S7168x512 = rslot 4 := rslot_congr (by decide) _ _
/-- Block 4, by name. -/
@[sl_canon] theorem blkL4 (hh hs) : wM.slice (Rect.unit (s := S7168x32256) ![0, 2048] S7168x512.size hh) hs = blk 4 := blk_congr (by decide) _ _
/-- Cell 5, by name. -/
@[sl_canon] theorem semL5 (hh) : (cc0_scratch8.slice (Rect.unit (s := S8) ![5] S1.size hh)).squeeze S_ squeezes_S1_S_ = csm 5 := csm_congr (by decide) _
/-- Slot 5, by name. -/
@[sl_canon] theorem slotL5 (hh hs) : (ringM.slice (Rect.unit (s := S8x7168x512) ![5, 0, 0] S1x7168x512.size hh) hs).squeeze S7168x512 squeezes_S1x7168x512_S7168x512 = rslot 5 := rslot_congr (by decide) _ _
/-- Block 5, by name. -/
@[sl_canon] theorem blkL5 (hh hs) : wM.slice (Rect.unit (s := S7168x32256) ![0, 2560] S7168x512.size hh) hs = blk 5 := blk_congr (by decide) _ _
/-- Cell 6, by name. -/
@[sl_canon] theorem semL6 (hh) : (cc0_scratch8.slice (Rect.unit (s := S8) ![6] S1.size hh)).squeeze S_ squeezes_S1_S_ = csm 6 := csm_congr (by decide) _
/-- Slot 6, by name. -/
@[sl_canon] theorem slotL6 (hh hs) : (ringM.slice (Rect.unit (s := S8x7168x512) ![6, 0, 0] S1x7168x512.size hh) hs).squeeze S7168x512 squeezes_S1x7168x512_S7168x512 = rslot 6 := rslot_congr (by decide) _ _
/-- Block 6, by name. -/
@[sl_canon] theorem blkL6 (hh hs) : wM.slice (Rect.unit (s := S7168x32256) ![0, 3072] S7168x512.size hh) hs = blk 6 := blk_congr (by decide) _ _
/-- Cell 7, by name. -/
@[sl_canon] theorem semL7 (hh) : (cc0_scratch8.slice (Rect.unit (s := S8) ![7] S1.size hh)).squeeze S_ squeezes_S1_S_ = csm 7 := csm_congr (by decide) _
/-- Slot 7, by name. -/
@[sl_canon] theorem slotL7 (hh hs) : (ringM.slice (Rect.unit (s := S8x7168x512) ![7, 0, 0] S1x7168x512.size hh) hs).squeeze S7168x512 squeezes_S1x7168x512_S7168x512 = rslot 7 := rslot_congr (by decide) _ _
/-- Block 7, by name. -/
@[sl_canon] theorem blkL7 (hh hs) : wM.slice (Rect.unit (s := S7168x32256) ![0, 3584] S7168x512.size hh) hs = blk 7 := blk_congr (by decide) _ _

/-! Trip `k`: semaphore and slot `k % 8`, block `k` waited, block `k + 8` issued. -/

/-- The cell awaited in a trip, by name. -/
@[sl_canon] theorem semK (k : Fin k0_t1_loop.trips) (hh) :
    (cc0_scratch8.slice (Rect.unit (s := S8) (k0_off1 k) S1.size hh)).squeeze S_ squeezes_S1_S_ = csm (Ring.sl 8 k.val) := csm_congr (off1_eq k) _
/-- The slot awaited in a trip, by name. -/
@[sl_canon] theorem slotK (k : Fin k0_t1_loop.trips) (hh hs) :
    (ringM.slice (Rect.unit (s := S8x7168x512) (k0_off2 k) S1x7168x512.size hh) hs).squeeze S7168x512 squeezes_S1x7168x512_S7168x512 = rslot (Ring.sl 8 k.val) := rslot_congr (off2_eq k) _ _
/-- The block awaited in a trip, by name. -/
@[sl_canon] theorem blkW (k : Fin k0_t1_loop.trips) (hh hs) :
    wM.slice (Rect.unit (s := S7168x32256) (k0_off3 k) S7168x512.size hh) hs = blk (Ring.bk 63 k.val) := blk_congr (off3_eq k) _ _
/-- The cell of a trip's new transfer, by name. -/
@[sl_canon] theorem semI (k : Fin k0_t1_loop.trips) (hh) :
    (cc0_scratch8.slice (Rect.unit (s := S8) (k0_off5 k) S1.size hh)).squeeze S_ squeezes_S1_S_ = csm (Ring.sl 8 k.val) := csm_congr (off5_eq k) _
/-- The slot of a trip's new transfer, by name. -/
@[sl_canon] theorem slotI (k : Fin k0_t1_loop.trips) (hh hs) :
    (ringM.slice (Rect.unit (s := S8x7168x512) (k0_off6 k) S1x7168x512.size hh) hs).squeeze S7168x512 squeezes_S1x7168x512_S7168x512 = rslot (Ring.sl 8 k.val) := rslot_congr (off6_eq k) _ _
/-- The block of a trip's new transfer, by name. -/
@[sl_canon] theorem blkI (k : Fin k0_t1_loop.trips) (hk : k.val + 8 < 63) (hh hs) :
    wM.slice (Rect.unit (s := S7168x32256) (k0_off7 k) S7168x512.size hh) hs = blk (Ring.bk 63 (k.val + 8)) := blk_congr (off7_eq k hk) _ _

/-! ## The pieces: a block home, a slot held, a slot's cell, a slot in flight -/

section Pieces
variable (c : Dev nD) (XW : Buf (Elt F) (wM.view.loc (c : Thread nD τ)))

abbrev cellP (s : Fin 8) : sProp 𝕄 := semVal ((c : Thread nD τ), SemLoc.dma (csm s).sem) 0
abbrev slotP (s : Fin 8) (f : Buf (Elt F) ((rslot s).view.loc (c : Thread nD τ))) : sProp 𝕄 :=
  (rslot s).view.loc (c : Thread nD τ) ↦[(rslot s).view.set]{fullShare} f
/-- Block `b` HOME: held on its elements at the weights' contents. -/
abbrev homeP (b : Fin 63) : sProp 𝕄 := (blk b).view.loc (c : Thread nD τ) ↦[(blk b).view.set]{fullShare} XW
/-- Block `b`'s words as a slot's payload. -/
abbrev payload (b : Fin 63) : S7168x512.Idx → Elt F .fp8e4m3 := ReadAs.same.apply ((blk b).view.read (Elt F) XW)
/-- What block `b`'s transfer leaves in slot `s` over prior contents `f`. -/
abbrev landed (s : Fin 8) (b : Fin 63) (f : Buf (Elt F) ((rslot s).view.loc (c : Thread nD τ))) : Buf (Elt F) ((rslot s).view.loc (c : Thread nD τ)) :=
  (rslot s).view.writes (Elt F) f [⟨Rect.whole S7168x512, payload c XW b⟩]
/-- A block's transfer moves this many units on its cell. -/
abbrev NN : ℕ := 114688
/-- Slot `s` IN FLIGHT with block `b`, issued over `f`. -/
abbrev flightP (s : Fin 8) (b : Fin 63) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)

/-- The flight the trip issues, as the executor states it: into the slot as the previous block's flight delivered it. -/
theorem flightP_after (s : Fin 8) (b b' : Fin 63) :
    flightP c XW s b' ((rslot s).view.writes (Elt F) (rslot s).view.junk [⟨Rect.whole S7168x512, payload c XW b⟩])
      = Transfers.Flight countersEmb (c : Thread nD τ) (SemLoc.dma (csm s).sem) () 114688
          iprop(((rslot s).view.loc (c : Thread nD τ) ↦[(rslot s).view.set]{fullShare}
                  (rslot s).view.writes (Elt F) (rslot s).view.junk [⟨Rect.whole S7168x512, payload c XW b'⟩, ⟨Rect.whole S7168x512, payload c XW b⟩])
                ∗ homeP c XW b') := by
  simp only [flightP, landed, slotP, NN, View.writes]

/-- What the loop holds for the `n`-th use of the ring: that block in flight in its slot, or, past the last block, the
    slot and its cell free. -/
def useP (n : ℕ) : sProp 𝕄 :=
  if n < 63 then iprop(∃ f, flightP c XW (Ring.sl 8 n) (Ring.bk 63 n) f)
  else iprop(cellP c (Ring.sl 8 n) ∗ ∃ f, slotP c (Ring.sl 8 n) f)
/-- While blocks remain, the transfer's slot is in flight. -/
theorem useP_lt {n : ℕ} (h : n < 63) : useP c XW n = iprop(∃ f, flightP c XW (Ring.sl 8 n) (Ring.bk 63 n) f) := if_pos h
/-- When no block remains, the slot and its cell are free. -/
theorem useP_ge {n : ℕ} (h : 63 ≤ n) : useP c XW n = iprop(cellP c (Ring.sl 8 n) ∗ ∃ f, slotP c (Ring.sl 8 n) f) := if_neg (by omega)

/-- Trip `k`'s homes: block `k + 8` (about to go out) beside the rest. -/
theorem homes_here (k : ℕ) (hk : k + 8 < 63) :
    bigSep (Ring.homeSet 8 k) (homeP c XW) = iprop(homeP c XW (Ring.bk 63 (k + 8)) ∗ bigSep ((Ring.homeSet 8 k).erase (Ring.bk 63 (k + 8))) (homeP c XW)) := by
  conv_lhs => rw [Ring.homeSet_out 8 k hk, bigSep_insert (Ring.bkL_not_mem_erase 8 k)]
  rfl
/-- Trip `k + 1`'s homes: block `k` (just back) beside that rest. -/
theorem homes_next (k : ℕ) (hk : k + 8 < 63) :
    bigSep (Ring.homeSet 8 (k + 1)) (homeP c XW) = iprop(homeP c XW (Ring.bk 63 k) ∗ bigSep ((Ring.homeSet 8 k).erase (Ring.bk 63 (k + 8))) (homeP c XW)) := by
  conv_lhs => rw [Ring.homeSet_succ 8 k hk, bigSep_insert (Ring.bk_not_mem_erase 8 k (by omega) (by decide))]
  rfl
/-- The same once no block goes out. -/
theorem homes_tail (k : ℕ) (hk : 63 ≤ k + 8) (h : k < 63) :
    bigSep (Ring.homeSet 8 (k + 1)) (homeP c XW) = iprop(homeP c XW (Ring.bk 63 k) ∗ bigSep (Ring.homeSet 8 k) (homeP c XW)) := by
  conv_lhs => rw [Ring.homeSet_succ_tail 8 k hk h, bigSep_insert (Ring.bk_not_mem_homeSet 8 k h (by decide))]
  rfl

end Pieces

end Cert.Proof.KBits
-- ==== Proof.BTrip.lean ====
/-
  One trip of the kernel's loop over the column blocks, at a symbolic trip: the block awaited, multiplied, the slot
  re-used for the block eight further on (if there is one), and the running top lists updated.
-/
module

public import proofs.«01_k».proof.Proof.BNames

@[expose] public section

noncomputable section

namespace Cert.Proof.KBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (q : PosShare TreeShare) (XW : Buf (Elt F) (wM.view.loc (c : Thread nD τ)))
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec F S32x7168 .f32) (v87 : IVec S32x1 32) (v92 : FVec F S32x1 .f32) (v93 : IVec S32x1 32)

/-- The scratch buffers of the trip: codes, weight scales, bias, row scales, the top values and the top indices. -/
abbrev cdM : Memref sig .tc .vmem S32x7168 .fp8e4m3 := Memref.whole cc0_scratch1
abbrev wsM : Memref sig .tc .vmem S32256 .f32 := Memref.whole cc0_scratch2
abbrev bsM : Memref sig .tc .vmem S32256 .f32 := Memref.whole cc0_scratch3
abbrev scM : Memref sig .tc .vmem S32x128 .f32 := Memref.whole cc0_scratch4
abbrev vlM : Memref sig .tc .vmem S8x32x128 .f32 := Memref.whole cc0_scratch5
abbrev ixM : Memref sig .tc .vmem S8x32x128 .i32 := Memref.whole cc0_scratch6

variable (gc : Buf (Elt F) (cdM.view.loc (c : Thread nD τ))) (gw : Buf (Elt F) (wsM.view.loc (c : Thread nD τ)))
  (gb : Buf (Elt F) (bsM.view.loc (c : Thread nD τ))) (gs : Buf (Elt F) (scM.view.loc (c : Thread nD τ)))

/-- The buffers the trip only reads. -/
abbrev readP : sProp 𝕄 :=
  iprop((cdM.view.loc (c : Thread nD τ) ↦{q} gc) ∗ (wsM.view.loc (c : Thread nD τ) ↦{fullShare} gw)
    ∗ (bsM.view.loc (c : Thread nD τ) ↦{fullShare} gb) ∗ (scM.view.loc (c : Thread nD τ) ↦{fullShare} gs))

abbrev VlBuf : Type := Buf (Elt F) (vlM.view.loc (c : Thread nD τ))
abbrev IxBuf : Type := Buf (Elt F) (ixM.view.loc (c : Thread nD τ))

abbrev topP (fv : VlBuf (F := F) c) (fi : IxBuf (F := F) c) : sProp 𝕄 :=
  iprop((vlM.view.loc (c : Thread nD τ) ↦{fullShare} fv) ∗ (ixM.view.loc (c : Thread nD τ) ↦{fullShare} fi))

/-- What the trip holds of the ring before it: eight uses, the blocks at home. -/
def ringP (k : ℕ) : sProp 𝕄 :=
  iprop(bigSep (Ring.homeSet 8 k) (homeP c XW) ∗ useP c XW k ∗ useP c XW (k + 1) ∗ useP c XW (k + 2) ∗ useP c XW (k + 3)
    ∗ useP c XW (k + 4) ∗ useP c XW (k + 5) ∗ useP c XW (k + 6) ∗ useP c XW (k + 7))

def resAt (k : ℕ) (fv : VlBuf (F := F) c) (fi : IxBuf (F := F) c) : sProp 𝕄 :=
  iprop(topP c fv fi ∗ readP c q gc gw gb gs ∗ (∃ W, owes (c : Thread nD τ) 0 W) ∗ ringP c XW k)

abbrev tripG (k : Fin k0_t1_loop.trips) : Prog (TpuEff nD τ sig (Elt F) Λ₀ .tc) Unit :=
  k0_t1_body (F := F) arg0 harg0 wM (Memref.isWhole_whole _) arg2 harg2 arg3 harg3 arg4 harg4 arg5 harg5 arg6 harg6 arg7 harg7 arg8 harg8
    cdM (Memref.isWhole_whole _) wsM (Memref.isWhole_whole _) bsM (Memref.isWhole_whole _) scM (Memref.isWhole_whole _)
    vlM (Memref.isWhole_whole _) ixM (Memref.isWhole_whole _) ringM (Memref.isWhole_whole _) cc0_scratch8 arg17 arg18 arg19 v61 v87 v92 v93 k ()

omit [FloatOps F] in
/-- Eight trips on, the slot is the same. -/
theorem sl8_add (k : ℕ) : Ring.sl 8 (k + 1 + 7) = Ring.sl 8 k := by rw [show k + 1 + 7 = k + 8 from rfl, Ring.sl_add]
omit [FloatOps F] in
/-- The block issued is the eighth after the trip's. -/
theorem bk63_add (k : ℕ) : Ring.bk 63 (k + 1 + 7) = Ring.bk 63 (k + 8) := rfl

set_option backward.proofsInPublic true in
/-- ONE TRIP, the pieces it stores to be found: with a block eight further on (the slot goes out again), and without
    (the slot stays free). Both store the same pieces. -/
def tripRun (k : Fin k0_t1_loop.trips) (fv : VlBuf (F := F) c) (fi : IxBuf (F := F) c) :
    Σ' (L : List (View.Piece (Elt F) S8x32x128 .f32)), { L' : List (View.Piece (Elt F) S8x32x128 .i32) //
      (k.val + 8 < 63 → resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (vlM.view.writes (Elt F) fv L) (ixM.view.writes (Elt F) fi L')))
      ∧ (¬ k.val + 8 < 63 → resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (vlM.view.writes (Elt F) fv L) (ixM.view.writes (Elt F) fi L'))) } := by
  refine ⟨?_, ?_, fun hk => ?run, fun hk => ?tail⟩
  case run =>
    have hc : k0_cond1 k = 1#1 := (cond1_iff k).2 hk
    have hk63 : k.val < 63 := by omega
    unfold resAt ringP
    rw [homes_here c XW k.val hk, homes_next c XW k.val hk, useP_lt c XW hk63, useP_lt c XW (n := k.val + 1 + 7) (by omega), sl8_add, bk63_add]
    iintro ⟨⟨HV, HI⟩, ⟨Hc, Hw, Hb, Hs⟩, ⟨%W, HW⟩, ⟨Hg, Hrest⟩, ⟨%f0, HF0⟩, HU1, HU2, HU3, HU4, HU5, HU6, HU7⟩
    sl_unfold [tripG, k0_t1_body]
    sl_exec
    sl_step
    isplitl [HV HI]
    · isplitl [HV]; · iexact HV
      iexact HI
    isplitl [Hc Hw Hb Hs]
    · isplitl [Hc]; · iexact Hc
      isplitl [Hw]; · iexact Hw
      isplitl [Hb]; · iexact Hb
      iexact Hs
    isplitl [HW]; · iexists _; iexact HW
    isplitl [HF0_src Hrest]
    · isplitl [HF0_src]; · iexact HF0_src
      iexact Hrest
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    iexists ((rslot (Ring.sl 8 k.val)).view.writes (Elt F) (rslot (Ring.sl 8 k.val)).view.junk [⟨Rect.whole S7168x512, payload c XW (Ring.bk 63 k.val)⟩])
    irw [flightP_after]
    iexact HF0
  case tail =>
    have hc : ¬ k0_cond1 k = 1#1 := fun h => hk ((cond1_iff k).1 h)
    have hk63 : k.val < 63 := Nat.lt_of_lt_of_eq k.isLt trips_eq
    unfold resAt ringP
    rw [homes_tail c XW k.val (by omega) hk63, useP_lt c XW hk63, useP_ge c XW (n := k.val + 1 + 7) (by omega), sl8_add]
    iintro ⟨⟨HV, HI⟩, ⟨Hc, Hw, Hb, Hs⟩, ⟨%W, HW⟩, Hrest, ⟨%f0, HF0⟩, HU1, HU2, HU3, HU4, HU5, HU6, HU7⟩
    sl_unfold [tripG, k0_t1_body]
    sl_exec
    sl_step
    isplitl [HV HI]
    · isplitl [HV]; · iexact HV
      iexact HI
    isplitl [Hc Hw Hb Hs]
    · isplitl [Hc]; · iexact Hc
      isplitl [Hw]; · iexact Hw
      isplitl [Hb]; · iexact Hb
      iexact Hs
    isplitl [HW]; · iexists _; iexact HW
    isplitl [HF0_src Hrest]
    · isplitl [HF0_src]; · iexact HF0_src
      iexact Hrest
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    isplitl [HF0]; · iexact HF0
    iexists _; iexact HF0_dst

/-- The lists after a trip, from the lists before it. -/
@[irreducible] def tripVl (k : Fin k0_t1_loop.trips) (fv : VlBuf (F := F) c) (fi : IxBuf (F := F) c) : VlBuf (F := F) c :=
  vlM.view.writes (Elt F) fv (tripRun c q XW arg0 harg0 arg2 harg2 arg3 harg3 arg4 harg4 arg5 harg5 arg6 harg6 arg7 harg7 arg8 harg8 arg17 arg18 arg19 v61 v87 v92 v93 gc gw gb gs k fv fi).1
@[irreducible] def tripIx (k : Fin k0_t1_loop.trips) (fv : VlBuf (F := F) c) (fi : IxBuf (F := F) c) : IxBuf (F := F) c :=
  ixM.view.writes (Elt F) fi (tripRun c q XW arg0 harg0 arg2 harg2 arg3 harg3 arg4 harg4 arg5 harg5 arg6 harg6 arg7 harg7 arg8 harg8 arg17 arg18 arg19 v61 v87 v92 v93 gc gw gb gs k fv fi).2.1

/-- One trip, at any position: the lists `fv`, `fi` become `tripVl`, `tripIx`. -/
theorem tripStep (k : Fin k0_t1_loop.trips) (fv : VlBuf (F := F) c) (fi : IxBuf (F := F) c) :
    resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (tripVl c q XW arg0 harg0 arg2 harg2 arg3 harg3 arg4 harg4 arg5 harg5 arg6 harg6 arg7 harg7 arg8 harg8 arg17 arg18 arg19 v61 v87 v92 v93 gc gw gb gs k fv fi) (tripIx c q XW arg0 harg0 arg2 harg2 arg3 harg3 arg4 harg4 arg5 harg5 arg6 harg6 arg7 harg7 arg8 harg8 arg17 arg18 arg19 v61 v87 v92 v93 gc gw gb gs k fv fi)) := by
  unfold tripVl tripIx
  by_cases hk : k.val + 8 < 63
  · exact (tripRun c q XW arg0 harg0 arg2 harg2 arg3 harg3 arg4 harg4 arg5 harg5 arg6 harg6 arg7 harg7 arg8 harg8 arg17 arg18 arg19 v61 v87 v92 v93 gc gw gb gs k fv fi).2.2.1 hk
  · exact (tripRun c q XW arg0 harg0 arg2 harg2 arg3 harg3 arg4 harg4 arg5 harg5 arg6 harg6 arg7 harg7 arg8 harg8 arg17 arg18 arg19 v61 v87 v92 v93 gc gw gb gs k fv fi).2.2.2 hk

/-- One trip on the pair of lists (past the last trip: nothing). -/
@[irreducible] def topStep (k : ℕ) (p : VlBuf (F := F) c × IxBuf (F := F) c) : VlBuf (F := F) c × IxBuf (F := F) c :=
  if h : k < k0_t1_loop.trips then (tripVl c q XW arg0 harg0 arg2 harg2 arg3 harg3 arg4 harg4 arg5 harg5 arg6 harg6 arg7 harg7 arg8 harg8 arg17 arg18 arg19 v61 v87 v92 v93 gc gw gb gs ⟨k, h⟩ p.1 p.2, tripIx c q XW arg0 harg0 arg2 harg2 arg3 harg3 arg4 harg4 arg5 harg5 arg6 harg6 arg7 harg7 arg8 harg8 arg17 arg18 arg19 v61 v87 v92 v93 gc gw gb gs ⟨k, h⟩ p.1 p.2) else p

/-- One trip's lists, by the trip's insertions. -/
theorem topStep_eq (k : Fin k0_t1_loop.trips) (p : VlBuf (F := F) c × IxBuf (F := F) c) :
    topStep c q XW arg0 harg0 arg2 harg2 arg3 harg3 arg4 harg4 arg5 harg5 arg6 harg6 arg7 harg7 arg8 harg8 arg17 arg18 arg19 v61 v87 v92 v93 gc gw gb gs k.val p = (tripVl c q XW arg0 harg0 arg2 harg2 arg3 harg3 arg4 harg4 arg5 harg5 arg6 harg6 arg7 harg7 arg8 harg8 arg17 arg18 arg19 v61 v87 v92 v93 gc gw gb gs k p.1 p.2, tripIx c q XW arg0 harg0 arg2 harg2 arg3 harg3 arg4 harg4 arg5 harg5 arg6 harg6 arg7 harg7 arg8 harg8 arg17 arg18 arg19 v61 v87 v92 v93 gc gw gb gs k p.1 p.2) := by
  rw [topStep, dif_pos k.isLt]

/-- The running top lists before trip `k`: from their contents at the loop's entry, each trip's stores. -/
def topAt (fv0 : VlBuf (F := F) c) (fi0 : IxBuf (F := F) c) (k : ℕ) : VlBuf (F := F) c × IxBuf (F := F) c :=
  Nat.rec (fv0, fi0) (fun k p => topStep c q XW arg0 harg0 arg2 harg2 arg3 harg3 arg4 harg4 arg5 harg5 arg6 harg6 arg7 harg7 arg8 harg8 arg17 arg18 arg19 v61 v87 v92 v93 gc gw gb gs k p) k

/-- The lists after a trip are one step from those before it. -/
theorem topAt_succ (fv0 : VlBuf (F := F) c) (fi0 : IxBuf (F := F) c) (k : ℕ) :
    topAt c q XW arg0 harg0 arg2 harg2 arg3 harg3 arg4 harg4 arg5 harg5 arg6 harg6 arg7 harg7 arg8 harg8 arg17 arg18 arg19 v61 v87 v92 v93 gc gw gb gs fv0 fi0 (k + 1) = topStep c q XW arg0 harg0 arg2 harg2 arg3 harg3 arg4 harg4 arg5 harg5 arg6 harg6 arg7 harg7 arg8 harg8 arg17 arg18 arg19 v61 v87 v92 v93 gc gw gb gs k (topAt c q XW arg0 harg0 arg2 harg2 arg3 harg3 arg4 harg4 arg5 harg5 arg6 harg6 arg7 harg7 arg8 harg8 arg17 arg18 arg19 v61 v87 v92 v93 gc gw gb gs fv0 fi0 k) := rfl

/-- What the loop holds before trip `k`. -/
def invAt (fv0 : VlBuf (F := F) c) (fi0 : IxBuf (F := F) c) (k : ℕ) : sProp 𝕄 :=
  resAt c q XW gc gw gb gs k (topAt c q XW arg0 harg0 arg2 harg2 arg3 harg3 arg4 harg4 arg5 harg5 arg6 harg6 arg7 harg7 arg8 harg8 arg17 arg18 arg19 v61 v87 v92 v93 gc gw gb gs fv0 fi0 k).1 (topAt c q XW arg0 harg0 arg2 harg2 arg3 harg3 arg4 harg4 arg5 harg5 arg6 harg6 arg7 harg7 arg8 harg8 arg17 arg18 arg19 v61 v87 v92 v93 gc gw gb gs fv0 fi0 k).2

/-- A trip keeps the loop's invariant. -/
theorem invStep (fv0 : VlBuf (F := F) c) (fi0 : IxBuf (F := F) c) (k : Fin k0_t1_loop.trips) :
    invAt c q XW arg0 harg0 arg2 harg2 arg3 harg3 arg4 harg4 arg5 harg5 arg6 harg6 arg7 harg7 arg8 harg8 arg17 arg18 arg19 v61 v87 v92 v93 gc gw gb gs fv0 fi0 k ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => invAt c q XW arg0 harg0 arg2 harg2 arg3 harg3 arg4 harg4 arg5 harg5 arg6 harg6 arg7 harg7 arg8 harg8 arg17 arg18 arg19 v61 v87 v92 v93 gc gw gb gs fv0 fi0 (k.val + 1)) := by
  unfold invAt
  rw [topAt_succ, topStep_eq]
  exact tripStep c q XW arg0 harg0 arg2 harg2 arg3 harg3 arg4 harg4 arg5 harg5 arg6 harg6 arg7 harg7 arg8 harg8 arg17 arg18 arg19 v61 v87 v92 v93 gc gw gb gs k _ _

set_option warn.classDefReducibility false in
/-- THE LOOP'S INVARIANT: the resources of trip `k`, the running top lists at `topAt`. -/
@[sl_loop] def loopInv (fv0 : VlBuf (F := F) c) (fi0 : IxBuf (F := F) c) :
    LoopInvTy_k0_t1 (F := F) Unit ℕ (UU nD τ) ℕ 𝒱₀ c none Set.univ arg0 harg0 wM (Memref.isWhole_whole _) arg2 harg2 arg3 harg3 arg4 harg4 arg5 harg5 arg6 harg6 arg7 harg7 arg8 harg8
      cdM (Memref.isWhole_whole _) wsM (Memref.isWhole_whole _) bsM (Memref.isWhole_whole _) scM (Memref.isWhole_whole _)
      vlM (Memref.isWhole_whole _) ixM (Memref.isWhole_whole _) ringM (Memref.isWhole_whole _) cc0_scratch8 arg17 arg18 arg19 v61 v87 v92 v93 where
  inv k _ := invAt c q XW arg0 harg0 arg2 harg2 arg3 harg3 arg4 harg4 arg5 harg5 arg6 harg6 arg7 harg7 arg8 harg8 arg17 arg18 arg19 v61 v87 v92 v93 gc gw gb gs fv0 fi0 k
  step k acc := by
    cases acc
    exact invStep c q XW arg0 harg0 arg2 harg2 arg3 harg3 arg4 harg4 arg5 harg5 arg6 harg6 arg7 harg7 arg8 harg8 arg17 arg18 arg19 v61 v87 v92 v93 gc gw gb gs fv0 fi0 k

end Trip

end Cert.Proof.KBits

end
-- ==== Proof.BLoop.lean ====
/-
  The kernel's body: the transfers issued and awaited before the loop, the loop by its invariant, the top lists read
  out after it.
-/
module

public import proofs.«01_k».proof.Proof.BTrip

@[expose] public section

noncomputable section

namespace Cert.Proof.KBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The kernel's memrefs and cells -/

abbrev xM : Memref sig .tc .hbm S32x7168 .bf16 := Memref.whole main_v0
abbrev wsHM : Memref sig .tc .hbm S32256 .f32 := Memref.whole main_arg2
abbrev bHM : Memref sig .tc .hbm S32256 .f32 := Memref.whole main_arg3
abbrev cdHM : Memref sig .tc .hbm S32x7168 .fp8e4m3 := Memref.whole main_v1_2
abbrev xVM : Memref sig .tc .vmem S32x7168 .bf16 := Memref.whole cc0_scratch0

abbrev aux0 : DmaSems sig S_ := (cc0_scratch10.slice (Rect.unit (s := S2) ![0] S1.size inb_S2_S1_0)).squeeze S_ squeezes_S1_S_
abbrev aux1 : DmaSems sig S_ := (cc0_scratch10.slice (Rect.unit (s := S2) ![1] S1.size inb_S2_S1_1)).squeeze S_ squeezes_S1_S_

section Names

variable (c : Dev nD) (q : PosShare TreeShare) (XW : Buf (Elt F) (wM.view.loc (c : Thread nD τ)))
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec F S32x7168 .f32) (v87 : IVec S32x1 32) (v92 : FVec F S32x1 .f32) (v93 : IVec S32x1 32)

variable (gc : Buf (Elt F) (cdM.view.loc (c : Thread nD τ))) (gw : Buf (Elt F) (wsM.view.loc (c : Thread nD τ)))
  (gb : Buf (Elt F) (bsM.view.loc (c : Thread nD τ))) (gs : Buf (Elt F) (scM.view.loc (c : Thread nD τ)))

/-- Before the first trip the lists are as at the loop's entry. -/
theorem topAt_zero1 (fv0 : VlBuf (F := F) c) (fi0 : IxBuf (F := F) c) : (topAt c q XW arg0 harg0 arg2 harg2 arg3 harg3 arg4 harg4 arg5 harg5 arg6 harg6 arg7 harg7 arg8 harg8 arg17 arg18 arg19 v61 v87 v92 v93 gc gw gb gs fv0 fi0 0).1 = fv0 := rfl
/-- The same of the index lists. -/
theorem topAt_zero2 (fv0 : VlBuf (F := F) c) (fi0 : IxBuf (F := F) c) : (topAt c q XW arg0 harg0 arg2 harg2 arg3 harg3 arg4 harg4 arg5 harg5 arg6 harg6 arg7 harg7 arg8 harg8 arg17 arg18 arg19 v61 v87 v92 v93 gc gw gb gs fv0 fi0 0).2 = fi0 := rfl

/-- After the last trip: every block home, the slots and cells free. -/
def doneP : sProp 𝕄 :=
  iprop(bigSep Finset.univ (homeP c XW) ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f) ∗ cellP c 0 ∗ cellP c 1 ∗ cellP c 2 ∗ cellP c 3 ∗ cellP c 4 ∗ cellP c 5 ∗ cellP c 6 ∗ cellP c 7)

omit [FloatOps F] in
/-- After the last trip every block is home. -/
theorem homes_end : bigSep (Ring.homeSet 8 63) (homeP c XW) = bigSep (Finset.univ : Finset (Fin 63)) (homeP c XW) := by
  have e : (Finset.univ : Finset (Fin 63)) = Ring.homeSet (NB := 63) 8 63 := by
    ext b; simp only [Finset.mem_univ, Ring.mem_homeSet, true_iff]; have := b.isLt; omega
  rw [e]

/-- After the last trip the ring's invariant gives back the blocks, the slots and the cells. -/
theorem ring_done : ringP c XW k0_t1_loop.trips ⊢ doneP c XW := by
  rw [trips_eq]; unfold ringP doneP
  rw [homes_end, useP_ge c XW (n := 63) (by omega), useP_ge c XW (n := 63 + 1) (by omega), useP_ge c XW (n := 63 + 2) (by omega), useP_ge c XW (n := 63 + 3) (by omega), useP_ge c XW (n := 63 + 4) (by omega), useP_ge c XW (n := 63 + 5) (by omega), useP_ge c XW (n := 63 + 6) (by omega), useP_ge c XW (n := 63 + 7) (by omega)]
  rw [show Ring.sl 8 63 = 7 from Fin.ext (by rfl), show Ring.sl 8 (63 + 1) = 0 from Fin.ext (by rfl), show Ring.sl 8 (63 + 2) = 1 from Fin.ext (by rfl), show Ring.sl 8 (63 + 3) = 2 from Fin.ext (by rfl), show Ring.sl 8 (63 + 4) = 3 from Fin.ext (by rfl), show Ring.sl 8 (63 + 5) = 4 from Fin.ext (by rfl), show Ring.sl 8 (63 + 6) = 5 from Fin.ext (by rfl), show Ring.sl 8 (63 + 7) = 6 from Fin.ext (by rfl)]
  iintro ⟨Hh, ⟨Hc7, Hs7⟩, ⟨Hc0, Hs0⟩, ⟨Hc1, Hs1⟩, ⟨Hc2, Hs2⟩, ⟨Hc3, Hs3⟩, ⟨Hc4, Hs4⟩, ⟨Hc5, Hs5⟩, ⟨Hc6, Hs6⟩⟩
  isplitl [Hh]; · iexact Hh
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  iexact Hc7

/-- What the body goes on with after the loop. -/
instance loopExit (fv0 : VlBuf (F := F) c) (fi0 : IxBuf (F := F) c) :
    LoopExit (loopInv c q XW arg0 harg0 arg2 harg2 arg3 harg3 arg4 harg4 arg5 harg5 arg6 harg6 arg7 harg7 arg8 harg8 arg17 arg18 arg19 v61 v87 v92 v93 gc gw gb gs fv0 fi0) where
  post _ := iprop(topP c (topAt c q XW arg0 harg0 arg2 harg2 arg3 harg3 arg4 harg4 arg5 harg5 arg6 harg6 arg7 harg7 arg8 harg8 arg17 arg18 arg19 v61 v87 v92 v93 gc gw gb gs fv0 fi0 63).1 (topAt c q XW arg0 harg0 arg2 harg2 arg3 harg3 arg4 harg4 arg5 harg5 arg6 harg6 arg7 harg7 arg8 harg8 arg17 arg18 arg19 v61 v87 v92 v93 gc gw gb gs fv0 fi0 63).2
    ∗ readP c q gc gw gb gs ∗ (∃ W, owes (c : Thread nD τ) 0 W) ∗ doneP c XW)
  exit _ := by
    show invAt c q XW arg0 harg0 arg2 harg2 arg3 harg3 arg4 harg4 arg5 harg5 arg6 harg6 arg7 harg7 arg8 harg8 arg17 arg18 arg19 v61 v87 v92 v93 gc gw gb gs fv0 fi0 k0_t1_loop.trips ⊢ _
    unfold invAt resAt
    rw [show (topAt c q XW arg0 harg0 arg2 harg2 arg3 harg3 arg4 harg4 arg5 harg5 arg6 harg6 arg7 harg7 arg8 harg8 arg17 arg18 arg19 v61 v87 v92 v93 gc gw gb gs fv0 fi0 k0_t1_loop.trips) = (topAt c q XW arg0 harg0 arg2 harg2 arg3 harg3 arg4 harg4 arg5 harg5 arg6 harg6 arg7 harg7 arg8 harg8 arg17 arg18 arg19 v61 v87 v92 v93 gc gw gb gs fv0 fi0 63) from by rw [trips_eq]]
    iintro ⟨HT, HR, HW, HG⟩
    isplitl [HT]; · iexact HT
    isplitl [HR]; · iexact HR
    isplitl [HW]; · iexact HW
    iapply (ring_done c XW) $$ HG

end Names

-- the first eight uses of the ring under the names the body issues them by
/-- Slot of transfer 0. -/
theorem sl8_0 : Ring.sl 8 0 = 0 := Fin.ext (by rfl)
/-- Block of transfer 0. -/
theorem bk63_0 : Ring.bk 63 0 = 0 := Fin.ext (by rfl)
/-- Slot of transfer 1. -/
theorem sl8_1 : Ring.sl 8 (0 + 1) = 1 := Fin.ext (by rfl)
/-- Block of transfer 1. -/
theorem bk63_1 : Ring.bk 63 (0 + 1) = 1 := Fin.ext (by rfl)
/-- Slot of transfer 2. -/
theorem sl8_2 : Ring.sl 8 (0 + 2) = 2 := Fin.ext (by rfl)
/-- Block of transfer 2. -/
theorem bk63_2 : Ring.bk 63 (0 + 2) = 2 := Fin.ext (by rfl)
/-- Slot of transfer 3. -/
theorem sl8_3 : Ring.sl 8 (0 + 3) = 3 := Fin.ext (by rfl)
/-- Block of transfer 3. -/
theorem bk63_3 : Ring.bk 63 (0 + 3) = 3 := Fin.ext (by rfl)
/-- Slot of transfer 4. -/
theorem sl8_4 : Ring.sl 8 (0 + 4) = 4 := Fin.ext (by rfl)
/-- Block of transfer 4. -/
theorem bk63_4 : Ring.bk 63 (0 + 4) = 4 := Fin.ext (by rfl)
/-- Slot of transfer 5. -/
theorem sl8_5 : Ring.sl 8 (0 + 5) = 5 := Fin.ext (by rfl)
/-- Block of transfer 5. -/
theorem bk63_5 : Ring.bk 63 (0 + 5) = 5 := Fin.ext (by rfl)
/-- Slot of transfer 6. -/
theorem sl8_6 : Ring.sl 8 (0 + 6) = 6 := Fin.ext (by rfl)
/-- Block of transfer 6. -/
theorem bk63_6 : Ring.bk 63 (0 + 6) = 6 := Fin.ext (by rfl)
/-- Slot of transfer 7. -/
theorem sl8_7 : Ring.sl 8 (0 + 7) = 7 := Fin.ext (by rfl)
/-- Block of transfer 7. -/
theorem bk63_7 : Ring.bk 63 (0 + 7) = 7 := Fin.ext (by rfl)

end Cert.Proof.KBits

end
-- ==== Proof.BBody.lean ====
/-
  The kernel's body: the transfers issued and awaited before the loop, the loop by its invariant, the top lists read
  out after it.
-/
module

public import proofs.«01_k».proof.Proof.BLoop
public import Idealize.ShloMosaic.Lib.VecWindow

@[expose] public section

noncomputable section

namespace Cert.Proof.KBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body

variable (c : Dev nD) (XW : Buf (Elt F) (wM.view.loc (c : Thread nD τ)))
  (X0 : Buf (Elt F) (xM.view.loc (c : Thread nD τ))) (X2 : Buf (Elt F) (wsHM.view.loc (c : Thread nD τ))) (X3 : Buf (Elt F) (bHM.view.loc (c : Thread nD τ)))
  (arg4 : Memref sig .tc .vmem S8x32 .f32) (harg4 : arg4.IsWhole)
  (arg5 : Memref sig .tc .vmem S8x32 .i32) (harg5 : arg5.IsWhole)
  (arg7 : Memref sig .tc .vmem S1x32 .f32) (harg7 : arg7.IsWhole)

abbrev bodyG : Prog (TpuEff nD τ sig (Elt F) Λ₀ .tc) PUnit :=
  cc0_fp8_head_top8 xM (Memref.isWhole_whole _) wM (Memref.isWhole_whole _) wsHM (Memref.isWhole_whole _) bHM (Memref.isWhole_whole _)
    arg4 harg4 arg5 harg5 cdHM (Memref.isWhole_whole _) arg7 harg7 xVM (Memref.isWhole_whole _)
    cdM (Memref.isWhole_whole _) wsM (Memref.isWhole_whole _) bsM (Memref.isWhole_whole _) scM (Memref.isWhole_whole _)
    vlM (Memref.isWhole_whole _) ixM (Memref.isWhole_whole _) ringM (Memref.isWhole_whole _) cc0_scratch8 cc0_scratch9 cc0_scratch10 cc0_scratch11

/-- A buffer of the kernel's held whole at `f`, and at anything. -/
abbrev bufP {sp : Space} {s : Shape} {e : EltTy} (M : Memref sig .tc sp s e) (f : Buf (Elt F) (M.view.loc (c : Thread nD τ))) : sProp 𝕄 :=
  M.view.loc (c : Thread nD τ) ↦{fullShare} f
abbrev stP {s : Shape} {e : EltTy} (M : Memref sig .tc .vmem s e) (f : Buf (Elt F) (M.view.loc (c : Thread nD τ))) : sProp 𝕄 :=
  M.view.loc (c : Thread nD τ) ↦[M.view.set]{fullShare} f
abbrev semP (s : DmaSems sig S_) : sProp 𝕄 := semVal ((c : Thread nD τ), SemLoc.dma s.sem) 0

abbrev PRE (g4 : Buf (Elt F) (arg4.view.loc (c : Thread nD τ))) (g5 : Buf (Elt F) (arg5.view.loc (c : Thread nD τ))) (g7 : Buf (Elt F) (arg7.view.loc (c : Thread nD τ)))
    (W : Waits sig Unit) : sProp 𝕄 :=
  iprop(stP c arg4 g4 ∗ stP c arg5 g5 ∗ stP c arg7 g7 ∗ bufP c xM X0 ∗ bufP c wsHM X2 ∗ bufP c bHM X3 ∗ (∃ f, bufP c cdHM f)
    ∗ (∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
    ∗ homeP c XW 0 ∗ homeP c XW 1 ∗ homeP c XW 2 ∗ homeP c XW 3 ∗ homeP c XW 4 ∗ homeP c XW 5 ∗ homeP c XW 6 ∗ homeP c XW 7 ∗ bigSep (Ring.homeSet 8 0) (homeP c XW)
    ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f)
    ∗ cellP c 0 ∗ cellP c 1 ∗ cellP c 2 ∗ cellP c 3 ∗ cellP c 4 ∗ cellP c 5 ∗ cellP c 6 ∗ cellP c 7
    ∗ semP c cc0_scratch9 ∗ semP c aux0 ∗ semP c aux1 ∗ semP c cc0_scratch11 ∗ owes (c : Thread nD τ) 0 W)

/-- A whole buffer stored over whole holds what was stored. -/
theorem full_gen (b : Ref sig .tc) (f : b.ty.Contents (Elt F)) {off : Fin b.ty.shape.rank → ℕ} (inb : ∀ a, off a + b.ty.shape.size a ≤ b.ty.shape.size a)
    (w : b.ty.shape.Idx → Elt F b.ty.elt) :
    (View.whole b).writes (Elt F) f [⟨Rect.unit off b.ty.shape.size inb, w⟩] = w :=
  View.read_writes_full (View.whole b) f inb w []
/-- A store over the whole value list leaves what was stored. -/
theorem full_vl (f : Buf (Elt F) (vlM.view.loc (c : Thread nD τ))) (w : S8x32x128.Idx → Elt F .f32) :
    bufP c vlM (vlM.view.writes (Elt F) f [⟨Rect.unit (s := S8x32x128) ![0, 0, 0] S8x32x128.size inb_S8x32x128_S8x32x128_0_0_0, w⟩]) = bufP c vlM w :=
  congrArg (fun f => bufP c vlM f) (full_gen cc0_scratch5 f inb_S8x32x128_S8x32x128_0_0_0 w)
/-- A store over the whole index list leaves what was stored. -/
theorem full_ix (f : Buf (Elt F) (ixM.view.loc (c : Thread nD τ))) (w : S8x32x128.Idx → Elt F .i32) :
    bufP c ixM (ixM.view.writes (Elt F) f [⟨Rect.unit (s := S8x32x128) ![0, 0, 0] S8x32x128.size inb_S8x32x128_S8x32x128_0_0_0, w⟩]) = bufP c ixM w :=
  congrArg (fun f => bufP c ixM f) (full_gen cc0_scratch6 f inb_S8x32x128_S8x32x128_0_0_0 w)
set_option maxRecDepth 16384 in
/-- A store over the whole code buffer leaves what was stored. -/
theorem full_cd (f : Buf (Elt F) (cdM.view.loc (c : Thread nD τ))) (w : S32x7168.Idx → Elt F .fp8e4m3) :
    bufP c cdM (cdM.view.writes (Elt F) f [⟨Rect.unit (s := S32x7168) ![0, 0] S32x7168.size inb_S32x7168_S32x7168_0_0, w⟩]) = bufP c cdM w :=
  congrArg (fun f => bufP c cdM f) (full_gen cc0_scratch1 f inb_S32x7168_S32x7168_0_0 w)
/-- A store over the whole scale buffer leaves what was stored. -/
theorem full_sc (f : Buf (Elt F) (scM.view.loc (c : Thread nD τ))) (w : S32x128.Idx → Elt F .f32) :
    bufP c scM (scM.view.writes (Elt F) f [⟨Rect.unit (s := S32x128) ![0, 0] S32x128.size inb_S32x128_S32x128_0_0, w⟩]) = bufP c scM w :=
  congrArg (fun f => bufP c scM f) (full_gen cc0_scratch4 f inb_S32x128_S32x128_0_0 w)

/-- What the body hands back: the three staged outputs, the codes' array at `w6`, everything else as it was handed in. -/
abbrev POST (g4 : Buf (Elt F) (arg4.view.loc (c : Thread nD τ))) (g5 : Buf (Elt F) (arg5.view.loc (c : Thread nD τ)))
    (w4 : S8x32.Idx → Elt F .f32) (w5 : S8x32.Idx → Elt F .i32) (w7 : Buf (Elt F) (arg7.view.loc (c : Thread nD τ))) (w6 : Buf (Elt F) (cdHM.view.loc (c : Thread nD τ))) : sProp 𝕄 :=
  iprop(stP c arg4 (arg4.view.writes (Elt F) g4 [⟨Rect.unit (s := S8x32) ![0, 0] S8x32.size inb_S8x32_S8x32_0_0, w4⟩]) ∗ stP c arg5 (arg5.view.writes (Elt F) g5 [⟨Rect.unit (s := S8x32) ![0, 0] S8x32.size inb_S8x32_S8x32_0_0, w5⟩]) ∗ stP c arg7 w7
    ∗ bufP c xM X0 ∗ bufP c wsHM X2 ∗ bufP c bHM X3 ∗ bufP c cdHM w6
    ∗ (∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
    ∗ bigSep Finset.univ (homeP c XW)
    ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f)
    ∗ cellP c 0 ∗ cellP c 1 ∗ cellP c 2 ∗ cellP c 3 ∗ cellP c 4 ∗ cellP c 5 ∗ cellP c 6 ∗ cellP c 7
    ∗ semP c cc0_scratch9 ∗ semP c aux0 ∗ semP c aux1 ∗ semP c cc0_scratch11 ∗ ∃ W, owes (c : Thread nD τ) 0 W)

set_option backward.proofsInPublic true in
set_option sl_exec.lendShare "Hcd" in
attribute [local sl_canon] topAt_zero1 topAt_zero2 sl8_0 bk63_0 sl8_1 bk63_1 sl8_2 bk63_2 sl8_3 bk63_3 sl8_4 bk63_4 sl8_5 bk63_5 sl8_6 bk63_6 sl8_7 bk63_7 in
/-- THE BODY, what it stores to be found: `x` and the codes cut to whole stores, the eight transfers in flight at the
    loop's entry, the loop by `loopInv`, the eight ranks read out of the lists, the codes' transfer awaited. -/
def bodyRun : Σ' (w4 : S8x32.Idx → Elt F .f32) (w5 : S8x32.Idx → Elt F .i32) (w7 : Buf (Elt F) (arg7.view.loc (c : Thread nD τ))),
    { w6 : Buf (Elt F) (cdHM.view.loc (c : Thread nD τ)) // ∀ g4 g5 g7 W (Q : PUnit → sProp 𝕄),
      iprop(PRE c XW X0 X2 X3 arg4 arg5 arg7 g4 g5 g7 W ∗ (POST c XW X0 X2 X3 arg4 arg5 arg7 g4 g5 w4 w5 w7 w6 -∗ Q ⟨⟩))
        ⊢ wp frame (wpE (defs₀ (F := F)) 𝒱₀ (c : Thread nD τ) none) Set.univ (bodyG arg4 harg4 arg5 harg5 arg7 harg7) Q } := by
  refine ⟨?_, ?_, ?_, ?_, ?run⟩
  case run =>
    intro g4 g5 g7 W Q
    iintro ⟨⟨H4, H5, H7, HX, HwsH, HbH, ⟨%fC, HC⟩, ⟨%fx, Hx⟩, ⟨%fcd, Hcd⟩, ⟨%fws, Hws⟩, ⟨%fbs, Hbs⟩, ⟨%fsc, Hsc⟩, ⟨%fvl, Hvl⟩, ⟨%fix, Hix⟩,
      Hg0, Hg1, Hg2, Hg3, Hg4, Hg5, Hg6, Hg7, Hh, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩,
      Hc0, Hc1, Hc2, Hc3, Hc4, Hc5, Hc6, Hc7, Hsx, Ha0, Ha1, Hsc2, HW⟩, Hk⟩
    set_option sl_exec.maxSteps 26 in sl_exec
    ihave Hx := (entails_of_eq (congrArg (fun f => bufP c xVM f) (View.write_whole_univ (Val := Elt F) cc0_scratch0 fx _))) $$ Hx
    ihave Hvl := (entails_of_eq (full_vl c fvl _)) $$ Hvl
    ihave Hix := (entails_of_eq (full_ix c fix _)) $$ Hix
    set_option sl_exec.maxSteps 6 in sl_exec
    ihave Hcd := (entails_of_eq (full_cd c fcd _)) $$ Hcd
    set_option sl_exec.maxSteps 11 in sl_exec
    ihave Hws := (entails_of_eq (congrArg (fun f => bufP c wsM f) (View.write_whole_univ (Val := Elt F) cc0_scratch2 fws _))) $$ Hws
    ihave Hbs := (entails_of_eq (congrArg (fun f => bufP c bsM f) (View.write_whole_univ (Val := Elt F) cc0_scratch3 fbs _))) $$ Hbs
    set_option sl_exec.lendShare "HL2" in sl_exec
    ihave HC := (entails_of_eq (congrArg (fun f => bufP c cdHM f) (View.write_whole_univ (Val := Elt F) main_v1_2 fC _))) $$ HC
    sl_step
    iapply Hk
    isplitl [H4]; · iexact H4
    isplitl [H5]; · iexact H5
    isplitl [H7]; · iexact H7
    isplitl [HX]; · iexact HX
    isplitl [HwsH]; · iexact HwsH
    isplitl [HbH]; · iexact HbH
    isplitl [HC]; · iexact HC
    isplitl [Hx]; · iexists _; iexact Hx
    isplitl [HL2]; · iexists _; iexact HL2
    isplitl [HL3]; · iexists _; iexact HL3
    isplitl [HL4]; · iexists _; iexact HL4
    isplitl [HL5]; · iexists _; iexact HL5
    isplitl [HL0]; · iexists _; iexact HL0
    isplitl [HL1]; · iexists _; iexact HL1
    isplitl [HL7]; · iexact HL7
    isplitl [HL8]; · iexists _; iexact HL8
    isplitl [HL9]; · iexists _; iexact HL9
    isplitl [HL10]; · iexists _; iexact HL10
    isplitl [HL11]; · iexists _; iexact HL11
    isplitl [HL12]; · iexists _; iexact HL12
    isplitl [HL13]; · iexists _; iexact HL13
    isplitl [HL14]; · iexists _; iexact HL14
    isplitl [HL15]; · iexists _; iexact HL15
    isplitl [HL16]; · iexact HL16
    isplitl [HL17]; · iexact HL17
    isplitl [HL18]; · iexact HL18
    isplitl [HL19]; · iexact HL19
    isplitl [HL20]; · iexact HL20
    isplitl [HL21]; · iexact HL21
    isplitl [HL22]; · iexact HL22
    isplitl [HL23]; · iexact HL23
    isplitl [Hsx]; · iexact Hsx
    isplitl [Ha0]; · iexact Ha0
    isplitl [Ha1]; · iexact Ha1
    isplitl [Hsc2]; · iexact Hsc2
    iexists _; iexact HL6

end Body

end Cert.Proof.KBits

end
-- ==== Proof.BLaunch.lean ====
/-
  The launch: the kernel's one region between the host lines, its arrays handed to the body and back, the ring split
  into its slots and the weights into their blocks; what every buffer holds at the end.
-/
module

public import proofs.«01_k».proof.Proof.BBody
public import proofs.«01_k».proof.Proof.Gen.Kernel.Frame
public import Idealize.ShloMosaic.Lib.Pipeline.FrameSuffixV

@[expose] public section

noncomputable section

namespace Cert.Proof.KBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 12 → SemLoc sig := ![.dma (csm 0).sem, .dma (csm 1).sem, .dma (csm 2).sem, .dma (csm 3).sem, .dma (csm 4).sem, .dma (csm 5).sem,
  .dma (csm 6).sem, .dma (csm 7).sem, .dma cc0_scratch9.sem, .dma aux0.sem, .dma aux1.sem, .dma cc0_scratch11.sem]
/-- The kernel's own semaphores are as the launch needs them. -/
theorem ownSemFacts : Pipeline.OwnSemFacts spec0 osem := by decide

/-- The kernel's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellP c 4 ∗ cellP c 5 ∗ cellP c 6 ∗ cellP c 7
      ∗ semP c cc0_scratch9 ∗ semP c aux0 ∗ semP c aux1 ∗ semP c cc0_scratch11) := by
  unfold Pipeline.ownSems0
  rw [bigSep_univ_eq_bigSepL [(0 : Fin 12), 1, 2, 3, 4, 5, 6, 7, 8, 9, 10, 11] (by decide) (by decide)]
  rfl

/-! ## Element sets: the weights' blocks of columns, the ring's slots -/

abbrev WB (b : Fin 63) : Finset S7168x32256.Idx := (Rect.unit (s := S7168x32256) (blkOff b) S7168x512.size (blkOff_inb b)).set
abbrev RS (s : Fin 8) : Finset S8x7168x512.Idx := (Rect.unit (s := S8x7168x512) (slotOff s) S1x7168x512.size (slotOff_inb s)).set

omit [FloatOps F] in
/-- A weight block's view covers the block's elements. -/
theorem blk_set (b : Fin 63) : (blk b).view.set = WB b := View.set_slice_whole _ _
omit [FloatOps F] in
/-- A slot's view covers the slot's elements. -/
theorem rslot_set (s : Fin 8) : (rslot s).view.set = RS s := (View.set_reshape _ _).trans (View.set_slice_whole _ _)

/-- An element is in a block exactly if its column is. -/
theorem mem_WB (b : Fin 63) (y : S7168x32256.Idx) : y ∈ WB b ↔ (y 1).val / 512 = b.val := by
  rw [Rect.mem_set_unit]
  have h0 : (y 0).val < 7168 := (y 0).isLt
  have h1 : (y 1).val < 32256 := (y 1).isLt
  constructor
  · intro H; have a0 : 512 * b.val ≤ (y 1).val ∧ (y 1).val < 512 * b.val + 512 := H 1; omega
  · intro H i; fin_cases i
    · show 0 ≤ (y 0).val ∧ (y 0).val < 0 + 7168; omega
    · show 512 * b.val ≤ (y 1).val ∧ (y 1).val < 512 * b.val + 512; omega
/-- An element is in a slot exactly if its first index is the slot's. -/
theorem mem_RS (s : Fin 8) (y : S8x7168x512.Idx) : y ∈ RS s ↔ (y 0).val = s.val := by
  rw [Rect.mem_set_unit]
  have h1 : (y 1).val < 7168 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
/-- Two blocks share no element. -/
theorem WB_disjoint : ∀ b b' : Fin 63, b ≠ b' → Disjoint (WB b) (WB b') := by
  intro b b' hne; rw [Finset.disjoint_left]; intro y hy hy'; rw [mem_WB] at hy hy'; exact hne (Fin.ext (hy.symm.trans hy'))
/-- The blocks make up the weights. -/
theorem WB_cover : (Finset.univ : Finset (Fin 63)).biUnion WB = Finset.univ := by
  ext y; simp only [Finset.mem_biUnion, Finset.mem_univ, true_and, iff_true]
  have h1 : (y 1).val < 32256 := (y 1).isLt
  exact ⟨⟨(y 1).val / 512, by omega⟩, by rw [mem_WB]⟩
/-- Two slots share no element. -/
theorem RS_disjoint : ∀ s s' : Fin 8, s ≠ s' → Disjoint (RS s) (RS s') := by
  intro s s' hne; rw [Finset.disjoint_left]; intro y hy hy'; rw [mem_RS] at hy hy'; exact hne (Fin.ext (hy.symm.trans hy'))
/-- The slots make up the ring. -/
theorem RS_cover : (Finset.univ : Finset (Fin 8)).biUnion RS = Finset.univ := by
  ext y; simp only [Finset.mem_biUnion, Finset.mem_univ, true_and, iff_true]
  have h0 : (y 0).val < 8 := (y 0).isLt
  exact ⟨⟨(y 0).val, h0⟩, by rw [mem_RS]⟩

/-- A conjunction over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The weights whole are their blocks home; -/
theorem w_eq (c : Dev nD) (XW : Buf (Elt F) (wM.view.loc (c : Thread nD τ))) :
    (((c : Thread nD τ).loc main_arg1) ↦{fullShare} XW : sProp 𝕄) = bigSep Finset.univ (homeP c XW) := by
  rw [Ring.pointsTo_blocks (ℓ := (c : Thread nD τ).loc main_arg1) WB WB_disjoint WB_cover]
  exact bigSep_congr fun b _ => by rw [← blk_set]; rfl
/-- at the body's entry, the first eight apart from the rest. -/
theorem homes_zero (c : Dev nD) (XW : Buf (Elt F) (wM.view.loc (c : Thread nD τ))) :
    bigSep Finset.univ (homeP c XW) = iprop(homeP c XW 0 ∗ homeP c XW 1 ∗ homeP c XW 2 ∗ homeP c XW 3 ∗ homeP c XW 4 ∗ homeP c XW 5 ∗ homeP c XW 6 ∗ homeP c XW 7
      ∗ bigSep (Ring.homeSet 8 0) (homeP c XW)) := by
  have e : (Finset.univ : Finset (Fin 63)) = insert 0 (insert 1 (insert 2 (insert 3 (insert 4 (insert 5 (insert 6 (insert 7 (Ring.homeSet (NB := 63) 8 0)))))))) := by
    ext b; simp only [Finset.mem_univ, Finset.mem_insert, Ring.mem_homeSet, true_iff, Fin.ext_iff]
    have := b.isLt
    show b.val = 0 ∨ b.val = 1 ∨ b.val = 2 ∨ b.val = 3 ∨ b.val = 4 ∨ b.val = 5 ∨ b.val = 6 ∨ b.val = 7 ∨ _
    omega
  rw [e]
  repeat rw [bigSep_insert (by simp [Ring.mem_homeSet, Fin.ext_iff])]
  rfl

omit [FloatOps F] in
/-- Owning a slot is owning its elements of the ring. -/
theorem slotP_eq (c : Dev nD) (s : Fin 8) (f) : slotP c s f = (((c : Thread nD τ).loc cc0_scratch7) ↦[RS s]{fullShare} f : sProp 𝕄) :=
  congrArg (fun S => (_ ↦[S]{fullShare} f : sProp 𝕄)) (rslot_set s)
/-- The ring whole is its slots, and back. -/
theorem ring_split (c : Dev nD) :
    iprop(∃ f : Buf (Elt F) ((c : Thread nD τ).loc cc0_scratch7), ((c : Thread nD τ).loc cc0_scratch7) ↦{fullShare} f)
      ⊢ (iprop((∃ f, slotP c 0 f) ∗ (∃ f, slotP c 1 f) ∗ (∃ f, slotP c 2 f) ∗ (∃ f, slotP c 3 f) ∗ (∃ f, slotP c 4 f) ∗ (∃ f, slotP c 5 f)
          ∗ (∃ f, slotP c 6 f) ∗ ∃ f, slotP c 7 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) RS RS_disjoint RS_cover f).trans (bigSep_fin8 _))) $$ H
  icases H2 with ⟨H0, H1, H2, H3, H4, H5, H6, H7⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  isplitl [H5]; · iexists f; iapply (entails_of_eq (slotP_eq c 5 f).symm); iexact H5
  isplitl [H6]; · iexists f; iapply (entails_of_eq (slotP_eq c 6 f).symm); iexact H6
  iexists f; iapply (entails_of_eq (slotP_eq c 7 f).symm); iexact H7
/-- The eight slots together are the ring. -/
theorem ring_join (c : Dev nD) :
    iprop((∃ f, slotP c 0 f) ∗ (∃ f, slotP c 1 f) ∗ (∃ f, slotP c 2 f) ∗ (∃ f, slotP c 3 f) ∗ (∃ f, slotP c 4 f) ∗ (∃ f, slotP c 5 f)
          ∗ (∃ f, slotP c 6 f) ∗ ∃ f, slotP c 7 f)
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch7) RS RS_disjoint RS_cover f0)
  irw [bigSep_fin8]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  isplitl [H5]; · iexists f5; iapply (entails_of_eq (slotP_eq c 5 f5)); iexact H5
  isplitl [H6]; · iexists f6; iapply (entails_of_eq (slotP_eq c 6 f6)); iexact H6
  iexists f7; iapply (entails_of_eq (slotP_eq c 7 f7)); iexact H7

/-! ## The operands the kernel moves itself -/

section Launch

variable (m : (ℓ : Loc nD τ sig) → Buf (Elt F) ℓ) (ρ : Dev nD → PrngReg)

/-- The operands read, and the one written. -/
abbrev HR : Finset (Ref sig .tc) := {main_arg1, main_arg2, main_arg3, main_v0}
abbrev WR : Finset (Ref sig .tc) := {main_v1_2}

/-- A conjunction over the arrays the kernel reads, written out. -/
theorem bigSep_HR (Φ : Ref sig .tc → sProp 𝕄) : bigSep HR Φ = iprop(Φ main_arg1 ∗ Φ main_arg2 ∗ Φ main_arg3 ∗ Φ main_v0) := by
  unfold HR
  rw [bigSep_insert (by decide), bigSep_insert (by decide), bigSep_insert (by decide), bigSep_singleton]
  rfl
/-- A conjunction over the arrays the kernel copies out, written out. -/
theorem bigSep_WR (Φ : Ref sig .tc → sProp 𝕄) : bigSep WR Φ = Φ main_v1_2 := bigSep_singleton

abbrev st0 (t : Fin cfg0.N) : Memref sig .tc .vmem S8x32 .f32 := win0_0.stage (cfg0.slots t 0)
abbrev st1 (t : Fin cfg0.N) : Memref sig .tc .vmem S8x32 .i32 := win0_1.stage (cfg0.slots t 1)
abbrev st2 (t : Fin cfg0.N) : Memref sig .tc .vmem S1x32 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The body's run at point `t` on the region-entry contents. -/
def runAt (c : Dev nD) (t : Fin cfg0.N) :=
  bodyRun c (V m c main_arg1) (V m c main_v0) (V m c main_arg2) (V m c main_arg3) (st0 t) (hst0 t) (st1 t) (hst1 t) (st2 t) (hst2 t)

/-- What the region leaves in the operand it writes. -/
def Gv (c : Dev nD) : Valuation τ sig (Elt F) := Function.update (V0 m c) (Proc.devRef .tc main_v1_2) (runAt m c t0_0).2.2.2.1
/-- The codes array ends as the body leaves it. -/
theorem Gv_codes (c : Dev nD) : Gv m c (Proc.devRef .tc main_v1_2) = (runAt m c t0_0).2.2.2.1 := Function.update_self ..

/-- What the codes' array holds before and after the one point. -/
def codesAt (c : Dev nD) (n : ℕ) : Valuation τ sig (Elt F) := if n = 0 then V0 m c else Gv m c

def dats (_ : Fin 1) (c : Dev nD) : Dat τ (Elt F) Unit ℕ (UU nD τ) ℕ cfg0 c where
  A w := V m c (Pipeline.arrRef spec0 w)
  after w t := match w with
    | ⟨0, _⟩ => (runAt m c t).1
    | ⟨1, _⟩ => (runAt m c t).2.1
    | ⟨2, _⟩ => (st2 t).view.read (Elt F) (runAt m c t).2.2.1
  Φ i := Pipeline.ΦDRV osem spec0 HR WR (fun c b => V m c b) (fun c b => codesAt m c i.val (Proc.devRef .tc b)) c
  q _ := fullShare
  owed _ := 0

/-- The first window's block ends as the body's top values. -/
theorem after_w0 (c : Dev nD) (t : Fin cfg0.N) : (dats m 0 c).after 0 t = (runAt m c t).1 := by dsimp only [dats]
/-- The second window's block ends as the body's top indices. -/
theorem after_w1 (c : Dev nD) (t : Fin cfg0.N) : (dats m 0 c).after 1 t = (runAt m c t).2.1 := by dsimp only [dats]
/-- The third window's block ends as the body's scales. -/
theorem after_w2 (c : Dev nD) (t : Fin cfg0.N) : (dats m 0 c).after 2 t = (st2 t).view.read (Elt F) (runAt m c t).2.2.1 := by dsimp only [dats]

/-! ## The body obligation -/

/-- The launch's program is the kernel's body. -/
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
/-- The launch's program at a grid point is the body on that point's blocks. -/
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

/-- The region invariant, conjunct by conjunct. -/
theorem Phi_eq (c : Dev nD) (Vr Vw : (c : Dev nD) → (b : Ref sig .tc) → Buf (Elt F) ((c : Thread nD τ).loc b))
    (w6 : Buf (Elt F) (cdHM.view.loc (c : Thread nD τ))) (h6 : Vw c main_v1_2 = w6) :
    Pipeline.ΦDRV osem spec0 HR WR Vr Vw c
      = iprop(((∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
            ∗ ∃ f : Buf (Elt F) ((c : Thread nD τ).loc cc0_scratch7), ((c : Thread nD τ).loc cc0_scratch7) ↦{fullShare} f)
          ∗ (cellP c 0 ∗ cellP c 1 ∗ cellP c 2 ∗ cellP c 3 ∗ cellP c 4 ∗ cellP c 5 ∗ cellP c 6 ∗ cellP c 7
            ∗ semP c cc0_scratch9 ∗ semP c aux0 ∗ semP c aux1 ∗ semP c cc0_scratch11)
          ∗ ((((c : Thread nD τ).loc main_arg1) ↦{fullShare} Vr c main_arg1) ∗ bufP c wsHM (Vr c main_arg2) ∗ bufP c bHM (Vr c main_arg3) ∗ bufP c xM (Vr c main_v0))
          ∗ bufP c cdHM w6) := by
  subst h6; unfold Pipeline.ΦDRV
  rw [ownSems0_eq, scopedRest0_eq, bigSep_HR, bigSep_WR]

/-- There is one grid point. -/
theorem fin_N0' (t : Fin cfg0.N) : t = t0_0 := fin_N0 t

set_option maxHeartbeats 1600000 in
set_option backward.isDefEq.respectTransparency.types false in
/-- The body does at the grid point what the launch asks of it. -/
theorem body_obligation (c : Dev nD) : BodyObligation (dats (F := F) m 0 c) (defs₀ (F := F)) 𝒱₀ () Set.univ := fun t => by
  obtain rfl := fin_N0' t
  rw [bigSep_W0, bigSep_W0]
  dsimp only
  simp only [after_w0, after_w1, after_w2]
  rw [show (dats m 0 c).Φ t0_0.castSucc = Pipeline.ΦDRV osem spec0 HR WR (fun c b => V m c b) (fun c b => V0 m c (Proc.devRef .tc b)) c from rfl,
    show (dats m 0 c).Φ t0_0.succ = Pipeline.ΦDRV osem spec0 HR WR (fun c b => V m c b) (fun c b => Gv m c (Proc.devRef .tc b)) c from rfl]
  unfold Dat.owesAt Pipeline.owesWithin
  rw [show (dats m 0 c).owed t0_0.castSucc = 0 from rfl, show (dats m 0 c).owed t0_0.succ = 0 from rfl]
  rw [Phi_eq c _ _ (V m c main_v1_2) rfl, Phi_eq c _ _ _ (Gv_codes m c)]
  unfold owns
  iintro ⟨⟨⟨Hx, Hcd, Hws, Hbs, Hsc, Hvl, Hix, Hr⟩, ⟨Hc0, Hc1, Hc2, Hc3, Hc4, Hc5, Hc6, Hc7, Hsx, Ha0, Ha1, Hsc2⟩, ⟨HW1, HW2, HW3, HX⟩, HC⟩, ⟨%W, -, HW⟩,
    ⟨%d0, %g4, -, H4⟩, ⟨%d1, %g5, -, H5⟩, ⟨%d2, %g7, -, H7⟩⟩
  ihave Hh := (entails_of_eq ((w_eq c (V m c main_arg1)).trans (homes_zero c _))) $$ HW1
  icases Hh with ⟨Hg0, Hg1, Hg2, Hg3, Hg4, Hg5, Hg6, Hg7, Hh⟩
  ihave Hs := (ring_split c) $$ Hr
  icases Hs with ⟨Hs0, Hs1, Hs2, Hs3, Hs4, Hs5, Hs6, Hs7⟩
  sl_rw [prog_eq (F := F) t0_0]
  iapply ((runAt m c t0_0).2.2.2.2 g4 g5 g7 W)
  isplitl [H4 H5 H7 HX HW2 HW3 HC Hx Hcd Hws Hbs Hsc Hvl Hix Hg0 Hg1 Hg2 Hg3 Hg4 Hg5 Hg6 Hg7 Hh Hs0 Hs1 Hs2 Hs3 Hs4 Hs5 Hs6 Hs7 Hc0 Hc1 Hc2 Hc3 Hc4 Hc5 Hc6 Hc7 Hsx Ha0 Ha1 Hsc2 HW]
  · isplitl [H4]; · iexact H4
    isplitl [H5]; · iexact H5
    isplitl [H7]; · iexact H7
    isplitl [HX]; · iexact HX
    isplitl [HW2]; · iexact HW2
    isplitl [HW3]; · iexact HW3
    isplitl [HC]; · iexists _; iexact HC
    isplitl [Hx]; · iexact Hx
    isplitl [Hcd]; · iexact Hcd
    isplitl [Hws]; · iexact Hws
    isplitl [Hbs]; · iexact Hbs
    isplitl [Hsc]; · iexact Hsc
    isplitl [Hvl]; · iexact Hvl
    isplitl [Hix]; · iexact Hix
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hh]; · iexact Hh
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hsx]; · iexact Hsx
    isplitl [Ha0]; · iexact Ha0
    isplitl [Ha1]; · iexact Ha1
    isplitl [Hsc2]; · iexact Hsc2
    iexact HW
  · iintro ⟨H4, H5, H7, HX, HW2, HW3, HC, Hx, Hcd, Hws, Hbs, Hsc, Hvl, Hix, Hh, Hs0, Hs1, Hs2, Hs3, Hs4, Hs5, Hs6, Hs7, Hc0, Hc1, Hc2, Hc3, Hc4, Hc5, Hc6, Hc7, Hsx, Ha0, Ha1, Hsc2, ⟨%W', HW⟩⟩
    isplitl [HX HW2 HW3 HC Hx Hcd Hws Hbs Hsc Hvl Hix Hh Hs0 Hs1 Hs2 Hs3 Hs4 Hs5 Hs6 Hs7 Hc0 Hc1 Hc2 Hc3 Hc4 Hc5 Hc6 Hc7 Hsx Ha0 Ha1 Hsc2]
    · isplitl [Hx Hcd Hws Hbs Hsc Hvl Hix Hs0 Hs1 Hs2 Hs3 Hs4 Hs5 Hs6 Hs7]
      · isplitl [Hx]; · iexact Hx
        isplitl [Hcd]; · iexact Hcd
        isplitl [Hws]; · iexact Hws
        isplitl [Hbs]; · iexact Hbs
        isplitl [Hsc]; · iexact Hsc
        isplitl [Hvl]; · iexact Hvl
        isplitl [Hix]; · iexact Hix
        iapply (ring_join c)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      isplitl [Hc0 Hc1 Hc2 Hc3 Hc4 Hc5 Hc6 Hc7 Hsx Ha0 Ha1 Hsc2]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hsx]; · iexact Hsx
        isplitl [Ha0]; · iexact Ha0
        isplitl [Ha1]; · iexact Ha1
        iexact Hsc2
      isplitl [HX HW2 HW3 Hh]
      · isplitl [Hh]; · iapply (entails_of_eq (w_eq c (V m c main_arg1)).symm); iexact Hh
        isplitl [HW2]; · iexact HW2
        isplitl [HW3]; · iexact HW3
        iexact HX
      iexact HC
    isplitl [HW]
    · iexists W'; isplitr; · ipureintro; exact fun _ _ => Or.inl trivial
      iexact HW
    isplitl [H4]
    · iexists ((st0 t0_0).view.writes (Elt F) g4 [⟨Rect.unit (s := S8x32) ![0, 0] S8x32.size inb_S8x32_S8x32_0_0, (runAt m c t0_0).1⟩])
      isplitr; · ipureintro; exact View.read_writes_full (st0 t0_0).view g4 inb_S8x32_S8x32_0_0 _ []
      iexact H4
    isplitl [H5]
    · iexists ((st1 t0_0).view.writes (Elt F) g5 [⟨Rect.unit (s := S8x32) ![0, 0] S8x32.size inb_S8x32_S8x32_0_0, (runAt m c t0_0).2.1⟩])
      isplitr; · ipureintro; exact View.read_writes_full (st1 t0_0).view g5 inb_S8x32_S8x32_0_0 _ []
      iexact H5
    iexists _; isplitr; · ipureintro; rfl
    iexact H7

/-! ## The run -/

set_option maxHeartbeats 800000 in
/-- The main program is the host's prefix, the launch and the host's tail. -/
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer holds once the host lines after the region have run. -/
def endVal (c : Dev nD) : Valuation τ sig (Elt F) :=
  StableHlo.after (List.flatten [hostOps1]) (Pipeline.withArrays spec0 c (Pipeline.withR (V0 m c) WR c (fun b => Gv m c (Proc.devRef .tc b))) fun w => (dats m 0 c).arrAt w cfg0.N)

/-- From any memory with zero counters, every weakly fair execution of @main terminates with every bypassing buffer at
    `endVal` and every semaphore at zero. -/
theorem run_main : θ_run defs (onTc (τ := τ) (main (F := F))) (s₀ m ρ)
    (fun r => (∀ c : Dev nD, ∀ b ∈ Pipeline.restRefs sig spec0, r.2.mem ((c.tc : Thread nD τ).loc b) = endVal m c (Proc.devRef .tc b)) ∧ r.2.sem = fun _ => 0) :=
  Pipeline.θ_run_frame_dmaR_aroundV cfgs (dats m) (0 : Fin 1) launch0 osem defs₀ 𝒱₀ ownSemFacts HR WR (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := fun c b => Gv m c (Proc.devRef .tc b))
    (hmain := hmainU m) (hA := fun _ _ => rfl) (hin := fun c => .rfl) (hout := fun c => .rfl)
    (Q' := fun r => (∀ c : Dev nD, ∀ b ∈ Pipeline.restRefs sig spec0, r.2.mem ((c.tc : Thread nD τ).loc b) = endVal m c (Proc.devRef .tc b)) ∧ r.2.sem = fun _ => 0)
    (hQ' := fun r h => ⟨fun c b hb => (h.1 c).2 b hb, h.2⟩)

end Launch

end Cert.Proof.KBits

end
-- ==== Proof.BFrame.lean ====
/-
  The frame: every weakly fair execution terminates with the arguments unchanged and every semaphore at zero.
-/
module

public import proofs.«01_k».proof.Proof.BLaunch

@[expose] public section

noncomputable section

namespace Cert.Proof.KBits

open Cert.Kernel Cert.Kernel.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- A buffer that no host line after the region writes, no window stages and the kernel does not write ends as the
    region found it. -/
theorem endVal_keep (c : Dev nD) (b : Ref sig .tc) (hb : ∀ b' ∈ ([main_v2, main_v3, main_v4, main_v5, main_v6, main_v7, main_v8] : List (Ref sig .tc)), b ≠ b')
    (harr : ∀ w, Pipeline.arrRef spec0 w ≠ b) (hw : b ∉ WR) : endVal m c (Proc.devRef .tc b) = V m c b := by
  unfold endVal
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (hb _ (by decide)))),
    Pipeline.withArrays_of_ne _ c _ _ b harr,
    Pipeline.withR_of_not_mem _ _ _ _ _ hw]

/-- `x` ends as it began. -/
theorem endVal_arg0 (c : Dev nD) : endVal m c (Proc.devRef .tc main_arg0) = m ((c : Thread nD τ).loc main_arg0) :=
  (endVal_keep m c main_arg0 (by decide) (by decide) (by decide)).trans (V_main_arg0 m c)
/-- The weights end as they began. -/
theorem endVal_arg1 (c : Dev nD) : endVal m c (Proc.devRef .tc main_arg1) = m ((c : Thread nD τ).loc main_arg1) :=
  (endVal_keep m c main_arg1 (by decide) (by decide) (by decide)).trans (V_main_arg1 m c)
/-- The weight scales end as they began. -/
theorem endVal_arg2 (c : Dev nD) : endVal m c (Proc.devRef .tc main_arg2) = m ((c : Thread nD τ).loc main_arg2) :=
  (endVal_keep m c main_arg2 (by decide) (by decide) (by decide)).trans (V_main_arg2 m c)
/-- The biases end as they began. -/
theorem endVal_arg3 (c : Dev nD) : endVal m c (Proc.devRef .tc main_arg3) = m ((c : Thread nD τ).loc main_arg3) :=
  (endVal_keep m c main_arg3 (by decide) (by decide) (by decide)).trans (V_main_arg3 m c)

/-- An unscoped buffer that is no window's array is among the launch's other buffers. -/
theorem rest (b : Ref sig .tc) (h : b.isScoped = false) (h' : ∀ w, Pipeline.arrRef spec0 w ≠ b) : b ∈ Pipeline.restRefs sig spec0 :=
  Pipeline.mem_restRefs_of b h h'

/-- THE FRAME: the program ends without fault and its arguments are unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 (rest _ (by decide) (by decide))).trans (endVal_arg0 m c),
    (h.1 c main_arg1 (rest _ (by decide) (by decide))).trans (endVal_arg1 m c),
    (h.1 c main_arg2 (rest _ (by decide) (by decide))).trans (endVal_arg2 m c),
    (h.1 c main_arg3 (rest _ (by decide) (by decide))).trans (endVal_arg3 m c)⟩, h.2⟩) (run_main m ρ)

end Cert.Proof.KBits

end
-- ==== Proof.KNames.lean ====
/-
  Names for the pieces of the kernel's ring: block `b` of the weights (512 columns), slot `s` of the ring, slot `s`'s
  semaphore, and the equations by which the body's slices are these.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
/-- Equal assertions entail one another. -/
theorem entails_of_eq {P Q : sProp 𝕄} (e : P = Q) : P ⊢ Q := e ▸ .rfl

/-! ## Blocks, slots, semaphores -/

abbrev wM : Memref sig .tc .hbm S7168x32256 .fp8e4m3 := Memref.whole main_arg1
abbrev ringM : Memref sig .tc .vmem S8x7168x512 .fp8e4m3 := Memref.whole cc0_scratch7

abbrev blkOff (b : Fin 63) : Fin 2 → Nat := ![0, 512 * b.val]
/-- A block lies within the weights. -/
theorem blkOff_inb (b : Fin 63) : ∀ a, blkOff b a + S7168x512.size a ≤ S7168x32256.size a := by
  have := b.isLt; intro a; fin_cases a
  · show 0 + 7168 ≤ 7168; omega
  · show 512 * b.val + 512 ≤ 32256; omega
abbrev slotOff (s : Fin 8) : Fin 3 → Nat := ![s.val, 0, 0]
/-- A slot lies within the ring. -/
theorem slotOff_inb (s : Fin 8) : ∀ a, slotOff s a + S1x7168x512.size a ≤ S8x7168x512.size a := by
  have := s.isLt; intro a; fin_cases a
  · show s.val + 1 ≤ 8; omega
  · show 0 + 7168 ≤ 7168; omega
  · show 0 + 512 ≤ 512; omega
abbrev semOff (s : Fin 8) : Fin 1 → Nat := ![s.val]
/-- A cell lies within the eight cells. -/
theorem semOff_inb (s : Fin 8) : ∀ a, semOff s a + S1.size a ≤ S8.size a := by
  have := s.isLt; intro a; fin_cases a; show s.val + 1 ≤ 8; omega

/-- Block `b` of the weights: 512 columns, as the body slices them. -/
def blk (b : Fin 63) : Memref sig .tc .hbm S7168x512 .fp8e4m3 :=
  wM.slice (Rect.unit (s := S7168x32256) (blkOff b) S7168x512.size (blkOff_inb b)) (fun _ => rfl)
/-- Slot `s` of the ring, as the body slices and squeezes it. -/
def rslot (s : Fin 8) : Memref sig .tc .vmem S7168x512 .fp8e4m3 :=
  (ringM.slice (Rect.unit (s := S8x7168x512) (slotOff s) S1x7168x512.size (slotOff_inb s)) (fun _ => rfl)).squeeze S7168x512 squeezes_S1x7168x512_S7168x512
/-- Slot `s`'s DMA semaphore. -/
def csm (s : Fin 8) : DmaSems sig S_ := (cc0_scratch8.slice (Rect.unit (s := S8) (semOff s) S1.size (semOff_inb s))).squeeze S_ squeezes_S1_S_

instance (s : Fin 8) : ClosedOff (slotOff s) := ⟨slotOff s, rfl⟩
instance (b : Fin 63) : ClosedOff (blkOff b) := ⟨blkOff b, rfl⟩

/-- The loop makes 63 trips. -/
theorem trips_eq : k0_t1_loop.trips = 63 := by decide +kernel

/-- The cell awaited is the trip's. -/
theorem off1_eq (k : Fin k0_t1_loop.trips) : k0_off1 k = semOff (Ring.sl 8 k.val) := (k0_off1_eq k).trans rfl
/-- The slot awaited is the trip's. -/
theorem off2_eq (k : Fin k0_t1_loop.trips) : k0_off2 k = slotOff (Ring.sl 8 k.val) := (k0_off2_eq k).trans rfl
/-- The cell of the new transfer is the trip's. -/
theorem off5_eq (k : Fin k0_t1_loop.trips) : k0_off5 k = semOff (Ring.sl 8 k.val) := (k0_off5_eq k).trans rfl
/-- The slot of the new transfer is the trip's. -/
theorem off6_eq (k : Fin k0_t1_loop.trips) : k0_off6 k = slotOff (Ring.sl 8 k.val) := (k0_off6_eq k).trans rfl
/-- The slot read is the trip's. -/
theorem off4_eq (k : Fin k0_t1_loop.trips) : k0_off4 k = slotOff (Ring.sl 8 k.val) := (k0_off4_eq k).trans rfl
instance (k : Fin k0_t1_loop.trips) : ClosedOff (k0_off4 k) := ⟨slotOff (Ring.sl 8 k.val), off4_eq k⟩
instance (k : Fin k0_t1_loop.trips) : ClosedOff (k0_off2 k) := ⟨slotOff (Ring.sl 8 k.val), off2_eq k⟩
/-- The block awaited is the trip's. -/
theorem off3_eq (k : Fin k0_t1_loop.trips) : k0_off3 k = blkOff (Ring.bk 63 k.val) := by
  rw [k0_off3_eq]; unfold blkOff; rw [Ring.bk_val (Nat.lt_of_lt_of_eq k.isLt trips_eq)]
/-- The block of the new transfer is the eighth after the trip's. -/
theorem off7_eq (k : Fin k0_t1_loop.trips) (hk : k.val + 8 < 63) : k0_off7 k = blkOff (Ring.bk 63 (k.val + 8)) := by
  rw [k0_off7_eq]; unfold blkOff; rw [Ring.bk_val hk, Nat.mul_add]

/-- The guard of the re-issue: a block eight further on exists. -/
theorem cond1_iff : ∀ k : Fin k0_t1_loop.trips, k0_cond1 k = 1#1 ↔ k.val + 8 < 63 := by decide +kernel

/-! ### The body's slices are `csm`, `rslot`, `blk` -/

/-- Equal offsets name one cell. -/
theorem csm_congr {off : Fin 1 → Nat} {s : Fin 8} (e : off = semOff s) (hh) :
    (cc0_scratch8.slice (Rect.unit (s := S8) off S1.size hh)).squeeze S_ squeezes_S1_S_ = csm s :=
  congrArg (fun A : DmaSems sig S1 => A.squeeze S_ squeezes_S1_S_) (SemArray.slice_unit_congr _ e _ _)
/-- Equal offsets name one slot. -/
theorem rslot_congr {off : Fin 3 → Nat} {s : Fin 8} (e : off = slotOff s) (hh hs) :
    (ringM.slice (Rect.unit (s := S8x7168x512) off S1x7168x512.size hh) hs).squeeze S7168x512 squeezes_S1x7168x512_S7168x512 = rslot s :=
  congrArg (fun M : Memref sig .tc .vmem S1x7168x512 .fp8e4m3 => M.squeeze S7168x512 squeezes_S1x7168x512_S7168x512) (Memref.slice_unit_congr _ e _ _ _ _)
/-- Equal offsets name one block. -/
theorem blk_congr {off : Fin 2 → Nat} {b : Fin 63} (e : off = blkOff b) (hh hs) :
    wM.slice (Rect.unit (s := S7168x32256) off S7168x512.size hh) hs = blk b :=
  Memref.slice_unit_congr _ e _ _ _ (fun _ => rfl)

/-! The eight transfers issued before the loop, and the drains at literal positions. -/

/-- Cell 0, by name. -/
@[sl_canon] theorem semL0 (hh) : (cc0_scratch8.slice (Rect.unit (s := S8) ![0] S1.size hh)).squeeze S_ squeezes_S1_S_ = csm 0 := csm_congr (by decide) _
/-- Slot 0, by name. -/
@[sl_canon] theorem slotL0 (hh hs) : (ringM.slice (Rect.unit (s := S8x7168x512) ![0, 0, 0] S1x7168x512.size hh) hs).squeeze S7168x512 squeezes_S1x7168x512_S7168x512 = rslot 0 := rslot_congr (by decide) _ _
/-- Block 0, by name. -/
@[sl_canon] theorem blkL0 (hh hs) : wM.slice (Rect.unit (s := S7168x32256) ![0, 0] S7168x512.size hh) hs = blk 0 := blk_congr (by decide) _ _
/-- Cell 1, by name. -/
@[sl_canon] theorem semL1 (hh) : (cc0_scratch8.slice (Rect.unit (s := S8) ![1] S1.size hh)).squeeze S_ squeezes_S1_S_ = csm 1 := csm_congr (by decide) _
/-- Slot 1, by name. -/
@[sl_canon] theorem slotL1 (hh hs) : (ringM.slice (Rect.unit (s := S8x7168x512) ![1, 0, 0] S1x7168x512.size hh) hs).squeeze S7168x512 squeezes_S1x7168x512_S7168x512 = rslot 1 := rslot_congr (by decide) _ _
/-- Block 1, by name. -/
@[sl_canon] theorem blkL1 (hh hs) : wM.slice (Rect.unit (s := S7168x32256) ![0, 512] S7168x512.size hh) hs = blk 1 := blk_congr (by decide) _ _
/-- Cell 2, by name. -/
@[sl_canon] theorem semL2 (hh) : (cc0_scratch8.slice (Rect.unit (s := S8) ![2] S1.size hh)).squeeze S_ squeezes_S1_S_ = csm 2 := csm_congr (by decide) _
/-- Slot 2, by name. -/
@[sl_canon] theorem slotL2 (hh hs) : (ringM.slice (Rect.unit (s := S8x7168x512) ![2, 0, 0] S1x7168x512.size hh) hs).squeeze S7168x512 squeezes_S1x7168x512_S7168x512 = rslot 2 := rslot_congr (by decide) _ _
/-- Block 2, by name. -/
@[sl_canon] theorem blkL2 (hh hs) : wM.slice (Rect.unit (s := S7168x32256) ![0, 1024] S7168x512.size hh) hs = blk 2 := blk_congr (by decide) _ _
/-- Cell 3, by name. -/
@[sl_canon] theorem semL3 (hh) : (cc0_scratch8.slice (Rect.unit (s := S8) ![3] S1.size hh)).squeeze S_ squeezes_S1_S_ = csm 3 := csm_congr (by decide) _
/-- Slot 3, by name. -/
@[sl_canon] theorem slotL3 (hh hs) : (ringM.slice (Rect.unit (s := S8x7168x512) ![3, 0, 0] S1x7168x512.size hh) hs).squeeze S7168x512 squeezes_S1x7168x512_S7168x512 = rslot 3 := rslot_congr (by decide) _ _
/-- Block 3, by name. -/
@[sl_canon] theorem blkL3 (hh hs) : wM.slice (Rect.unit (s := S7168x32256) ![0, 1536] S7168x512.size hh) hs = blk 3 := blk_congr (by decide) _ _
/-- Cell 4, by name. -/
@[sl_canon] theorem semL4 (hh) : (cc0_scratch8.slice (Rect.unit (s := S8) ![4] S1.size hh)).squeeze S_ squeezes_S1_S_ = csm 4 := csm_congr (by decide) _
/-- Slot 4, by name. -/
@[sl_canon] theorem slotL4 (hh hs) : (ringM.slice (Rect.unit (s := S8x7168x512) ![4, 0, 0] S1x7168x512.size hh) hs).squeeze S7168x512 squeezes_S1x7168x512_S7168x512 = rslot 4 := rslot_congr (by decide) _ _
/-- Block 4, by name. -/
@[sl_canon] theorem blkL4 (hh hs) : wM.slice (Rect.unit (s := S7168x32256) ![0, 2048] S7168x512.size hh) hs = blk 4 := blk_congr (by decide) _ _
/-- Cell 5, by name. -/
@[sl_canon] theorem semL5 (hh) : (cc0_scratch8.slice (Rect.unit (s := S8) ![5] S1.size hh)).squeeze S_ squeezes_S1_S_ = csm 5 := csm_congr (by decide) _
/-- Slot 5, by name. -/
@[sl_canon] theorem slotL5 (hh hs) : (ringM.slice (Rect.unit (s := S8x7168x512) ![5, 0, 0] S1x7168x512.size hh) hs).squeeze S7168x512 squeezes_S1x7168x512_S7168x512 = rslot 5 := rslot_congr (by decide) _ _
/-- Block 5, by name. -/
@[sl_canon] theorem blkL5 (hh hs) : wM.slice (Rect.unit (s := S7168x32256) ![0, 2560] S7168x512.size hh) hs = blk 5 := blk_congr (by decide) _ _
/-- Cell 6, by name. -/
@[sl_canon] theorem semL6 (hh) : (cc0_scratch8.slice (Rect.unit (s := S8) ![6] S1.size hh)).squeeze S_ squeezes_S1_S_ = csm 6 := csm_congr (by decide) _
/-- Slot 6, by name. -/
@[sl_canon] theorem slotL6 (hh hs) : (ringM.slice (Rect.unit (s := S8x7168x512) ![6, 0, 0] S1x7168x512.size hh) hs).squeeze S7168x512 squeezes_S1x7168x512_S7168x512 = rslot 6 := rslot_congr (by decide) _ _
/-- Block 6, by name. -/
@[sl_canon] theorem blkL6 (hh hs) : wM.slice (Rect.unit (s := S7168x32256) ![0, 3072] S7168x512.size hh) hs = blk 6 := blk_congr (by decide) _ _
/-- Cell 7, by name. -/
@[sl_canon] theorem semL7 (hh) : (cc0_scratch8.slice (Rect.unit (s := S8) ![7] S1.size hh)).squeeze S_ squeezes_S1_S_ = csm 7 := csm_congr (by decide) _
/-- Slot 7, by name. -/
@[sl_canon] theorem slotL7 (hh hs) : (ringM.slice (Rect.unit (s := S8x7168x512) ![7, 0, 0] S1x7168x512.size hh) hs).squeeze S7168x512 squeezes_S1x7168x512_S7168x512 = rslot 7 := rslot_congr (by decide) _ _
/-- Block 7, by name. -/
@[sl_canon] theorem blkL7 (hh hs) : wM.slice (Rect.unit (s := S7168x32256) ![0, 3584] S7168x512.size hh) hs = blk 7 := blk_congr (by decide) _ _

/-! Trip `k`: semaphore and slot `k % 8`, block `k` waited, block `k + 8` issued. -/

/-- The cell awaited in a trip, by name. -/
@[sl_canon] theorem semK (k : Fin k0_t1_loop.trips) (hh) :
    (cc0_scratch8.slice (Rect.unit (s := S8) (k0_off1 k) S1.size hh)).squeeze S_ squeezes_S1_S_ = csm (Ring.sl 8 k.val) := csm_congr (off1_eq k) _
/-- The slot awaited in a trip, by name. -/
@[sl_canon] theorem slotK (k : Fin k0_t1_loop.trips) (hh hs) :
    (ringM.slice (Rect.unit (s := S8x7168x512) (k0_off2 k) S1x7168x512.size hh) hs).squeeze S7168x512 squeezes_S1x7168x512_S7168x512 = rslot (Ring.sl 8 k.val) := rslot_congr (off2_eq k) _ _
/-- The block awaited in a trip, by name. -/
@[sl_canon] theorem blkW (k : Fin k0_t1_loop.trips) (hh hs) :
    wM.slice (Rect.unit (s := S7168x32256) (k0_off3 k) S7168x512.size hh) hs = blk (Ring.bk 63 k.val) := blk_congr (off3_eq k) _ _
/-- The cell of a trip's new transfer, by name. -/
@[sl_canon] theorem semI (k : Fin k0_t1_loop.trips) (hh) :
    (cc0_scratch8.slice (Rect.unit (s := S8) (k0_off5 k) S1.size hh)).squeeze S_ squeezes_S1_S_ = csm (Ring.sl 8 k.val) := csm_congr (off5_eq k) _
/-- The slot of a trip's new transfer, by name. -/
@[sl_canon] theorem slotI (k : Fin k0_t1_loop.trips) (hh hs) :
    (ringM.slice (Rect.unit (s := S8x7168x512) (k0_off6 k) S1x7168x512.size hh) hs).squeeze S7168x512 squeezes_S1x7168x512_S7168x512 = rslot (Ring.sl 8 k.val) := rslot_congr (off6_eq k) _ _
/-- The block of a trip's new transfer, by name. -/
@[sl_canon] theorem blkI (k : Fin k0_t1_loop.trips) (hk : k.val + 8 < 63) (hh hs) :
    wM.slice (Rect.unit (s := S7168x32256) (k0_off7 k) S7168x512.size hh) hs = blk (Ring.bk 63 (k.val + 8)) := blk_congr (off7_eq k hk) _ _

/-! ## The pieces: a block home, a slot held, a slot's cell, a slot in flight -/

section Pieces
variable (c : Dev nD) (XW : Buf (Elt F) (wM.view.loc (c : Thread nD τ)))

abbrev cellP (s : Fin 8) : sProp 𝕄 := semVal ((c : Thread nD τ), SemLoc.dma (csm s).sem) 0
abbrev slotP (s : Fin 8) (f : Buf (Elt F) ((rslot s).view.loc (c : Thread nD τ))) : sProp 𝕄 :=
  (rslot s).view.loc (c : Thread nD τ) ↦[(rslot s).view.set]{fullShare} f
/-- Block `b` HOME: held on its elements at the weights' contents. -/
abbrev homeP (b : Fin 63) : sProp 𝕄 := (blk b).view.loc (c : Thread nD τ) ↦[(blk b).view.set]{fullShare} XW
/-- Block `b`'s words as a slot's payload. -/
abbrev payload (b : Fin 63) : S7168x512.Idx → Elt F .fp8e4m3 := ReadAs.same.apply ((blk b).view.read (Elt F) XW)
/-- What block `b`'s transfer leaves in slot `s` over prior contents `f`. -/
abbrev landed (s : Fin 8) (b : Fin 63) (f : Buf (Elt F) ((rslot s).view.loc (c : Thread nD τ))) : Buf (Elt F) ((rslot s).view.loc (c : Thread nD τ)) :=
  (rslot s).view.writes (Elt F) f [⟨Rect.whole S7168x512, payload c XW b⟩]
/-- A block's transfer moves this many units on its cell. -/
abbrev NN : ℕ := 114688
/-- Slot `s` IN FLIGHT with block `b`, issued over `f`. -/
abbrev flightP (s : Fin 8) (b : Fin 63) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)

/-- The flight the trip issues, as the executor states it: into the slot as the previous block's flight delivered it. -/
theorem flightP_after (s : Fin 8) (b b' : Fin 63) :
    flightP c XW s b' ((rslot s).view.writes (Elt F) (rslot s).view.junk [⟨Rect.whole S7168x512, payload c XW b⟩])
      = Transfers.Flight countersEmb (c : Thread nD τ) (SemLoc.dma (csm s).sem) () 114688
          iprop(((rslot s).view.loc (c : Thread nD τ) ↦[(rslot s).view.set]{fullShare}
                  (rslot s).view.writes (Elt F) (rslot s).view.junk [⟨Rect.whole S7168x512, payload c XW b'⟩, ⟨Rect.whole S7168x512, payload c XW b⟩])
                ∗ homeP c XW b') := by
  simp only [flightP, landed, slotP, NN, View.writes]

/-- What the loop holds for the `n`-th use of the ring: that block in flight in its slot, or, past the last block, the
    slot and its cell free. -/
def useP (n : ℕ) : sProp 𝕄 :=
  if n < 63 then iprop(∃ f, flightP c XW (Ring.sl 8 n) (Ring.bk 63 n) f)
  else iprop(cellP c (Ring.sl 8 n) ∗ ∃ f, slotP c (Ring.sl 8 n) f)
/-- While blocks remain, the transfer's slot is in flight. -/
theorem useP_lt {n : ℕ} (h : n < 63) : useP c XW n = iprop(∃ f, flightP c XW (Ring.sl 8 n) (Ring.bk 63 n) f) := if_pos h
/-- When no block remains, the slot and its cell are free. -/
theorem useP_ge {n : ℕ} (h : 63 ≤ n) : useP c XW n = iprop(cellP c (Ring.sl 8 n) ∗ ∃ f, slotP c (Ring.sl 8 n) f) := if_neg (by omega)

/-- Trip `k`'s homes: block `k + 8` (about to go out) beside the rest. -/
theorem homes_here (k : ℕ) (hk : k + 8 < 63) :
    bigSep (Ring.homeSet 8 k) (homeP c XW) = iprop(homeP c XW (Ring.bk 63 (k + 8)) ∗ bigSep ((Ring.homeSet 8 k).erase (Ring.bk 63 (k + 8))) (homeP c XW)) := by
  conv_lhs => rw [Ring.homeSet_out 8 k hk, bigSep_insert (Ring.bkL_not_mem_erase 8 k)]
  rfl
/-- Trip `k + 1`'s homes: block `k` (just back) beside that rest. -/
theorem homes_next (k : ℕ) (hk : k + 8 < 63) :
    bigSep (Ring.homeSet 8 (k + 1)) (homeP c XW) = iprop(homeP c XW (Ring.bk 63 k) ∗ bigSep ((Ring.homeSet 8 k).erase (Ring.bk 63 (k + 8))) (homeP c XW)) := by
  conv_lhs => rw [Ring.homeSet_succ 8 k hk, bigSep_insert (Ring.bk_not_mem_erase 8 k (by omega) (by decide))]
  rfl
/-- The same once no block goes out. -/
theorem homes_tail (k : ℕ) (hk : 63 ≤ k + 8) (h : k < 63) :
    bigSep (Ring.homeSet 8 (k + 1)) (homeP c XW) = iprop(homeP c XW (Ring.bk 63 k) ∗ bigSep (Ring.homeSet 8 k) (homeP c XW)) := by
  conv_lhs => rw [Ring.homeSet_succ_tail 8 k hk h, bigSep_insert (Ring.bk_not_mem_homeSet 8 k h (by decide))]
  rfl

end Pieces

end Cert.Proof.KIdeal
-- ==== Proof.KTrip.lean ====
/-
  One trip of the kernel's loop over the column blocks, at a symbolic trip: the block awaited, multiplied, the slot
  re-used for the block eight further on (if there is one), and the running top lists updated.
-/
module

public import proofs.«01_k».proof.Proof.KNames

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (q : PosShare TreeShare) (XW : Buf (Elt F) (wM.view.loc (c : Thread nD τ)))
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec F S32x7168 .f32) (v87 : IVec S32x1 32) (v92 : FVec F S32x1 .f32) (v93 : IVec S32x1 32)

/-- The scratch buffers of the trip: codes, weight scales, bias, row scales, the top values and the top indices. -/
abbrev cdM : Memref sig .tc .vmem S32x7168 .fp8e4m3 := Memref.whole cc0_scratch1
abbrev wsM : Memref sig .tc .vmem S32256 .f32 := Memref.whole cc0_scratch2
abbrev bsM : Memref sig .tc .vmem S32256 .f32 := Memref.whole cc0_scratch3
abbrev scM : Memref sig .tc .vmem S32x128 .f32 := Memref.whole cc0_scratch4
abbrev vlM : Memref sig .tc .vmem S8x32x128 .f32 := Memref.whole cc0_scratch5
abbrev ixM : Memref sig .tc .vmem S8x32x128 .i32 := Memref.whole cc0_scratch6

variable (gc : Buf (Elt F) (cdM.view.loc (c : Thread nD τ))) (gw : Buf (Elt F) (wsM.view.loc (c : Thread nD τ)))
  (gb : Buf (Elt F) (bsM.view.loc (c : Thread nD τ))) (gs : Buf (Elt F) (scM.view.loc (c : Thread nD τ)))

/-- The buffers the trip only reads. -/
abbrev readP : sProp 𝕄 :=
  iprop((cdM.view.loc (c : Thread nD τ) ↦{q} gc) ∗ (wsM.view.loc (c : Thread nD τ) ↦{fullShare} gw)
    ∗ (bsM.view.loc (c : Thread nD τ) ↦{fullShare} gb) ∗ (scM.view.loc (c : Thread nD τ) ↦{fullShare} gs))

abbrev VlBuf : Type := Buf (Elt F) (vlM.view.loc (c : Thread nD τ))
abbrev IxBuf : Type := Buf (Elt F) (ixM.view.loc (c : Thread nD τ))

abbrev topP (fv : VlBuf (F := F) c) (fi : IxBuf (F := F) c) : sProp 𝕄 :=
  iprop((vlM.view.loc (c : Thread nD τ) ↦{fullShare} fv) ∗ (ixM.view.loc (c : Thread nD τ) ↦{fullShare} fi))

/-- What the trip holds of the ring before it: eight uses, the blocks at home. -/
def ringP (k : ℕ) : sProp 𝕄 :=
  iprop(bigSep (Ring.homeSet 8 k) (homeP c XW) ∗ useP c XW k ∗ useP c XW (k + 1) ∗ useP c XW (k + 2) ∗ useP c XW (k + 3)
    ∗ useP c XW (k + 4) ∗ useP c XW (k + 5) ∗ useP c XW (k + 6) ∗ useP c XW (k + 7))

def resAt (k : ℕ) (fv : VlBuf (F := F) c) (fi : IxBuf (F := F) c) : sProp 𝕄 :=
  iprop(topP c fv fi ∗ readP c q gc gw gb gs ∗ (∃ W, owes (c : Thread nD τ) 0 W) ∗ ringP c XW k)

abbrev tripG (k : Fin k0_t1_loop.trips) : Prog (TpuEff nD τ sig (Elt F) Λ₀ .tc) Unit :=
  k0_t1_body (F := F) arg0 harg0 wM (Memref.isWhole_whole _) arg2 harg2 arg3 harg3 arg4 harg4 arg5 harg5 arg6 harg6 arg7 harg7 arg8 harg8
    cdM (Memref.isWhole_whole _) wsM (Memref.isWhole_whole _) bsM (Memref.isWhole_whole _) scM (Memref.isWhole_whole _)
    vlM (Memref.isWhole_whole _) ixM (Memref.isWhole_whole _) ringM (Memref.isWhole_whole _) cc0_scratch8 arg17 arg18 arg19 v61 v87 v92 v93 k ()

omit [FloatOps F] in
/-- Eight trips on, the slot is the same. -/
theorem sl8_add (k : ℕ) : Ring.sl 8 (k + 1 + 7) = Ring.sl 8 k := by rw [show k + 1 + 7 = k + 8 from rfl, Ring.sl_add]
omit [FloatOps F] in
/-- The block issued is the eighth after the trip's. -/
theorem bk63_add (k : ℕ) : Ring.bk 63 (k + 1 + 7) = Ring.bk 63 (k + 8) := rfl

set_option backward.proofsInPublic true in
/-- ONE TRIP, the pieces it stores to be found: with a block eight further on (the slot goes out again), and without
    (the slot stays free). Both store the same pieces. -/
def tripRun (k : Fin k0_t1_loop.trips) (fv : VlBuf (F := F) c) (fi : IxBuf (F := F) c) :
    Σ' (L : List (View.Piece (Elt F) S8x32x128 .f32)), { L' : List (View.Piece (Elt F) S8x32x128 .i32) //
      (k.val + 8 < 63 → resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (vlM.view.writes (Elt F) fv L) (ixM.view.writes (Elt F) fi L')))
      ∧ (¬ k.val + 8 < 63 → resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (vlM.view.writes (Elt F) fv L) (ixM.view.writes (Elt F) fi L'))) } := by
  refine ⟨?_, ?_, fun hk => ?run, fun hk => ?tail⟩
  case run =>
    have hc : k0_cond1 k = 1#1 := (cond1_iff k).2 hk
    have hk63 : k.val < 63 := by omega
    unfold resAt ringP
    rw [homes_here c XW k.val hk, homes_next c XW k.val hk, useP_lt c XW hk63, useP_lt c XW (n := k.val + 1 + 7) (by omega), sl8_add, bk63_add]
    iintro ⟨⟨HV, HI⟩, ⟨Hc, Hw, Hb, Hs⟩, ⟨%W, HW⟩, ⟨Hg, Hrest⟩, ⟨%f0, HF0⟩, HU1, HU2, HU3, HU4, HU5, HU6, HU7⟩
    sl_unfold [tripG, k0_t1_body]
    sl_exec
    sl_step
    isplitl [HV HI]
    · isplitl [HV]; · iexact HV
      iexact HI
    isplitl [Hc Hw Hb Hs]
    · isplitl [Hc]; · iexact Hc
      isplitl [Hw]; · iexact Hw
      isplitl [Hb]; · iexact Hb
      iexact Hs
    isplitl [HW]; · iexists _; iexact HW
    isplitl [HF0_src Hrest]
    · isplitl [HF0_src]; · iexact HF0_src
      iexact Hrest
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    iexists ((rslot (Ring.sl 8 k.val)).view.writes (Elt F) (rslot (Ring.sl 8 k.val)).view.junk [⟨Rect.whole S7168x512, payload c XW (Ring.bk 63 k.val)⟩])
    irw [flightP_after]
    iexact HF0
  case tail =>
    have hc : ¬ k0_cond1 k = 1#1 := fun h => hk ((cond1_iff k).1 h)
    have hk63 : k.val < 63 := Nat.lt_of_lt_of_eq k.isLt trips_eq
    unfold resAt ringP
    rw [homes_tail c XW k.val (by omega) hk63, useP_lt c XW hk63, useP_ge c XW (n := k.val + 1 + 7) (by omega), sl8_add]
    iintro ⟨⟨HV, HI⟩, ⟨Hc, Hw, Hb, Hs⟩, ⟨%W, HW⟩, Hrest, ⟨%f0, HF0⟩, HU1, HU2, HU3, HU4, HU5, HU6, HU7⟩
    sl_unfold [tripG, k0_t1_body]
    sl_exec
    sl_step
    isplitl [HV HI]
    · isplitl [HV]; · iexact HV
      iexact HI
    isplitl [Hc Hw Hb Hs]
    · isplitl [Hc]; · iexact Hc
      isplitl [Hw]; · iexact Hw
      isplitl [Hb]; · iexact Hb
      iexact Hs
    isplitl [HW]; · iexists _; iexact HW
    isplitl [HF0_src Hrest]
    · isplitl [HF0_src]; · iexact HF0_src
      iexact Hrest
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    isplitl [HF0]; · iexact HF0
    iexists _; iexact HF0_dst

/-- The lists after a trip, from the lists before it. -/
@[irreducible] def tripVl (k : Fin k0_t1_loop.trips) (fv : VlBuf (F := F) c) (fi : IxBuf (F := F) c) : VlBuf (F := F) c :=
  vlM.view.writes (Elt F) fv (tripRun c q XW arg0 harg0 arg2 harg2 arg3 harg3 arg4 harg4 arg5 harg5 arg6 harg6 arg7 harg7 arg8 harg8 arg17 arg18 arg19 v61 v87 v92 v93 gc gw gb gs k fv fi).1
@[irreducible] def tripIx (k : Fin k0_t1_loop.trips) (fv : VlBuf (F := F) c) (fi : IxBuf (F := F) c) : IxBuf (F := F) c :=
  ixM.view.writes (Elt F) fi (tripRun c q XW arg0 harg0 arg2 harg2 arg3 harg3 arg4 harg4 arg5 harg5 arg6 harg6 arg7 harg7 arg8 harg8 arg17 arg18 arg19 v61 v87 v92 v93 gc gw gb gs k fv fi).2.1

/-- One trip, at any position: the lists `fv`, `fi` become `tripVl`, `tripIx`. -/
theorem tripStep (k : Fin k0_t1_loop.trips) (fv : VlBuf (F := F) c) (fi : IxBuf (F := F) c) :
    resAt c q XW gc gw gb gs k fv fi ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => resAt c q XW gc gw gb gs (k.val + 1) (tripVl c q XW arg0 harg0 arg2 harg2 arg3 harg3 arg4 harg4 arg5 harg5 arg6 harg6 arg7 harg7 arg8 harg8 arg17 arg18 arg19 v61 v87 v92 v93 gc gw gb gs k fv fi) (tripIx c q XW arg0 harg0 arg2 harg2 arg3 harg3 arg4 harg4 arg5 harg5 arg6 harg6 arg7 harg7 arg8 harg8 arg17 arg18 arg19 v61 v87 v92 v93 gc gw gb gs k fv fi)) := by
  unfold tripVl tripIx
  by_cases hk : k.val + 8 < 63
  · exact (tripRun c q XW arg0 harg0 arg2 harg2 arg3 harg3 arg4 harg4 arg5 harg5 arg6 harg6 arg7 harg7 arg8 harg8 arg17 arg18 arg19 v61 v87 v92 v93 gc gw gb gs k fv fi).2.2.1 hk
  · exact (tripRun c q XW arg0 harg0 arg2 harg2 arg3 harg3 arg4 harg4 arg5 harg5 arg6 harg6 arg7 harg7 arg8 harg8 arg17 arg18 arg19 v61 v87 v92 v93 gc gw gb gs k fv fi).2.2.2 hk

/-- One trip on the pair of lists (past the last trip: nothing). -/
@[irreducible] def topStep (k : ℕ) (p : VlBuf (F := F) c × IxBuf (F := F) c) : VlBuf (F := F) c × IxBuf (F := F) c :=
  if h : k < k0_t1_loop.trips then (tripVl c q XW arg0 harg0 arg2 harg2 arg3 harg3 arg4 harg4 arg5 harg5 arg6 harg6 arg7 harg7 arg8 harg8 arg17 arg18 arg19 v61 v87 v92 v93 gc gw gb gs ⟨k, h⟩ p.1 p.2, tripIx c q XW arg0 harg0 arg2 harg2 arg3 harg3 arg4 harg4 arg5 harg5 arg6 harg6 arg7 harg7 arg8 harg8 arg17 arg18 arg19 v61 v87 v92 v93 gc gw gb gs ⟨k, h⟩ p.1 p.2) else p

/-- One trip's lists, by the trip's insertions. -/
theorem topStep_eq (k : Fin k0_t1_loop.trips) (p : VlBuf (F := F) c × IxBuf (F := F) c) :
    topStep c q XW arg0 harg0 arg2 harg2 arg3 harg3 arg4 harg4 arg5 harg5 arg6 harg6 arg7 harg7 arg8 harg8 arg17 arg18 arg19 v61 v87 v92 v93 gc gw gb gs k.val p = (tripVl c q XW arg0 harg0 arg2 harg2 arg3 harg3 arg4 harg4 arg5 harg5 arg6 harg6 arg7 harg7 arg8 harg8 arg17 arg18 arg19 v61 v87 v92 v93 gc gw gb gs k p.1 p.2, tripIx c q XW arg0 harg0 arg2 harg2 arg3 harg3 arg4 harg4 arg5 harg5 arg6 harg6 arg7 harg7 arg8 harg8 arg17 arg18 arg19 v61 v87 v92 v93 gc gw gb gs k p.1 p.2) := by
  rw [topStep, dif_pos k.isLt]

/-- The running top lists before trip `k`: from their contents at the loop's entry, each trip's stores. -/
def topAt (fv0 : VlBuf (F := F) c) (fi0 : IxBuf (F := F) c) (k : ℕ) : VlBuf (F := F) c × IxBuf (F := F) c :=
  Nat.rec (fv0, fi0) (fun k p => topStep c q XW arg0 harg0 arg2 harg2 arg3 harg3 arg4 harg4 arg5 harg5 arg6 harg6 arg7 harg7 arg8 harg8 arg17 arg18 arg19 v61 v87 v92 v93 gc gw gb gs k p) k

/-- The lists after a trip are one step from those before it. -/
theorem topAt_succ (fv0 : VlBuf (F := F) c) (fi0 : IxBuf (F := F) c) (k : ℕ) :
    topAt c q XW arg0 harg0 arg2 harg2 arg3 harg3 arg4 harg4 arg5 harg5 arg6 harg6 arg7 harg7 arg8 harg8 arg17 arg18 arg19 v61 v87 v92 v93 gc gw gb gs fv0 fi0 (k + 1) = topStep c q XW arg0 harg0 arg2 harg2 arg3 harg3 arg4 harg4 arg5 harg5 arg6 harg6 arg7 harg7 arg8 harg8 arg17 arg18 arg19 v61 v87 v92 v93 gc gw gb gs k (topAt c q XW arg0 harg0 arg2 harg2 arg3 harg3 arg4 harg4 arg5 harg5 arg6 harg6 arg7 harg7 arg8 harg8 arg17 arg18 arg19 v61 v87 v92 v93 gc gw gb gs fv0 fi0 k) := rfl

/-- What the loop holds before trip `k`. -/
def invAt (fv0 : VlBuf (F := F) c) (fi0 : IxBuf (F := F) c) (k : ℕ) : sProp 𝕄 :=
  resAt c q XW gc gw gb gs k (topAt c q XW arg0 harg0 arg2 harg2 arg3 harg3 arg4 harg4 arg5 harg5 arg6 harg6 arg7 harg7 arg8 harg8 arg17 arg18 arg19 v61 v87 v92 v93 gc gw gb gs fv0 fi0 k).1 (topAt c q XW arg0 harg0 arg2 harg2 arg3 harg3 arg4 harg4 arg5 harg5 arg6 harg6 arg7 harg7 arg8 harg8 arg17 arg18 arg19 v61 v87 v92 v93 gc gw gb gs fv0 fi0 k).2

/-- A trip keeps the loop's invariant. -/
theorem invStep (fv0 : VlBuf (F := F) c) (fi0 : IxBuf (F := F) c) (k : Fin k0_t1_loop.trips) :
    invAt c q XW arg0 harg0 arg2 harg2 arg3 harg3 arg4 harg4 arg5 harg5 arg6 harg6 arg7 harg7 arg8 harg8 arg17 arg18 arg19 v61 v87 v92 v93 gc gw gb gs fv0 fi0 k ⊢ wp frame (wpE (defs₀ (F := F)) 𝒱₀ (c : Thread nD τ) none) Set.univ
          (tripG arg0 harg0 arg2 harg2 arg3 harg3 arg4 harg4 arg5 harg5 arg6 harg6 arg7 harg7 arg8 harg8 arg17 arg18 arg19 v61 v87 v92 v93 k)
        (fun _ => invAt c q XW arg0 harg0 arg2 harg2 arg3 harg3 arg4 harg4 arg5 harg5 arg6 harg6 arg7 harg7 arg8 harg8 arg17 arg18 arg19 v61 v87 v92 v93 gc gw gb gs fv0 fi0 (k.val + 1)) := by
  unfold invAt
  rw [topAt_succ, topStep_eq]
  exact tripStep c q XW arg0 harg0 arg2 harg2 arg3 harg3 arg4 harg4 arg5 harg5 arg6 harg6 arg7 harg7 arg8 harg8 arg17 arg18 arg19 v61 v87 v92 v93 gc gw gb gs k _ _

set_option warn.classDefReducibility false in
/-- THE LOOP'S INVARIANT: the resources of trip `k`, the running top lists at `topAt`. -/
@[sl_loop] def loopInv (fv0 : VlBuf (F := F) c) (fi0 : IxBuf (F := F) c) :
    LoopInvTy_k0_t1 (F := F) Unit ℕ (UU nD τ) ℕ 𝒱₀ c none Set.univ arg0 harg0 wM (Memref.isWhole_whole _) arg2 harg2 arg3 harg3 arg4 harg4 arg5 harg5 arg6 harg6 arg7 harg7 arg8 harg8
      cdM (Memref.isWhole_whole _) wsM (Memref.isWhole_whole _) bsM (Memref.isWhole_whole _) scM (Memref.isWhole_whole _)
      vlM (Memref.isWhole_whole _) ixM (Memref.isWhole_whole _) ringM (Memref.isWhole_whole _) cc0_scratch8 arg17 arg18 arg19 v61 v87 v92 v93 where
  inv k _ := invAt c q XW arg0 harg0 arg2 harg2 arg3 harg3 arg4 harg4 arg5 harg5 arg6 harg6 arg7 harg7 arg8 harg8 arg17 arg18 arg19 v61 v87 v92 v93 gc gw gb gs fv0 fi0 k
  step k acc := by
    cases acc
    exact invStep c q XW arg0 harg0 arg2 harg2 arg3 harg3 arg4 harg4 arg5 harg5 arg6 harg6 arg7 harg7 arg8 harg8 arg17 arg18 arg19 v61 v87 v92 v93 gc gw gb gs fv0 fi0 k

end Trip

end Cert.Proof.KIdeal

end
-- ==== Proof.KLoop.lean ====
/-
  The kernel's body: the transfers issued and awaited before the loop, the loop by its invariant, the top lists read
  out after it.
-/
module

public import proofs.«01_k».proof.Proof.KTrip

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The kernel's memrefs and cells -/

abbrev xM : Memref sig .tc .hbm S32x7168 .bf16 := Memref.whole main_v0
abbrev wsHM : Memref sig .tc .hbm S32256 .f32 := Memref.whole main_arg2
abbrev bHM : Memref sig .tc .hbm S32256 .f32 := Memref.whole main_arg3
abbrev cdHM : Memref sig .tc .hbm S32x7168 .fp8e4m3 := Memref.whole main_v1_2
abbrev xVM : Memref sig .tc .vmem S32x7168 .bf16 := Memref.whole cc0_scratch0

abbrev aux0 : DmaSems sig S_ := (cc0_scratch10.slice (Rect.unit (s := S2) ![0] S1.size inb_S2_S1_0)).squeeze S_ squeezes_S1_S_
abbrev aux1 : DmaSems sig S_ := (cc0_scratch10.slice (Rect.unit (s := S2) ![1] S1.size inb_S2_S1_1)).squeeze S_ squeezes_S1_S_

section Names

variable (c : Dev nD) (q : PosShare TreeShare) (XW : Buf (Elt F) (wM.view.loc (c : Thread nD τ)))
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec F S32x7168 .f32) (v87 : IVec S32x1 32) (v92 : FVec F S32x1 .f32) (v93 : IVec S32x1 32)

variable (gc : Buf (Elt F) (cdM.view.loc (c : Thread nD τ))) (gw : Buf (Elt F) (wsM.view.loc (c : Thread nD τ)))
  (gb : Buf (Elt F) (bsM.view.loc (c : Thread nD τ))) (gs : Buf (Elt F) (scM.view.loc (c : Thread nD τ)))

/-- Before the first trip the lists are as at the loop's entry. -/
theorem topAt_zero1 (fv0 : VlBuf (F := F) c) (fi0 : IxBuf (F := F) c) : (topAt c q XW arg0 harg0 arg2 harg2 arg3 harg3 arg4 harg4 arg5 harg5 arg6 harg6 arg7 harg7 arg8 harg8 arg17 arg18 arg19 v61 v87 v92 v93 gc gw gb gs fv0 fi0 0).1 = fv0 := rfl
/-- The same of the index lists. -/
theorem topAt_zero2 (fv0 : VlBuf (F := F) c) (fi0 : IxBuf (F := F) c) : (topAt c q XW arg0 harg0 arg2 harg2 arg3 harg3 arg4 harg4 arg5 harg5 arg6 harg6 arg7 harg7 arg8 harg8 arg17 arg18 arg19 v61 v87 v92 v93 gc gw gb gs fv0 fi0 0).2 = fi0 := rfl

/-- After the last trip: every block home, the slots and cells free. -/
def doneP : sProp 𝕄 :=
  iprop(bigSep Finset.univ (homeP c XW) ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f) ∗ cellP c 0 ∗ cellP c 1 ∗ cellP c 2 ∗ cellP c 3 ∗ cellP c 4 ∗ cellP c 5 ∗ cellP c 6 ∗ cellP c 7)

omit [FloatOps F] in
/-- After the last trip every block is home. -/
theorem homes_end : bigSep (Ring.homeSet 8 63) (homeP c XW) = bigSep (Finset.univ : Finset (Fin 63)) (homeP c XW) := by
  have e : (Finset.univ : Finset (Fin 63)) = Ring.homeSet (NB := 63) 8 63 := by
    ext b; simp only [Finset.mem_univ, Ring.mem_homeSet, true_iff]; have := b.isLt; omega
  rw [e]

/-- After the last trip the ring's invariant gives back the blocks, the slots and the cells. -/
theorem ring_done : ringP c XW k0_t1_loop.trips ⊢ doneP c XW := by
  rw [trips_eq]; unfold ringP doneP
  rw [homes_end, useP_ge c XW (n := 63) (by omega), useP_ge c XW (n := 63 + 1) (by omega), useP_ge c XW (n := 63 + 2) (by omega), useP_ge c XW (n := 63 + 3) (by omega), useP_ge c XW (n := 63 + 4) (by omega), useP_ge c XW (n := 63 + 5) (by omega), useP_ge c XW (n := 63 + 6) (by omega), useP_ge c XW (n := 63 + 7) (by omega)]
  rw [show Ring.sl 8 63 = 7 from Fin.ext (by rfl), show Ring.sl 8 (63 + 1) = 0 from Fin.ext (by rfl), show Ring.sl 8 (63 + 2) = 1 from Fin.ext (by rfl), show Ring.sl 8 (63 + 3) = 2 from Fin.ext (by rfl), show Ring.sl 8 (63 + 4) = 3 from Fin.ext (by rfl), show Ring.sl 8 (63 + 5) = 4 from Fin.ext (by rfl), show Ring.sl 8 (63 + 6) = 5 from Fin.ext (by rfl), show Ring.sl 8 (63 + 7) = 6 from Fin.ext (by rfl)]
  iintro ⟨Hh, ⟨Hc7, Hs7⟩, ⟨Hc0, Hs0⟩, ⟨Hc1, Hs1⟩, ⟨Hc2, Hs2⟩, ⟨Hc3, Hs3⟩, ⟨Hc4, Hs4⟩, ⟨Hc5, Hs5⟩, ⟨Hc6, Hs6⟩⟩
  isplitl [Hh]; · iexact Hh
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  iexact Hc7

/-- What the body goes on with after the loop. -/
instance loopExit (fv0 : VlBuf (F := F) c) (fi0 : IxBuf (F := F) c) :
    LoopExit (loopInv c q XW arg0 harg0 arg2 harg2 arg3 harg3 arg4 harg4 arg5 harg5 arg6 harg6 arg7 harg7 arg8 harg8 arg17 arg18 arg19 v61 v87 v92 v93 gc gw gb gs fv0 fi0) where
  post _ := iprop(topP c (topAt c q XW arg0 harg0 arg2 harg2 arg3 harg3 arg4 harg4 arg5 harg5 arg6 harg6 arg7 harg7 arg8 harg8 arg17 arg18 arg19 v61 v87 v92 v93 gc gw gb gs fv0 fi0 63).1 (topAt c q XW arg0 harg0 arg2 harg2 arg3 harg3 arg4 harg4 arg5 harg5 arg6 harg6 arg7 harg7 arg8 harg8 arg17 arg18 arg19 v61 v87 v92 v93 gc gw gb gs fv0 fi0 63).2
    ∗ readP c q gc gw gb gs ∗ (∃ W, owes (c : Thread nD τ) 0 W) ∗ doneP c XW)
  exit _ := by
    show invAt c q XW arg0 harg0 arg2 harg2 arg3 harg3 arg4 harg4 arg5 harg5 arg6 harg6 arg7 harg7 arg8 harg8 arg17 arg18 arg19 v61 v87 v92 v93 gc gw gb gs fv0 fi0 k0_t1_loop.trips ⊢ _
    unfold invAt resAt
    rw [show (topAt c q XW arg0 harg0 arg2 harg2 arg3 harg3 arg4 harg4 arg5 harg5 arg6 harg6 arg7 harg7 arg8 harg8 arg17 arg18 arg19 v61 v87 v92 v93 gc gw gb gs fv0 fi0 k0_t1_loop.trips) = (topAt c q XW arg0 harg0 arg2 harg2 arg3 harg3 arg4 harg4 arg5 harg5 arg6 harg6 arg7 harg7 arg8 harg8 arg17 arg18 arg19 v61 v87 v92 v93 gc gw gb gs fv0 fi0 63) from by rw [trips_eq]]
    iintro ⟨HT, HR, HW, HG⟩
    isplitl [HT]; · iexact HT
    isplitl [HR]; · iexact HR
    isplitl [HW]; · iexact HW
    iapply (ring_done c XW) $$ HG

end Names

-- the first eight uses of the ring under the names the body issues them by
/-- Slot of transfer 0. -/
theorem sl8_0 : Ring.sl 8 0 = 0 := Fin.ext (by rfl)
/-- Block of transfer 0. -/
theorem bk63_0 : Ring.bk 63 0 = 0 := Fin.ext (by rfl)
/-- Slot of transfer 1. -/
theorem sl8_1 : Ring.sl 8 (0 + 1) = 1 := Fin.ext (by rfl)
/-- Block of transfer 1. -/
theorem bk63_1 : Ring.bk 63 (0 + 1) = 1 := Fin.ext (by rfl)
/-- Slot of transfer 2. -/
theorem sl8_2 : Ring.sl 8 (0 + 2) = 2 := Fin.ext (by rfl)
/-- Block of transfer 2. -/
theorem bk63_2 : Ring.bk 63 (0 + 2) = 2 := Fin.ext (by rfl)
/-- Slot of transfer 3. -/
theorem sl8_3 : Ring.sl 8 (0 + 3) = 3 := Fin.ext (by rfl)
/-- Block of transfer 3. -/
theorem bk63_3 : Ring.bk 63 (0 + 3) = 3 := Fin.ext (by rfl)
/-- Slot of transfer 4. -/
theorem sl8_4 : Ring.sl 8 (0 + 4) = 4 := Fin.ext (by rfl)
/-- Block of transfer 4. -/
theorem bk63_4 : Ring.bk 63 (0 + 4) = 4 := Fin.ext (by rfl)
/-- Slot of transfer 5. -/
theorem sl8_5 : Ring.sl 8 (0 + 5) = 5 := Fin.ext (by rfl)
/-- Block of transfer 5. -/
theorem bk63_5 : Ring.bk 63 (0 + 5) = 5 := Fin.ext (by rfl)
/-- Slot of transfer 6. -/
theorem sl8_6 : Ring.sl 8 (0 + 6) = 6 := Fin.ext (by rfl)
/-- Block of transfer 6. -/
theorem bk63_6 : Ring.bk 63 (0 + 6) = 6 := Fin.ext (by rfl)
/-- Slot of transfer 7. -/
theorem sl8_7 : Ring.sl 8 (0 + 7) = 7 := Fin.ext (by rfl)
/-- Block of transfer 7. -/
theorem bk63_7 : Ring.bk 63 (0 + 7) = 7 := Fin.ext (by rfl)

end Cert.Proof.KIdeal

end
-- ==== Proof.KBody.lean ====
/-
  The kernel's body: the transfers issued and awaited before the loop, the loop by its invariant, the top lists read
  out after it.
-/
module

public import proofs.«01_k».proof.Proof.KLoop
public import Idealize.ShloMosaic.Lib.VecWindow

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body

variable (c : Dev nD) (XW : Buf (Elt F) (wM.view.loc (c : Thread nD τ)))
  (X0 : Buf (Elt F) (xM.view.loc (c : Thread nD τ))) (X2 : Buf (Elt F) (wsHM.view.loc (c : Thread nD τ))) (X3 : Buf (Elt F) (bHM.view.loc (c : Thread nD τ)))
  (arg4 : Memref sig .tc .vmem S8x32 .f32) (harg4 : arg4.IsWhole)
  (arg5 : Memref sig .tc .vmem S8x32 .i32) (harg5 : arg5.IsWhole)
  (arg7 : Memref sig .tc .vmem S1x32 .f32) (harg7 : arg7.IsWhole)

abbrev bodyG : Prog (TpuEff nD τ sig (Elt F) Λ₀ .tc) PUnit :=
  cc0_fp8_head_top8 xM (Memref.isWhole_whole _) wM (Memref.isWhole_whole _) wsHM (Memref.isWhole_whole _) bHM (Memref.isWhole_whole _)
    arg4 harg4 arg5 harg5 cdHM (Memref.isWhole_whole _) arg7 harg7 xVM (Memref.isWhole_whole _)
    cdM (Memref.isWhole_whole _) wsM (Memref.isWhole_whole _) bsM (Memref.isWhole_whole _) scM (Memref.isWhole_whole _)
    vlM (Memref.isWhole_whole _) ixM (Memref.isWhole_whole _) ringM (Memref.isWhole_whole _) cc0_scratch8 cc0_scratch9 cc0_scratch10 cc0_scratch11

/-- A buffer of the kernel's held whole at `f`, and at anything. -/
abbrev bufP {sp : Space} {s : Shape} {e : EltTy} (M : Memref sig .tc sp s e) (f : Buf (Elt F) (M.view.loc (c : Thread nD τ))) : sProp 𝕄 :=
  M.view.loc (c : Thread nD τ) ↦{fullShare} f
abbrev stP {s : Shape} {e : EltTy} (M : Memref sig .tc .vmem s e) (f : Buf (Elt F) (M.view.loc (c : Thread nD τ))) : sProp 𝕄 :=
  M.view.loc (c : Thread nD τ) ↦[M.view.set]{fullShare} f
abbrev semP (s : DmaSems sig S_) : sProp 𝕄 := semVal ((c : Thread nD τ), SemLoc.dma s.sem) 0

abbrev PRE (g4 : Buf (Elt F) (arg4.view.loc (c : Thread nD τ))) (g5 : Buf (Elt F) (arg5.view.loc (c : Thread nD τ))) (g7 : Buf (Elt F) (arg7.view.loc (c : Thread nD τ)))
    (W : Waits sig Unit) : sProp 𝕄 :=
  iprop(stP c arg4 g4 ∗ stP c arg5 g5 ∗ stP c arg7 g7 ∗ bufP c xM X0 ∗ bufP c wsHM X2 ∗ bufP c bHM X3 ∗ (∃ f, bufP c cdHM f)
    ∗ (∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
    ∗ homeP c XW 0 ∗ homeP c XW 1 ∗ homeP c XW 2 ∗ homeP c XW 3 ∗ homeP c XW 4 ∗ homeP c XW 5 ∗ homeP c XW 6 ∗ homeP c XW 7 ∗ bigSep (Ring.homeSet 8 0) (homeP c XW)
    ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f)
    ∗ cellP c 0 ∗ cellP c 1 ∗ cellP c 2 ∗ cellP c 3 ∗ cellP c 4 ∗ cellP c 5 ∗ cellP c 6 ∗ cellP c 7
    ∗ semP c cc0_scratch9 ∗ semP c aux0 ∗ semP c aux1 ∗ semP c cc0_scratch11 ∗ owes (c : Thread nD τ) 0 W)

/-- A whole buffer stored over whole holds what was stored. -/
theorem full_gen (b : Ref sig .tc) (f : b.ty.Contents (Elt F)) {off : Fin b.ty.shape.rank → ℕ} (inb : ∀ a, off a + b.ty.shape.size a ≤ b.ty.shape.size a)
    (w : b.ty.shape.Idx → Elt F b.ty.elt) :
    (View.whole b).writes (Elt F) f [⟨Rect.unit off b.ty.shape.size inb, w⟩] = w :=
  View.read_writes_full (View.whole b) f inb w []
/-- A store over the whole value list leaves what was stored. -/
theorem full_vl (f : Buf (Elt F) (vlM.view.loc (c : Thread nD τ))) (w : S8x32x128.Idx → Elt F .f32) :
    bufP c vlM (vlM.view.writes (Elt F) f [⟨Rect.unit (s := S8x32x128) ![0, 0, 0] S8x32x128.size inb_S8x32x128_S8x32x128_0_0_0, w⟩]) = bufP c vlM w :=
  congrArg (fun f => bufP c vlM f) (full_gen cc0_scratch5 f inb_S8x32x128_S8x32x128_0_0_0 w)
/-- A store over the whole index list leaves what was stored. -/
theorem full_ix (f : Buf (Elt F) (ixM.view.loc (c : Thread nD τ))) (w : S8x32x128.Idx → Elt F .i32) :
    bufP c ixM (ixM.view.writes (Elt F) f [⟨Rect.unit (s := S8x32x128) ![0, 0, 0] S8x32x128.size inb_S8x32x128_S8x32x128_0_0_0, w⟩]) = bufP c ixM w :=
  congrArg (fun f => bufP c ixM f) (full_gen cc0_scratch6 f inb_S8x32x128_S8x32x128_0_0_0 w)
set_option maxRecDepth 16384 in
/-- A store over the whole code buffer leaves what was stored. -/
theorem full_cd (f : Buf (Elt F) (cdM.view.loc (c : Thread nD τ))) (w : S32x7168.Idx → Elt F .fp8e4m3) :
    bufP c cdM (cdM.view.writes (Elt F) f [⟨Rect.unit (s := S32x7168) ![0, 0] S32x7168.size inb_S32x7168_S32x7168_0_0, w⟩]) = bufP c cdM w :=
  congrArg (fun f => bufP c cdM f) (full_gen cc0_scratch1 f inb_S32x7168_S32x7168_0_0 w)
/-- A store over the whole scale buffer leaves what was stored. -/
theorem full_sc (f : Buf (Elt F) (scM.view.loc (c : Thread nD τ))) (w : S32x128.Idx → Elt F .f32) :
    bufP c scM (scM.view.writes (Elt F) f [⟨Rect.unit (s := S32x128) ![0, 0] S32x128.size inb_S32x128_S32x128_0_0, w⟩]) = bufP c scM w :=
  congrArg (fun f => bufP c scM f) (full_gen cc0_scratch4 f inb_S32x128_S32x128_0_0 w)

/-- What the body hands back: the three staged outputs, the codes' array at `w6`, everything else as it was handed in. -/
abbrev POST (g4 : Buf (Elt F) (arg4.view.loc (c : Thread nD τ))) (g5 : Buf (Elt F) (arg5.view.loc (c : Thread nD τ)))
    (w4 : S8x32.Idx → Elt F .f32) (w5 : S8x32.Idx → Elt F .i32) (w7 : Buf (Elt F) (arg7.view.loc (c : Thread nD τ))) (w6 : Buf (Elt F) (cdHM.view.loc (c : Thread nD τ))) : sProp 𝕄 :=
  iprop(stP c arg4 (arg4.view.writes (Elt F) g4 [⟨Rect.unit (s := S8x32) ![0, 0] S8x32.size inb_S8x32_S8x32_0_0, w4⟩]) ∗ stP c arg5 (arg5.view.writes (Elt F) g5 [⟨Rect.unit (s := S8x32) ![0, 0] S8x32.size inb_S8x32_S8x32_0_0, w5⟩]) ∗ stP c arg7 w7
    ∗ bufP c xM X0 ∗ bufP c wsHM X2 ∗ bufP c bHM X3 ∗ bufP c cdHM w6
    ∗ (∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
    ∗ bigSep Finset.univ (homeP c XW)
    ∗ (∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f)
    ∗ cellP c 0 ∗ cellP c 1 ∗ cellP c 2 ∗ cellP c 3 ∗ cellP c 4 ∗ cellP c 5 ∗ cellP c 6 ∗ cellP c 7
    ∗ semP c cc0_scratch9 ∗ semP c aux0 ∗ semP c aux1 ∗ semP c cc0_scratch11 ∗ ∃ W, owes (c : Thread nD τ) 0 W)

set_option backward.proofsInPublic true in
set_option sl_exec.lendShare "Hcd" in
attribute [local sl_canon] topAt_zero1 topAt_zero2 sl8_0 bk63_0 sl8_1 bk63_1 sl8_2 bk63_2 sl8_3 bk63_3 sl8_4 bk63_4 sl8_5 bk63_5 sl8_6 bk63_6 sl8_7 bk63_7 in
/-- THE BODY, what it stores to be found: `x` and the codes cut to whole stores, the eight transfers in flight at the
    loop's entry, the loop by `loopInv`, the eight ranks read out of the lists, the codes' transfer awaited. -/
def bodyRun : Σ' (w4 : S8x32.Idx → Elt F .f32) (w5 : S8x32.Idx → Elt F .i32) (w7 : Buf (Elt F) (arg7.view.loc (c : Thread nD τ))),
    { w6 : Buf (Elt F) (cdHM.view.loc (c : Thread nD τ)) // ∀ g4 g5 g7 W (Q : PUnit → sProp 𝕄),
      iprop(PRE c XW X0 X2 X3 arg4 arg5 arg7 g4 g5 g7 W ∗ (POST c XW X0 X2 X3 arg4 arg5 arg7 g4 g5 w4 w5 w7 w6 -∗ Q ⟨⟩))
        ⊢ wp frame (wpE (defs₀ (F := F)) 𝒱₀ (c : Thread nD τ) none) Set.univ (bodyG arg4 harg4 arg5 harg5 arg7 harg7) Q } := by
  refine ⟨?_, ?_, ?_, ?_, ?run⟩
  case run =>
    intro g4 g5 g7 W Q
    iintro ⟨⟨H4, H5, H7, HX, HwsH, HbH, ⟨%fC, HC⟩, ⟨%fx, Hx⟩, ⟨%fcd, Hcd⟩, ⟨%fws, Hws⟩, ⟨%fbs, Hbs⟩, ⟨%fsc, Hsc⟩, ⟨%fvl, Hvl⟩, ⟨%fix, Hix⟩,
      Hg0, Hg1, Hg2, Hg3, Hg4, Hg5, Hg6, Hg7, Hh, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩,
      Hc0, Hc1, Hc2, Hc3, Hc4, Hc5, Hc6, Hc7, Hsx, Ha0, Ha1, Hsc2, HW⟩, Hk⟩
    set_option sl_exec.maxSteps 26 in sl_exec
    ihave Hx := (entails_of_eq (congrArg (fun f => bufP c xVM f) (View.write_whole_univ (Val := Elt F) cc0_scratch0 fx _))) $$ Hx
    ihave Hvl := (entails_of_eq (full_vl c fvl _)) $$ Hvl
    ihave Hix := (entails_of_eq (full_ix c fix _)) $$ Hix
    set_option sl_exec.maxSteps 6 in sl_exec
    ihave Hcd := (entails_of_eq (full_cd c fcd _)) $$ Hcd
    set_option sl_exec.maxSteps 11 in sl_exec
    ihave Hws := (entails_of_eq (congrArg (fun f => bufP c wsM f) (View.write_whole_univ (Val := Elt F) cc0_scratch2 fws _))) $$ Hws
    ihave Hbs := (entails_of_eq (congrArg (fun f => bufP c bsM f) (View.write_whole_univ (Val := Elt F) cc0_scratch3 fbs _))) $$ Hbs
    set_option sl_exec.lendShare "HL2" in sl_exec
    ihave HC := (entails_of_eq (congrArg (fun f => bufP c cdHM f) (View.write_whole_univ (Val := Elt F) main_v1_2 fC _))) $$ HC
    sl_step
    iapply Hk
    isplitl [H4]; · iexact H4
    isplitl [H5]; · iexact H5
    isplitl [H7]; · iexact H7
    isplitl [HX]; · iexact HX
    isplitl [HwsH]; · iexact HwsH
    isplitl [HbH]; · iexact HbH
    isplitl [HC]; · iexact HC
    isplitl [Hx]; · iexists _; iexact Hx
    isplitl [HL2]; · iexists _; iexact HL2
    isplitl [HL3]; · iexists _; iexact HL3
    isplitl [HL4]; · iexists _; iexact HL4
    isplitl [HL5]; · iexists _; iexact HL5
    isplitl [HL0]; · iexists _; iexact HL0
    isplitl [HL1]; · iexists _; iexact HL1
    isplitl [HL7]; · iexact HL7
    isplitl [HL8]; · iexists _; iexact HL8
    isplitl [HL9]; · iexists _; iexact HL9
    isplitl [HL10]; · iexists _; iexact HL10
    isplitl [HL11]; · iexists _; iexact HL11
    isplitl [HL12]; · iexists _; iexact HL12
    isplitl [HL13]; · iexists _; iexact HL13
    isplitl [HL14]; · iexists _; iexact HL14
    isplitl [HL15]; · iexists _; iexact HL15
    isplitl [HL16]; · iexact HL16
    isplitl [HL17]; · iexact HL17
    isplitl [HL18]; · iexact HL18
    isplitl [HL19]; · iexact HL19
    isplitl [HL20]; · iexact HL20
    isplitl [HL21]; · iexact HL21
    isplitl [HL22]; · iexact HL22
    isplitl [HL23]; · iexact HL23
    isplitl [Hsx]; · iexact Hsx
    isplitl [Ha0]; · iexact Ha0
    isplitl [Ha1]; · iexact Ha1
    isplitl [Hsc2]; · iexact Hsc2
    iexists _; iexact HL6

end Body

end Cert.Proof.KIdeal

end
-- ==== Proof.KLaunch.lean ====
/-
  The launch: the kernel's one region between the host lines, its arrays handed to the body and back, the ring split
  into its slots and the weights into their blocks; what every buffer holds at the end.
-/
module

public import proofs.«01_k».proof.Proof.KBody
public import proofs.«01_k».proof.Proof.Gen.KernelIdeal.Frame
public import Idealize.ShloMosaic.Lib.Pipeline.FrameSuffixV

@[expose] public section

noncomputable section

namespace Cert.Proof.KIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 12 → SemLoc sig := ![.dma (csm 0).sem, .dma (csm 1).sem, .dma (csm 2).sem, .dma (csm 3).sem, .dma (csm 4).sem, .dma (csm 5).sem,
  .dma (csm 6).sem, .dma (csm 7).sem, .dma cc0_scratch9.sem, .dma aux0.sem, .dma aux1.sem, .dma cc0_scratch11.sem]
/-- The kernel's own semaphores are as the launch needs them. -/
theorem ownSemFacts : Pipeline.OwnSemFacts spec0 osem := by decide

/-- The kernel's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellP c 4 ∗ cellP c 5 ∗ cellP c 6 ∗ cellP c 7
      ∗ semP c cc0_scratch9 ∗ semP c aux0 ∗ semP c aux1 ∗ semP c cc0_scratch11) := by
  unfold Pipeline.ownSems0
  rw [bigSep_univ_eq_bigSepL [(0 : Fin 12), 1, 2, 3, 4, 5, 6, 7, 8, 9, 10, 11] (by decide) (by decide)]
  rfl

/-! ## Element sets: the weights' blocks of columns, the ring's slots -/

abbrev WB (b : Fin 63) : Finset S7168x32256.Idx := (Rect.unit (s := S7168x32256) (blkOff b) S7168x512.size (blkOff_inb b)).set
abbrev RS (s : Fin 8) : Finset S8x7168x512.Idx := (Rect.unit (s := S8x7168x512) (slotOff s) S1x7168x512.size (slotOff_inb s)).set

omit [FloatOps F] in
/-- A weight block's view covers the block's elements. -/
theorem blk_set (b : Fin 63) : (blk b).view.set = WB b := View.set_slice_whole _ _
omit [FloatOps F] in
/-- A slot's view covers the slot's elements. -/
theorem rslot_set (s : Fin 8) : (rslot s).view.set = RS s := (View.set_reshape _ _).trans (View.set_slice_whole _ _)

/-- An element is in a block exactly if its column is. -/
theorem mem_WB (b : Fin 63) (y : S7168x32256.Idx) : y ∈ WB b ↔ (y 1).val / 512 = b.val := by
  rw [Rect.mem_set_unit]
  have h0 : (y 0).val < 7168 := (y 0).isLt
  have h1 : (y 1).val < 32256 := (y 1).isLt
  constructor
  · intro H; have a0 : 512 * b.val ≤ (y 1).val ∧ (y 1).val < 512 * b.val + 512 := H 1; omega
  · intro H i; fin_cases i
    · show 0 ≤ (y 0).val ∧ (y 0).val < 0 + 7168; omega
    · show 512 * b.val ≤ (y 1).val ∧ (y 1).val < 512 * b.val + 512; omega
/-- An element is in a slot exactly if its first index is the slot's. -/
theorem mem_RS (s : Fin 8) (y : S8x7168x512.Idx) : y ∈ RS s ↔ (y 0).val = s.val := by
  rw [Rect.mem_set_unit]
  have h1 : (y 1).val < 7168 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
/-- Two blocks share no element. -/
theorem WB_disjoint : ∀ b b' : Fin 63, b ≠ b' → Disjoint (WB b) (WB b') := by
  intro b b' hne; rw [Finset.disjoint_left]; intro y hy hy'; rw [mem_WB] at hy hy'; exact hne (Fin.ext (hy.symm.trans hy'))
/-- The blocks make up the weights. -/
theorem WB_cover : (Finset.univ : Finset (Fin 63)).biUnion WB = Finset.univ := by
  ext y; simp only [Finset.mem_biUnion, Finset.mem_univ, true_and, iff_true]
  have h1 : (y 1).val < 32256 := (y 1).isLt
  exact ⟨⟨(y 1).val / 512, by omega⟩, by rw [mem_WB]⟩
/-- Two slots share no element. -/
theorem RS_disjoint : ∀ s s' : Fin 8, s ≠ s' → Disjoint (RS s) (RS s') := by
  intro s s' hne; rw [Finset.disjoint_left]; intro y hy hy'; rw [mem_RS] at hy hy'; exact hne (Fin.ext (hy.symm.trans hy'))
/-- The slots make up the ring. -/
theorem RS_cover : (Finset.univ : Finset (Fin 8)).biUnion RS = Finset.univ := by
  ext y; simp only [Finset.mem_biUnion, Finset.mem_univ, true_and, iff_true]
  have h0 : (y 0).val < 8 := (y 0).isLt
  exact ⟨⟨(y 0).val, h0⟩, by rw [mem_RS]⟩

/-- A conjunction over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The weights whole are their blocks home; -/
theorem w_eq (c : Dev nD) (XW : Buf (Elt F) (wM.view.loc (c : Thread nD τ))) :
    (((c : Thread nD τ).loc main_arg1) ↦{fullShare} XW : sProp 𝕄) = bigSep Finset.univ (homeP c XW) := by
  rw [Ring.pointsTo_blocks (ℓ := (c : Thread nD τ).loc main_arg1) WB WB_disjoint WB_cover]
  exact bigSep_congr fun b _ => by rw [← blk_set]; rfl
/-- at the body's entry, the first eight apart from the rest. -/
theorem homes_zero (c : Dev nD) (XW : Buf (Elt F) (wM.view.loc (c : Thread nD τ))) :
    bigSep Finset.univ (homeP c XW) = iprop(homeP c XW 0 ∗ homeP c XW 1 ∗ homeP c XW 2 ∗ homeP c XW 3 ∗ homeP c XW 4 ∗ homeP c XW 5 ∗ homeP c XW 6 ∗ homeP c XW 7
      ∗ bigSep (Ring.homeSet 8 0) (homeP c XW)) := by
  have e : (Finset.univ : Finset (Fin 63)) = insert 0 (insert 1 (insert 2 (insert 3 (insert 4 (insert 5 (insert 6 (insert 7 (Ring.homeSet (NB := 63) 8 0)))))))) := by
    ext b; simp only [Finset.mem_univ, Finset.mem_insert, Ring.mem_homeSet, true_iff, Fin.ext_iff]
    have := b.isLt
    show b.val = 0 ∨ b.val = 1 ∨ b.val = 2 ∨ b.val = 3 ∨ b.val = 4 ∨ b.val = 5 ∨ b.val = 6 ∨ b.val = 7 ∨ _
    omega
  rw [e]
  repeat rw [bigSep_insert (by simp [Ring.mem_homeSet, Fin.ext_iff])]
  rfl

omit [FloatOps F] in
/-- Owning a slot is owning its elements of the ring. -/
theorem slotP_eq (c : Dev nD) (s : Fin 8) (f) : slotP c s f = (((c : Thread nD τ).loc cc0_scratch7) ↦[RS s]{fullShare} f : sProp 𝕄) :=
  congrArg (fun S => (_ ↦[S]{fullShare} f : sProp 𝕄)) (rslot_set s)
/-- The ring whole is its slots, and back. -/
theorem ring_split (c : Dev nD) :
    iprop(∃ f : Buf (Elt F) ((c : Thread nD τ).loc cc0_scratch7), ((c : Thread nD τ).loc cc0_scratch7) ↦{fullShare} f)
      ⊢ (iprop((∃ f, slotP c 0 f) ∗ (∃ f, slotP c 1 f) ∗ (∃ f, slotP c 2 f) ∗ (∃ f, slotP c 3 f) ∗ (∃ f, slotP c 4 f) ∗ (∃ f, slotP c 5 f)
          ∗ (∃ f, slotP c 6 f) ∗ ∃ f, slotP c 7 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) RS RS_disjoint RS_cover f).trans (bigSep_fin8 _))) $$ H
  icases H2 with ⟨H0, H1, H2, H3, H4, H5, H6, H7⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  isplitl [H5]; · iexists f; iapply (entails_of_eq (slotP_eq c 5 f).symm); iexact H5
  isplitl [H6]; · iexists f; iapply (entails_of_eq (slotP_eq c 6 f).symm); iexact H6
  iexists f; iapply (entails_of_eq (slotP_eq c 7 f).symm); iexact H7
/-- The eight slots together are the ring. -/
theorem ring_join (c : Dev nD) :
    iprop((∃ f, slotP c 0 f) ∗ (∃ f, slotP c 1 f) ∗ (∃ f, slotP c 2 f) ∗ (∃ f, slotP c 3 f) ∗ (∃ f, slotP c 4 f) ∗ (∃ f, slotP c 5 f)
          ∗ (∃ f, slotP c 6 f) ∗ ∃ f, slotP c 7 f)
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch7) RS RS_disjoint RS_cover f0)
  irw [bigSep_fin8]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  isplitl [H5]; · iexists f5; iapply (entails_of_eq (slotP_eq c 5 f5)); iexact H5
  isplitl [H6]; · iexists f6; iapply (entails_of_eq (slotP_eq c 6 f6)); iexact H6
  iexists f7; iapply (entails_of_eq (slotP_eq c 7 f7)); iexact H7

/-! ## The operands the kernel moves itself -/

section Launch

variable (m : (ℓ : Loc nD τ sig) → Buf (Elt F) ℓ) (ρ : Dev nD → PrngReg)

/-- The operands read, and the one written. -/
abbrev HR : Finset (Ref sig .tc) := {main_arg1, main_arg2, main_arg3, main_v0}
abbrev WR : Finset (Ref sig .tc) := {main_v1_2}

/-- A conjunction over the arrays the kernel reads, written out. -/
theorem bigSep_HR (Φ : Ref sig .tc → sProp 𝕄) : bigSep HR Φ = iprop(Φ main_arg1 ∗ Φ main_arg2 ∗ Φ main_arg3 ∗ Φ main_v0) := by
  unfold HR
  rw [bigSep_insert (by decide), bigSep_insert (by decide), bigSep_insert (by decide), bigSep_singleton]
  rfl
/-- A conjunction over the arrays the kernel copies out, written out. -/
theorem bigSep_WR (Φ : Ref sig .tc → sProp 𝕄) : bigSep WR Φ = Φ main_v1_2 := bigSep_singleton

abbrev st0 (t : Fin cfg0.N) : Memref sig .tc .vmem S8x32 .f32 := win0_0.stage (cfg0.slots t 0)
abbrev st1 (t : Fin cfg0.N) : Memref sig .tc .vmem S8x32 .i32 := win0_1.stage (cfg0.slots t 1)
abbrev st2 (t : Fin cfg0.N) : Memref sig .tc .vmem S1x32 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The body's run at point `t` on the region-entry contents. -/
def runAt (c : Dev nD) (t : Fin cfg0.N) :=
  bodyRun c (V m c main_arg1) (V m c main_v0) (V m c main_arg2) (V m c main_arg3) (st0 t) (hst0 t) (st1 t) (hst1 t) (st2 t) (hst2 t)

/-- What the region leaves in the operand it writes. -/
def Gv (c : Dev nD) : Valuation τ sig (Elt F) := Function.update (V0 m c) (Proc.devRef .tc main_v1_2) (runAt m c t0_0).2.2.2.1
/-- The codes array ends as the body leaves it. -/
theorem Gv_codes (c : Dev nD) : Gv m c (Proc.devRef .tc main_v1_2) = (runAt m c t0_0).2.2.2.1 := Function.update_self ..

/-- What the codes' array holds before and after the one point. -/
def codesAt (c : Dev nD) (n : ℕ) : Valuation τ sig (Elt F) := if n = 0 then V0 m c else Gv m c

def dats (_ : Fin 1) (c : Dev nD) : Dat τ (Elt F) Unit ℕ (UU nD τ) ℕ cfg0 c where
  A w := V m c (Pipeline.arrRef spec0 w)
  after w t := match w with
    | ⟨0, _⟩ => (runAt m c t).1
    | ⟨1, _⟩ => (runAt m c t).2.1
    | ⟨2, _⟩ => (st2 t).view.read (Elt F) (runAt m c t).2.2.1
  Φ i := Pipeline.ΦDRV osem spec0 HR WR (fun c b => V m c b) (fun c b => codesAt m c i.val (Proc.devRef .tc b)) c
  q _ := fullShare
  owed _ := 0

/-- The first window's block ends as the body's top values. -/
theorem after_w0 (c : Dev nD) (t : Fin cfg0.N) : (dats m 0 c).after 0 t = (runAt m c t).1 := by dsimp only [dats]
/-- The second window's block ends as the body's top indices. -/
theorem after_w1 (c : Dev nD) (t : Fin cfg0.N) : (dats m 0 c).after 1 t = (runAt m c t).2.1 := by dsimp only [dats]
/-- The third window's block ends as the body's scales. -/
theorem after_w2 (c : Dev nD) (t : Fin cfg0.N) : (dats m 0 c).after 2 t = (st2 t).view.read (Elt F) (runAt m c t).2.2.1 := by dsimp only [dats]

/-! ## The body obligation -/

/-- The launch's program is the kernel's body. -/
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
/-- The launch's program at a grid point is the body on that point's blocks. -/
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

/-- The region invariant, conjunct by conjunct. -/
theorem Phi_eq (c : Dev nD) (Vr Vw : (c : Dev nD) → (b : Ref sig .tc) → Buf (Elt F) ((c : Thread nD τ).loc b))
    (w6 : Buf (Elt F) (cdHM.view.loc (c : Thread nD τ))) (h6 : Vw c main_v1_2 = w6) :
    Pipeline.ΦDRV osem spec0 HR WR Vr Vw c
      = iprop(((∃ f, bufP c xVM f) ∗ (∃ f, bufP c cdM f) ∗ (∃ f, bufP c wsM f) ∗ (∃ f, bufP c bsM f) ∗ (∃ f, bufP c scM f) ∗ (∃ f, bufP c vlM f) ∗ (∃ f, bufP c ixM f)
            ∗ ∃ f : Buf (Elt F) ((c : Thread nD τ).loc cc0_scratch7), ((c : Thread nD τ).loc cc0_scratch7) ↦{fullShare} f)
          ∗ (cellP c 0 ∗ cellP c 1 ∗ cellP c 2 ∗ cellP c 3 ∗ cellP c 4 ∗ cellP c 5 ∗ cellP c 6 ∗ cellP c 7
            ∗ semP c cc0_scratch9 ∗ semP c aux0 ∗ semP c aux1 ∗ semP c cc0_scratch11)
          ∗ ((((c : Thread nD τ).loc main_arg1) ↦{fullShare} Vr c main_arg1) ∗ bufP c wsHM (Vr c main_arg2) ∗ bufP c bHM (Vr c main_arg3) ∗ bufP c xM (Vr c main_v0))
          ∗ bufP c cdHM w6) := by
  subst h6; unfold Pipeline.ΦDRV
  rw [ownSems0_eq, scopedRest0_eq, bigSep_HR, bigSep_WR]

/-- There is one grid point. -/
theorem fin_N0' (t : Fin cfg0.N) : t = t0_0 := fin_N0 t

set_option maxHeartbeats 1600000 in
set_option backward.isDefEq.respectTransparency.types false in
/-- The body does at the grid point what the launch asks of it. -/
theorem body_obligation (c : Dev nD) : BodyObligation (dats (F := F) m 0 c) (defs₀ (F := F)) 𝒱₀ () Set.univ := fun t => by
  obtain rfl := fin_N0' t
  rw [bigSep_W0, bigSep_W0]
  dsimp only
  simp only [after_w0, after_w1, after_w2]
  rw [show (dats m 0 c).Φ t0_0.castSucc = Pipeline.ΦDRV osem spec0 HR WR (fun c b => V m c b) (fun c b => V0 m c (Proc.devRef .tc b)) c from rfl,
    show (dats m 0 c).Φ t0_0.succ = Pipeline.ΦDRV osem spec0 HR WR (fun c b => V m c b) (fun c b => Gv m c (Proc.devRef .tc b)) c from rfl]
  unfold Dat.owesAt Pipeline.owesWithin
  rw [show (dats m 0 c).owed t0_0.castSucc = 0 from rfl, show (dats m 0 c).owed t0_0.succ = 0 from rfl]
  rw [Phi_eq c _ _ (V m c main_v1_2) rfl, Phi_eq c _ _ _ (Gv_codes m c)]
  unfold owns
  iintro ⟨⟨⟨Hx, Hcd, Hws, Hbs, Hsc, Hvl, Hix, Hr⟩, ⟨Hc0, Hc1, Hc2, Hc3, Hc4, Hc5, Hc6, Hc7, Hsx, Ha0, Ha1, Hsc2⟩, ⟨HW1, HW2, HW3, HX⟩, HC⟩, ⟨%W, -, HW⟩,
    ⟨%d0, %g4, -, H4⟩, ⟨%d1, %g5, -, H5⟩, ⟨%d2, %g7, -, H7⟩⟩
  ihave Hh := (entails_of_eq ((w_eq c (V m c main_arg1)).trans (homes_zero c _))) $$ HW1
  icases Hh with ⟨Hg0, Hg1, Hg2, Hg3, Hg4, Hg5, Hg6, Hg7, Hh⟩
  ihave Hs := (ring_split c) $$ Hr
  icases Hs with ⟨Hs0, Hs1, Hs2, Hs3, Hs4, Hs5, Hs6, Hs7⟩
  sl_rw [prog_eq (F := F) t0_0]
  iapply ((runAt m c t0_0).2.2.2.2 g4 g5 g7 W)
  isplitl [H4 H5 H7 HX HW2 HW3 HC Hx Hcd Hws Hbs Hsc Hvl Hix Hg0 Hg1 Hg2 Hg3 Hg4 Hg5 Hg6 Hg7 Hh Hs0 Hs1 Hs2 Hs3 Hs4 Hs5 Hs6 Hs7 Hc0 Hc1 Hc2 Hc3 Hc4 Hc5 Hc6 Hc7 Hsx Ha0 Ha1 Hsc2 HW]
  · isplitl [H4]; · iexact H4
    isplitl [H5]; · iexact H5
    isplitl [H7]; · iexact H7
    isplitl [HX]; · iexact HX
    isplitl [HW2]; · iexact HW2
    isplitl [HW3]; · iexact HW3
    isplitl [HC]; · iexists _; iexact HC
    isplitl [Hx]; · iexact Hx
    isplitl [Hcd]; · iexact Hcd
    isplitl [Hws]; · iexact Hws
    isplitl [Hbs]; · iexact Hbs
    isplitl [Hsc]; · iexact Hsc
    isplitl [Hvl]; · iexact Hvl
    isplitl [Hix]; · iexact Hix
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hh]; · iexact Hh
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hsx]; · iexact Hsx
    isplitl [Ha0]; · iexact Ha0
    isplitl [Ha1]; · iexact Ha1
    isplitl [Hsc2]; · iexact Hsc2
    iexact HW
  · iintro ⟨H4, H5, H7, HX, HW2, HW3, HC, Hx, Hcd, Hws, Hbs, Hsc, Hvl, Hix, Hh, Hs0, Hs1, Hs2, Hs3, Hs4, Hs5, Hs6, Hs7, Hc0, Hc1, Hc2, Hc3, Hc4, Hc5, Hc6, Hc7, Hsx, Ha0, Ha1, Hsc2, ⟨%W', HW⟩⟩
    isplitl [HX HW2 HW3 HC Hx Hcd Hws Hbs Hsc Hvl Hix Hh Hs0 Hs1 Hs2 Hs3 Hs4 Hs5 Hs6 Hs7 Hc0 Hc1 Hc2 Hc3 Hc4 Hc5 Hc6 Hc7 Hsx Ha0 Ha1 Hsc2]
    · isplitl [Hx Hcd Hws Hbs Hsc Hvl Hix Hs0 Hs1 Hs2 Hs3 Hs4 Hs5 Hs6 Hs7]
      · isplitl [Hx]; · iexact Hx
        isplitl [Hcd]; · iexact Hcd
        isplitl [Hws]; · iexact Hws
        isplitl [Hbs]; · iexact Hbs
        isplitl [Hsc]; · iexact Hsc
        isplitl [Hvl]; · iexact Hvl
        isplitl [Hix]; · iexact Hix
        iapply (ring_join c)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      isplitl [Hc0 Hc1 Hc2 Hc3 Hc4 Hc5 Hc6 Hc7 Hsx Ha0 Ha1 Hsc2]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hsx]; · iexact Hsx
        isplitl [Ha0]; · iexact Ha0
        isplitl [Ha1]; · iexact Ha1
        iexact Hsc2
      isplitl [HX HW2 HW3 Hh]
      · isplitl [Hh]; · iapply (entails_of_eq (w_eq c (V m c main_arg1)).symm); iexact Hh
        isplitl [HW2]; · iexact HW2
        isplitl [HW3]; · iexact HW3
        iexact HX
      iexact HC
    isplitl [HW]
    · iexists W'; isplitr; · ipureintro; exact fun _ _ => Or.inl trivial
      iexact HW
    isplitl [H4]
    · iexists ((st0 t0_0).view.writes (Elt F) g4 [⟨Rect.unit (s := S8x32) ![0, 0] S8x32.size inb_S8x32_S8x32_0_0, (runAt m c t0_0).1⟩])
      isplitr; · ipureintro; exact View.read_writes_full (st0 t0_0).view g4 inb_S8x32_S8x32_0_0 _ []
      iexact H4
    isplitl [H5]
    · iexists ((st1 t0_0).view.writes (Elt F) g5 [⟨Rect.unit (s := S8x32) ![0, 0] S8x32.size inb_S8x32_S8x32_0_0, (runAt m c t0_0).2.1⟩])
      isplitr; · ipureintro; exact View.read_writes_full (st1 t0_0).view g5 inb_S8x32_S8x32_0_0 _ []
      iexact H5
    iexists _; isplitr; · ipureintro; rfl
    iexact H7

/-! ## The run -/

set_option maxHeartbeats 800000 in
/-- The main program is the host's prefix, the launch and the host's tail. -/
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer holds once the host lines after the region have run. -/
def endVal (c : Dev nD) : Valuation τ sig (Elt F) :=
  StableHlo.after (List.flatten [hostOps1]) (Pipeline.withArrays spec0 c (Pipeline.withR (V0 m c) WR c (fun b => Gv m c (Proc.devRef .tc b))) fun w => (dats m 0 c).arrAt w cfg0.N)

/-- From any memory with zero counters, every weakly fair execution of @main terminates with every bypassing buffer at
    `endVal` and every semaphore at zero. -/
theorem run_main : θ_run defs (onTc (τ := τ) (main (F := F))) (s₀ m ρ)
    (fun r => (∀ c : Dev nD, ∀ b ∈ Pipeline.restRefs sig spec0, r.2.mem ((c.tc : Thread nD τ).loc b) = endVal m c (Proc.devRef .tc b)) ∧ r.2.sem = fun _ => 0) :=
  Pipeline.θ_run_frame_dmaR_aroundV cfgs (dats m) (0 : Fin 1) launch0 osem defs₀ 𝒱₀ ownSemFacts HR WR (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := fun c b => Gv m c (Proc.devRef .tc b))
    (hmain := hmainU m) (hA := fun _ _ => rfl) (hin := fun c => .rfl) (hout := fun c => .rfl)
    (Q' := fun r => (∀ c : Dev nD, ∀ b ∈ Pipeline.restRefs sig spec0, r.2.mem ((c.tc : Thread nD τ).loc b) = endVal m c (Proc.devRef .tc b)) ∧ r.2.sem = fun _ => 0)
    (hQ' := fun r h => ⟨fun c b hb => (h.1 c).2 b hb, h.2⟩)

end Launch

end Cert.Proof.KIdeal

end
-- ==== Proof.KFrame.lean ====
/-
  The frame: every weakly fair execution terminates with the arguments unchanged and every semaphore at zero.
-/
module

public import proofs.«01_k».proof.Proof.KLaunch

@[expose] public section

noncomputable section

namespace Cert.Proof.KIdeal

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- A buffer that no host line after the region writes, no window stages and the kernel does not write ends as the
    region found it. -/
theorem endVal_keep (c : Dev nD) (b : Ref sig .tc) (hb : ∀ b' ∈ ([main_v2, main_v3, main_v4, main_v5, main_v6, main_v7, main_v8] : List (Ref sig .tc)), b ≠ b')
    (harr : ∀ w, Pipeline.arrRef spec0 w ≠ b) (hw : b ∉ WR) : endVal m c (Proc.devRef .tc b) = V m c b := by
  unfold endVal
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (hb _ (by decide)))),
    Pipeline.withArrays_of_ne _ c _ _ b harr,
    Pipeline.withR_of_not_mem _ _ _ _ _ hw]

/-- `x` ends as it began. -/
theorem endVal_arg0 (c : Dev nD) : endVal m c (Proc.devRef .tc main_arg0) = m ((c : Thread nD τ).loc main_arg0) :=
  (endVal_keep m c main_arg0 (by decide) (by decide) (by decide)).trans (V_main_arg0 m c)
/-- The weights end as they began. -/
theorem endVal_arg1 (c : Dev nD) : endVal m c (Proc.devRef .tc main_arg1) = m ((c : Thread nD τ).loc main_arg1) :=
  (endVal_keep m c main_arg1 (by decide) (by decide) (by decide)).trans (V_main_arg1 m c)
/-- The weight scales end as they began. -/
theorem endVal_arg2 (c : Dev nD) : endVal m c (Proc.devRef .tc main_arg2) = m ((c : Thread nD τ).loc main_arg2) :=
  (endVal_keep m c main_arg2 (by decide) (by decide) (by decide)).trans (V_main_arg2 m c)
/-- The biases end as they began. -/
theorem endVal_arg3 (c : Dev nD) : endVal m c (Proc.devRef .tc main_arg3) = m ((c : Thread nD τ).loc main_arg3) :=
  (endVal_keep m c main_arg3 (by decide) (by decide) (by decide)).trans (V_main_arg3 m c)

/-- An unscoped buffer that is no window's array is among the launch's other buffers. -/
theorem rest (b : Ref sig .tc) (h : b.isScoped = false) (h' : ∀ w, Pipeline.arrRef spec0 w ≠ b) : b ∈ Pipeline.restRefs sig spec0 :=
  Pipeline.mem_restRefs_of b h h'

/-- THE FRAME: the program ends without fault and its arguments are unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 (rest _ (by decide) (by decide))).trans (endVal_arg0 m c),
    (h.1 c main_arg1 (rest _ (by decide) (by decide))).trans (endVal_arg1 m c),
    (h.1 c main_arg2 (rest _ (by decide) (by decide))).trans (endVal_arg2 m c),
    (h.1 c main_arg3 (rest _ (by decide) (by decide))).trans (endVal_arg3 m c)⟩, h.2⟩) (run_main m ρ)

end Cert.Proof.KIdeal

end
-- ==== Proof.KOut.lean ====
/-
  The vector form of the final selection: eight rounds over the lanes' lists, each taking the best first entry.
-/
module

public import proofs.«01_k».proof.Proof.KBody

@[expose] public section

noncomputable section

namespace Cert.Proof.KIdeal

open Cert.KernelIdeal Cert.KernelIdeal.Gen
open Idealize.ShloMosaic Idealize.ShloMosaic.TcCoe Idealize.SL Idealize.SL.RA Idealize.SL.Sem

variable {F : FTy → Type} [FloatOps F]

/-- The best first value of each row. -/
def topV (s : FVec F S32x128 .f32) : FVec F S32x1 .f32 :=
  shapeCast S32x1 (multiReduction .maximumf [1] S32 s 0xFF800000#32 reduces_S32x128_S32 (.inl rfl) rfl) shapeCasts_S32_S32x1

/-- The lanes whose first value it is. -/
def eqV (s : FVec F S32x128 .f32) : IVec S32x128 1 := cmpf .oeq s (broadcastTo S32x128 (topV s) broadcasts_S32x1_S32x128)

/-- The smallest first index among those lanes. -/
def topI (s : FVec F S32x128 .f32) (t : IVec S32x128 32) : IVec S32x1 32 :=
  shapeCast S32x1 (multiReductionI .minsi [1] S32 (select (eqV s) t (broadcast S32x128 1073741824#32)) 2147483647#32 reduces_S32x128_S32 rfl) shapeCasts_S32_S32x1

/-- The lanes whose first entry is taken. -/
def tkV (s : FVec F S32x128 .f32) (t : IVec S32x128 32) : IVec S32x128 1 :=
  andi (eqV s) (cmpi .eq t (broadcastTo S32x128 (topI s t) broadcasts_S32x1_S32x128))

/-- The lists after one round: a taken entry is dropped. -/
def nextS (p : (ℕ → FVec F S32x128 .f32) × (ℕ → IVec S32x128 32)) : (ℕ → FVec F S32x128 .f32) × (ℕ → IVec S32x128 32) :=
  (fun l => select (tkV (p.1 0) (p.2 0)) (p.1 (l + 1)) (p.1 l), fun l => select (tkV (p.1 0) (p.2 0)) (p.2 (l + 1)) (p.2 l))

/-- The lists before round `j`. -/
def lists (p : (ℕ → FVec F S32x128 .f32) × (ℕ → IVec S32x128 32)) : ℕ → (ℕ → FVec F S32x128 .f32) × (ℕ → IVec S32x128 32)
  | 0 => p
  | j + 1 => nextS (lists p j)

/-- Lane `j` set to a row's value. -/
def outR {α : Type} (j : ℕ) (b : S32x1.Idx → α) (o : S32x128.Idx → α) : S32x128.Idx → α :=
  select (cmpi .eq (iota .tc S32x128 32 [1] iota_S32x128_d1_w32) (broadcast S32x128 (BitVec.ofNat 32 j)))
    (broadcastTo S32x128 (shapeCast S32x1 b shapeCasts_S32x1_S32x1) broadcasts_S32x1_S32x128) o

/-- The output's lanes after `j` rounds. -/
def outV (p : (ℕ → FVec F S32x128 .f32) × (ℕ → IVec S32x128 32)) : ℕ → FVec F S32x128 .f32
  | 0 => broadcast S32x128 (Scalar.ofBits .f32 0x00000000#32)
  | j + 1 => outR j (topV ((lists p j).1 0)) (outV p j)

def outI (p : (ℕ → FVec F S32x128 .f32) × (ℕ → IVec S32x128 32)) : ℕ → IVec S32x128 32
  | 0 => broadcast S32x128 0#32
  | j + 1 => outR j (topI ((lists p j).1 0) ((lists p j).2 0)) (outI p j)

/-- One list lies within the eight. -/
theorem plane_inb (l : ℕ) (a : Fin 3) : (![l % 8, 0, 0] : Fin 3 → ℕ) a + S1x32x128.size a ≤ S8x32x128.size a := by
  have h : l % 8 < 8 := Nat.mod_lt _ (by decide)
  fin_cases a
  · show l % 8 + 1 ≤ 8; omega
  · show 0 + 32 ≤ 32; omega
  · show 0 + 128 ≤ 128; omega

/-- The lists as loaded after the loop. -/
def loaded (c : Dev nD) (p : VlBuf (F := F) c × IxBuf (F := F) c) : (ℕ → FVec F S32x128 .f32) × (ℕ → IVec S32x128 32) :=
  (fun l => shapeCast S32x128 (View.readAt (Elt F) vlM.view (Rect.unit (s := S8x32x128) ![l % 8, 0, 0] S1x32x128.size (plane_inb l)).toLoadRect p.1) shapeCasts_S1x32x128_S32x128,
   fun l => shapeCast S32x128 (View.readAt (Elt F) ixM.view (Rect.unit (s := S8x32x128) ![l % 8, 0, 0] S1x32x128.size (plane_inb l)).toLoadRect p.2) shapeCasts_S1x32x128_S32x128)

variable (c : Dev nD) (XW : Buf (Elt F) (wM.view.loc (c : Thread nD τ)))
  (X0 : Buf (Elt F) (xM.view.loc (c : Thread nD τ))) (X2 : Buf (Elt F) (wsHM.view.loc (c : Thread nD τ))) (X3 : Buf (Elt F) (bHM.view.loc (c : Thread nD τ)))
  (arg4 : Memref sig .tc .vmem S8x32 .f32) (harg4 : arg4.IsWhole)
  (arg5 : Memref sig .tc .vmem S8x32 .i32) (harg5 : arg5.IsWhole)
  (arg7 : Memref sig .tc .vmem S1x32 .f32) (harg7 : arg7.IsWhole)

/-- The codes buffer's contents. -/
abbrev codesBuf : Buf (Elt F) (cdM.view.loc (c : Thread nD τ)) := k0_pay536 (bodyRun.sl.r c X0) (bodyRun.sl.r_1 c X0) k0_pay535
/-- The row scales' contents. -/
abbrev scaleBuf : Buf (Elt F) (scM.view.loc (c : Thread nD τ)) := scM.view.writes (Elt F) scM.view.junk (bodyRun.sl.Hsc_1 c X0)

/-- The running lists after `k` trips, in this body. -/
abbrev bodyTop (k : ℕ) : VlBuf (F := F) c × IxBuf (F := F) c :=
  topAt c fullShare.left XW xM (Memref.isWhole_whole _) wsHM (Memref.isWhole_whole _) bHM (Memref.isWhole_whole _) arg4 harg4 arg5 harg5
    cdHM (Memref.isWhole_whole _) arg7 harg7 xVM (Memref.isWhole_whole _) cc0_scratch9
        cc0_scratch10 cc0_scratch11 (bodyRun.sl.r c X0) (bodyRun.sl.r_1 c X0) (bodyRun.sl.r_2 c X0) k0_pay535
        (codesBuf c X0) (bodyRun.sl.dma0_2 c X2) (bodyRun.sl.dma0_3 c X3) (scaleBuf c X0) (k0_pay530 k0_pay529) k0_pay531 k

set_option maxRecDepth 16384

/-- The names the body gives the lists of round 1. -/
theorem roundsA (p : (ℕ → FVec F S32x128 .f32) × (ℕ → IVec S32x128 32)) (hp : loaded c (bodyTop c XW X0 X2 X3 arg4 harg4 arg5 harg5 arg7 harg7 63) = p) :
    bodyRun.sl.r_4 c XW X0 X2 X3 arg4 harg4 arg5 harg5 arg7 harg7 = (lists p 1).1 0
    ∧ bodyRun.sl.r_6 c XW X0 X2 X3 arg4 harg4 arg5 harg5 arg7 harg7 = (lists p 1).1 1
    ∧ bodyRun.sl.r_8 c XW X0 X2 X3 arg4 harg4 arg5 harg5 arg7 harg7 = (lists p 1).1 2
    ∧ bodyRun.sl.r_10 c XW X0 X2 X3 arg4 harg4 arg5 harg5 arg7 harg7 = (lists p 1).1 3
    ∧ bodyRun.sl.r_12 c XW X0 X2 X3 arg4 harg4 arg5 harg5 arg7 harg7 = (lists p 1).1 4
    ∧ bodyRun.sl.r_14 c XW X0 X2 X3 arg4 harg4 arg5 harg5 arg7 harg7 = (lists p 1).1 5
    ∧ bodyRun.sl.r_16 c XW X0 X2 X3 arg4 harg4 arg5 harg5 arg7 harg7 = (lists p 1).1 6
    ∧ bodyRun.sl.r_5 c XW X0 X2 X3 arg4 harg4 arg5 harg5 arg7 harg7 = (lists p 1).2 0
    ∧ bodyRun.sl.r_7 c XW X0 X2 X3 arg4 harg4 arg5 harg5 arg7 harg7 = (lists p 1).2 1
    ∧ bodyRun.sl.r_9 c XW X0 X2 X3 arg4 harg4 arg5 harg5 arg7 harg7 = (lists p 1).2 2
    ∧ bodyRun.sl.r_11 c XW X0 X2 X3 arg4 harg4 arg5 harg5 arg7 harg7 = (lists p 1).2 3
    ∧ bodyRun.sl.r_13 c XW X0 X2 X3 arg4 harg4 arg5 harg5 arg7 harg7 = (lists p 1).2 4
    ∧ bodyRun.sl.r_15 c XW X0 X2 X3 arg4 harg4 arg5 harg5 arg7 harg7 = (lists p 1).2 5
    ∧ bodyRun.sl.r_17 c XW X0 X2 X3 arg4 harg4 arg5 harg5 arg7 harg7 = (lists p 1).2 6
    ∧ bodyRun.sl.r_18 c XW X0 X2 X3 arg4 harg4 arg5 harg5 arg7 harg7 = outV p 1
    ∧ bodyRun.sl.r_19 c XW X0 X2 X3 arg4 harg4 arg5 harg5 arg7 harg7 = outI p 1
    ∧ bodyRun.sl.r_20 c XW X0 X2 X3 arg4 harg4 arg5 harg5 arg7 harg7 = topV ((lists p 1).1 0) := by
  subst hp
  exact ⟨rfl, rfl, rfl, rfl, rfl, rfl, rfl, rfl, rfl, rfl, rfl, rfl, rfl, rfl, rfl, rfl, rfl⟩

/-- The names it gives the lists of round 3. -/
theorem roundsB (p : (ℕ → FVec F S32x128 .f32) × (ℕ → IVec S32x128 32)) (hp : loaded c (bodyTop c XW X0 X2 X3 arg4 harg4 arg5 harg5 arg7 harg7 63) = p) :
    bodyRun.sl.r_25 c XW X0 X2 X3 arg4 harg4 arg5 harg5 arg7 harg7 = (lists p 3).1 0
    ∧ bodyRun.sl.r_27 c XW X0 X2 X3 arg4 harg4 arg5 harg5 arg7 harg7 = (lists p 3).1 1
    ∧ bodyRun.sl.r_29 c XW X0 X2 X3 arg4 harg4 arg5 harg5 arg7 harg7 = (lists p 3).1 2
    ∧ bodyRun.sl.r_31 c XW X0 X2 X3 arg4 harg4 arg5 harg5 arg7 harg7 = (lists p 3).1 3
    ∧ bodyRun.sl.r_33 c XW X0 X2 X3 arg4 harg4 arg5 harg5 arg7 harg7 = (lists p 3).1 4
    ∧ bodyRun.sl.r_26 c XW X0 X2 X3 arg4 harg4 arg5 harg5 arg7 harg7 = (lists p 3).2 0
    ∧ bodyRun.sl.r_28 c XW X0 X2 X3 arg4 harg4 arg5 harg5 arg7 harg7 = (lists p 3).2 1
    ∧ bodyRun.sl.r_30 c XW X0 X2 X3 arg4 harg4 arg5 harg5 arg7 harg7 = (lists p 3).2 2
    ∧ bodyRun.sl.r_32 c XW X0 X2 X3 arg4 harg4 arg5 harg5 arg7 harg7 = (lists p 3).2 3
    ∧ bodyRun.sl.r_34 c XW X0 X2 X3 arg4 harg4 arg5 harg5 arg7 harg7 = (lists p 3).2 4
    ∧ bodyRun.sl.r_21 c XW X0 X2 X3 arg4 harg4 arg5 harg5 arg7 harg7 = outV p 2
    ∧ bodyRun.sl.r_22 c XW X0 X2 X3 arg4 harg4 arg5 harg5 arg7 harg7 = outI p 2
    ∧ bodyRun.sl.r_23 c XW X0 X2 X3 arg4 harg4 arg5 harg5 arg7 harg7 = topV ((lists p 2).1 0)
    ∧ bodyRun.sl.r_24 c XW X0 X2 X3 arg4 harg4 arg5 harg5 arg7 harg7 = topI ((lists p 2).1 0) ((lists p 2).2 0) := by
  obtain ⟨h4, h6, h8, h10, h12, h14, h16, h5, h7, h9, h11, h13, h15, h17, h18, h19, h20⟩ := roundsA c XW X0 X2 X3 arg4 harg4 arg5 harg5 arg7 harg7 p hp
  unfold bodyRun.sl.r_25 bodyRun.sl.r_27 bodyRun.sl.r_29 bodyRun.sl.r_31 bodyRun.sl.r_33 bodyRun.sl.r_26 bodyRun.sl.r_28 bodyRun.sl.r_30 bodyRun.sl.r_32 bodyRun.sl.r_34 bodyRun.sl.r_21 bodyRun.sl.r_22 bodyRun.sl.r_23 bodyRun.sl.r_24
  simp only [h4, h6, h8, h10, h12, h14, h16, h5, h7, h9, h11, h13, h15, h17, h18, h19, h20]
  generalize hP : lists p 1 = P
  generalize hV : outV p 1 = V
  generalize hI : outI p 1 = I
  have e2 : lists p 2 = nextS P := by rw [← hP]; rfl
  have e3 : lists p 3 = nextS (nextS P) := by rw [← hP]; rfl
  rw [show outV p 2 = outR 1 (topV (P.1 0)) V by rw [← hP, ← hV]; rfl, show outI p 2 = outR 1 (topI (P.1 0) (P.2 0)) I by rw [← hP, ← hI]; rfl, e2, e3]
  exact ⟨rfl, rfl, rfl, rfl, rfl, rfl, rfl, rfl, rfl, rfl, rfl, rfl, rfl, rfl⟩

/-- The names it gives the lists of rounds 4 and 5. -/
theorem roundsC (p : (ℕ → FVec F S32x128 .f32) × (ℕ → IVec S32x128 32)) (hp : loaded c (bodyTop c XW X0 X2 X3 arg4 harg4 arg5 harg5 arg7 harg7 63) = p) :
    bodyRun.sl.r_36 c XW X0 X2 X3 arg4 harg4 arg5 harg5 arg7 harg7 = (lists p 4).1 1
    ∧ bodyRun.sl.r_38 c XW X0 X2 X3 arg4 harg4 arg5 harg5 arg7 harg7 = (lists p 4).1 2
    ∧ bodyRun.sl.r_40 c XW X0 X2 X3 arg4 harg4 arg5 harg5 arg7 harg7 = (lists p 4).1 3
    ∧ bodyRun.sl.r_35 c XW X0 X2 X3 arg4 harg4 arg5 harg5 arg7 harg7 = (lists p 4).2 0
    ∧ bodyRun.sl.r_37 c XW X0 X2 X3 arg4 harg4 arg5 harg5 arg7 harg7 = (lists p 4).2 1
    ∧ bodyRun.sl.r_39 c XW X0 X2 X3 arg4 harg4 arg5 harg5 arg7 harg7 = (lists p 4).2 2
    ∧ bodyRun.sl.r_41 c XW X0 X2 X3 arg4 harg4 arg5 harg5 arg7 harg7 = (lists p 4).2 3
    ∧ bodyRun.sl.r_42 c XW X0 X2 X3 arg4 harg4 arg5 harg5 arg7 harg7 = outV p 4
    ∧ bodyRun.sl.r_43 c XW X0 X2 X3 arg4 harg4 arg5 harg5 arg7 harg7 = outI p 4
    ∧ bodyRun.sl.r_44 c XW X0 X2 X3 arg4 harg4 arg5 harg5 arg7 harg7 = topV ((lists p 4).1 0)
    ∧ bodyRun.sl.r_45 c XW X0 X2 X3 arg4 harg4 arg5 harg5 arg7 harg7 = topI ((lists p 4).1 0) ((lists p 4).2 0)
    ∧ bodyRun.sl.r_46 c XW X0 X2 X3 arg4 harg4 arg5 harg5 arg7 harg7 = tkV ((lists p 4).1 0) ((lists p 4).2 0)
    ∧ bodyRun.sl.r_47 c XW X0 X2 X3 arg4 harg4 arg5 harg5 arg7 harg7 = (lists p 5).1 0 := by
  obtain ⟨h25, h27, h29, h31, h33, h26, h28, h30, h32, h34, h21, h22, h23, h24⟩ := roundsB c XW X0 X2 X3 arg4 harg4 arg5 harg5 arg7 harg7 p hp
  unfold bodyRun.sl.r_36 bodyRun.sl.r_38 bodyRun.sl.r_40 bodyRun.sl.r_35 bodyRun.sl.r_37 bodyRun.sl.r_39 bodyRun.sl.r_41 bodyRun.sl.r_42 bodyRun.sl.r_43 bodyRun.sl.r_44 bodyRun.sl.r_45 bodyRun.sl.r_46 bodyRun.sl.r_47
  simp only [h25, h27, h29, h31, h33, h26, h28, h30, h32, h34, h21, h22, h23, h24]
  generalize hP : lists p 3 = P
  have hV : outV p 4 = outR 3 (topV (P.1 0)) (outR 2 (topV ((lists p 2).1 0)) (outV p 2)) := by rw [← hP]; rfl
  have hI : outI p 4 = outR 3 (topI (P.1 0) (P.2 0)) (outR 2 (topI ((lists p 2).1 0) ((lists p 2).2 0)) (outI p 2)) := by rw [← hP]; rfl
  have e4 : lists p 4 = nextS P := by rw [← hP]; rfl
  have e5 : lists p 5 = nextS (nextS P) := by rw [← hP]; rfl
  rw [hV, hI, e4, e5]
  generalize lists p 2 = Q
  generalize outV p 2 = V
  generalize outI p 2 = I
  exact ⟨rfl, rfl, rfl, rfl, rfl, rfl, rfl, rfl, rfl, rfl, rfl, rfl, rfl⟩

/-- The names it gives the lists of round 6. -/
theorem roundsD (p : (ℕ → FVec F S32x128 .f32) × (ℕ → IVec S32x128 32)) (hp : loaded c (bodyTop c XW X0 X2 X3 arg4 harg4 arg5 harg5 arg7 harg7 63) = p) :
    bodyRun.sl.r_48 c XW X0 X2 X3 arg4 harg4 arg5 harg5 arg7 harg7 = (lists p 6).1 0
    ∧ bodyRun.sl.r_49 c XW X0 X2 X3 arg4 harg4 arg5 harg5 arg7 harg7 = (lists p 6).2 0
    ∧ bodyRun.sl.r_50 c XW X0 X2 X3 arg4 harg4 arg5 harg5 arg7 harg7 = (lists p 6).1 1
    ∧ bodyRun.sl.r_51 c XW X0 X2 X3 arg4 harg4 arg5 harg5 arg7 harg7 = (lists p 6).2 1
    ∧ bodyRun.sl.r_52 c XW X0 X2 X3 arg4 harg4 arg5 harg5 arg7 harg7 = outV p 6
    ∧ bodyRun.sl.r_53 c XW X0 X2 X3 arg4 harg4 arg5 harg5 arg7 harg7 = outI p 6
    ∧ bodyRun.sl.r_54 c XW X0 X2 X3 arg4 harg4 arg5 harg5 arg7 harg7 = topV ((lists p 6).1 0)
    ∧ bodyRun.sl.r_55 c XW X0 X2 X3 arg4 harg4 arg5 harg5 arg7 harg7 = eqV ((lists p 6).1 0)
    ∧ bodyRun.sl.r_56 c XW X0 X2 X3 arg4 harg4 arg5 harg5 arg7 harg7 = topI ((lists p 6).1 0) ((lists p 6).2 0)
    ∧ bodyRun.sl.r_57 c XW X0 X2 X3 arg4 harg4 arg5 harg5 arg7 harg7 = cmpi .eq ((lists p 6).2 0) (broadcastTo S32x128 (topI ((lists p 6).1 0) ((lists p 6).2 0)) broadcasts_S32x1_S32x128) := by
  obtain ⟨h36, h38, h40, h35, h37, h39, h41, h42, h43, h44, h45, h46, h47⟩ := roundsC c XW X0 X2 X3 arg4 harg4 arg5 harg5 arg7 harg7 p hp
  unfold bodyRun.sl.r_48 bodyRun.sl.r_49 bodyRun.sl.r_50 bodyRun.sl.r_51 bodyRun.sl.r_52 bodyRun.sl.r_53 bodyRun.sl.r_54 bodyRun.sl.r_55 bodyRun.sl.r_56 bodyRun.sl.r_57
  simp only [h36, h38, h40, h35, h37, h39, h41, h42, h43, h44, h45, h46, h47]
  have e5 : lists p 5 = nextS (lists p 4) := rfl
  have e6 : lists p 6 = nextS (nextS (lists p 4)) := rfl
  have hV : outV p 6 = outR 5 (topV ((nextS (lists p 4)).1 0)) (outR 4 (topV ((lists p 4).1 0)) (outV p 4)) := rfl
  have hI : outI p 6 = outR 5 (topI ((nextS (lists p 4)).1 0) ((nextS (lists p 4)).2 0)) (outR 4 (topI ((lists p 4).1 0) ((lists p 4).2 0)) (outI p 4)) := rfl
  rw [hV, hI, e6, e5]
  generalize lists p 4 = P
  generalize outV p 4 = V
  generalize outI p 4 = I
  exact ⟨rfl, rfl, rfl, rfl, rfl, rfl, rfl, rfl, rfl, rfl⟩

/-- The body's first result, turned: the top eight values. -/
theorem body_vals : (bodyRun c XW X0 X2 X3 arg4 harg4 arg5 harg5 arg7 harg7).1
    = extractStridedSlice S8x32 ![0, 0] (transpose S128x32 [1, 0]
        (outV (loaded c (bodyTop c XW X0 X2 X3 arg4 harg4 arg5 harg5 arg7 harg7 63)) 8) transposes_S32x128_p1_0_S128x32) slices_S128x32_o0_0_S8x32 := by
  obtain ⟨h48, h49, h50, h51, h52, h53, h54, h55, h56, h57⟩ := roundsD c XW X0 X2 X3 arg4 harg4 arg5 harg5 arg7 harg7 _ rfl
  unfold bodyRun
  dsimp only
  simp only [h48, h49, h50, h51, h52, h53, h54, h55, h56, h57]
  generalize loaded c (bodyTop c XW X0 X2 X3 arg4 harg4 arg5 harg5 arg7 harg7 63) = p
  have hV : outV p 8 = outR 7 (topV ((nextS (lists p 6)).1 0)) (outR 6 (topV ((lists p 6).1 0)) (outV p 6)) := rfl
  rw [hV]
  generalize lists p 6 = P
  generalize outV p 6 = V
  generalize outI p 6 = I
  rfl

/-- The body's second result, turned: the top eight indices. -/
theorem body_idxs : (bodyRun c XW X0 X2 X3 arg4 harg4 arg5 harg5 arg7 harg7).2.1
    = extractStridedSlice S8x32 ![0, 0] (transpose S128x32 [1, 0]
        (outI (loaded c (bodyTop c XW X0 X2 X3 arg4 harg4 arg5 harg5 arg7 harg7 63)) 8) transposes_S32x128_p1_0_S128x32) slices_S128x32_o0_0_S8x32 := by
  obtain ⟨h48, h49, h50, h51, h52, h53, h54, h55, h56, h57⟩ := roundsD c XW X0 X2 X3 arg4 harg4 arg5 harg5 arg7 harg7 _ rfl
  unfold bodyRun
  dsimp only
  simp only [h48, h49, h50, h51, h52, h53, h54, h55, h56, h57]
  generalize loaded c (bodyTop c XW X0 X2 X3 arg4 harg4 arg5 harg5 arg7 harg7 63) = p
  have hV : outI p 8 = outR 7 (topI ((nextS (lists p 6)).1 0) ((nextS (lists p 6)).2 0)) (outR 6 (topI ((lists p 6).1 0) ((lists p 6).2 0)) (outI p 6)) := rfl
  rw [hV]
  generalize lists p 6 = P
  generalize outV p 6 = V
  generalize outI p 6 = I
  rfl

end Cert.Proof.KIdeal

end
-- ==== Proof.KIns.lean ====
/-
  The vector form of one trip: in each group of eight rows, the eight slabs of the running lists after four insertions.
-/
module

public import proofs.«01_k».proof.Proof.KTrip
public import Idealize.ShloMosaic.Lib.WritesUnit
public import Idealize.ShloMosaic.Lib.Pointwise

@[expose] public section

noncomputable section

namespace Cert.Proof.KIdeal

open Cert.KernelIdeal Cert.KernelIdeal.Gen
open Idealize.ShloMosaic Idealize.ShloMosaic.TcCoe Idealize.SL Idealize.SL.RA Idealize.SL.Sem

variable {F : FTy → Type} [FloatOps F]

/-- One insertion of a candidate block into the value slabs. -/
def insV (s : ℕ → FVec F S8x128 .f32) (x : FVec F S8x128 .f32) : ℕ → FVec F S8x128 .f32
  | 0 => maximumf (s 0) x
  | l + 1 => maximumf (s (l + 1)) (minimumf (s l) x)

/-- One insertion of the candidates' positions into the index slabs. -/
def insI (s : ℕ → FVec F S8x128 .f32) (t : ℕ → IVec S8x128 32) (x : FVec F S8x128 .f32) (i : IVec S8x128 32) : ℕ → IVec S8x128 32
  | 0 => select (cmpf .ogt x (s 0)) i (t 0)
  | l + 1 => select (cmpf .ogt x (s (l + 1))) (select (cmpf .ogt x (s l)) (t l) i) (t (l + 1))

/-- The scaled and biased block of candidates. -/
def lgV (a sc : FVec F S8x128 .f32) (w b : Vec F S128 .f32) : FVec F S8x128 .f32 :=
  addf (mulf (mulf a sc) (broadcastTo S8x128 (shapeCast S1x128 w shapeCasts_S128_S1x128) broadcasts_S1x128_S8x128))
    (broadcastTo S8x128 (shapeCast S1x128 b shapeCasts_S128_S1x128) broadcasts_S1x128_S8x128)

/-- Eight rows of one list lie within the eight lists. -/
theorem slab_inb (l : ℕ) (R : Fin 4) (a : Fin 3) : (![l % 8, 8 * R.val, 0] : Fin 3 → ℕ) a + S1x8x128.size a ≤ S8x32x128.size a := by
  have h : l % 8 < 8 := Nat.mod_lt _ (by decide)
  have hR := R.isLt
  fin_cases a
  · show l % 8 + 1 ≤ 8; omega
  · show 8 * R.val + 8 ≤ 32; omega
  · show 0 + 128 ≤ 128; omega

/-- Eight rows lie within the thirty-two. -/
theorem rows_inb : ∀ R : Fin 4, ∀ a, (![8 * R.val, 0] : Fin 2 → ℕ) a + S8x128.size a ≤ S32x128.size a := by decide
/-- Eight rows of 128 columns lie within the block's product. -/
theorem acc_slices : ∀ R G : Fin 4, S32x512.Slices ![8 * R.val, 128 * G.val] S8x128 := by decide

variable (c : Dev nD) (XW : Buf (Elt F) (wM.view.loc (c : Thread nD τ)))
  (gc : Buf (Elt F) (cdM.view.loc (c : Thread nD τ))) (gw : Buf (Elt F) (wsM.view.loc (c : Thread nD τ)))
  (gb : Buf (Elt F) (bsM.view.loc (c : Thread nD τ))) (gs : Buf (Elt F) (scM.view.loc (c : Thread nD τ)))
  (k : Fin k0_t1_loop.trips) (fv : VlBuf (F := F) c) (fi : IxBuf (F := F) c)

/-- The candidates of rows `8 R ‥ 8 R + 7` and columns `128 G ‥ 128 G + 127` of the trip's block. -/
def cand (R G : Fin 4) : FVec F S8x128 .f32 :=
  lgV (extractStridedSlice S8x128 ![8 * R.val, 128 * G.val] (tripRun.sl.r c XW gc k) (acc_slices R G))
    (View.readAt (Elt F) scM.view (Rect.unit (s := S32x128) ![8 * R.val, 0] S8x128.size (rows_inb R)).toLoadRect gs)
    (View.readAt (Elt F) wsM.view (Rect.unit (s := S32256) (k0_off8 k (BitVec.ofNat 32 (128 * G.val))) S128.size (k0_off8_inb k G)).toLoadRect gw)
    (View.readAt (Elt F) bsM.view (Rect.unit (s := S32256) (k0_off8 k (BitVec.ofNat 32 (128 * G.val))) S128.size (k0_off8_inb k G)).toLoadRect gb)

/-- The positions of those columns. -/
def posn (G : Fin 4) : IVec S8x128 32 :=
  addi (iota Kind.tc S8x128 32 [1] iota_S8x128_d1_w32)
    (broadcast S8x128 (Scalar.addi (Scalar.muli (Scf.iv 0#32 1#32 k) 512#32) (BitVec.ofNat 32 (128 * G.val))))

/-- The slabs before the trip. -/
def oldV (R : Fin 4) (l : ℕ) : FVec F S8x128 .f32 :=
  shapeCast S8x128 (View.readAt (Elt F) vlM.view (Rect.unit (s := S8x32x128) ![l % 8, 8 * R.val, 0] S1x8x128.size (slab_inb l R)).toLoadRect fv) shapeCasts_S1x8x128_S8x128
def oldI (R : Fin 4) (l : ℕ) : IVec S8x128 32 :=
  shapeCast S8x128 (View.readAt (Elt F) ixM.view (Rect.unit (s := S8x32x128) ![l % 8, 8 * R.val, 0] S1x8x128.size (slab_inb l R)).toLoadRect fi) shapeCasts_S1x8x128_S8x128

/-- The slabs after each of the four insertions. -/
def v1 (R : Fin 4) := insV (oldV c fv R) (cand c XW gc gw gb gs k R 0)
def v2 (R : Fin 4) := insV (v1 c XW gc gw gb gs k fv R) (cand c XW gc gw gb gs k R 1)
def v3 (R : Fin 4) := insV (v2 c XW gc gw gb gs k fv R) (cand c XW gc gw gb gs k R 2)
def v4 (R : Fin 4) := insV (v3 c XW gc gw gb gs k fv R) (cand c XW gc gw gb gs k R 3)
def i1 (R : Fin 4) := insI (oldV c fv R) (oldI c fi R) (cand c XW gc gw gb gs k R 0) (posn k 0)
def i2 (R : Fin 4) := insI (v1 c XW gc gw gb gs k fv R) (i1 c XW gc gw gb gs k fv fi R) (cand c XW gc gw gb gs k R 1) (posn k 1)
def i3 (R : Fin 4) := insI (v2 c XW gc gw gb gs k fv R) (i2 c XW gc gw gb gs k fv fi R) (cand c XW gc gw gb gs k R 2) (posn k 2)
def i4 (R : Fin 4) := insI (v3 c XW gc gw gb gs k fv R) (i3 c XW gc gw gb gs k fv fi R) (cand c XW gc gw gb gs k R 3) (posn k 3)

/-- Where the `n`-th of the trip's thirty-two slabs lies. -/
def slabOff (n : Fin 32) : Fin 3 → ℕ := ![n.val % 8, 8 * (n.val / 8), 0]
/-- Each stored slab lies within the eight lists. -/
theorem slabOff_inb : ∀ n : Fin 32, ∀ a, slabOff n a + S1x8x128.size a ≤ S8x32x128.size a := by decide
/-- The group of rows of the `n`-th slab. -/
def grp (n : Fin 32) : Fin 4 := ⟨n.val / 8, by omega⟩

variable (q : PosShare TreeShare)
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec F S32x7168 .f32) (v87 : IVec S32x1 32) (v92 : FVec F S32x1 .f32) (v93 : IVec S32x1 32)

set_option maxRecDepth 16384

/-- The trip's value stores are the slabs after four insertions. -/
theorem pieces_vals : (tripRun c q XW arg0 harg0 arg2 harg2 arg3 harg3 arg4 harg4 arg5 harg5 arg6 harg6 arg7 harg7 arg8 harg8 arg17 arg18 arg19 v61 v87 v92 v93 gc gw gb gs k fv fi).1
    = View.tilePieces (s := S8x32x128) (e := .f32) S1x8x128.size slabOff slabOff_inb
      (fun n => shapeCast S1x8x128 (v4 c XW gc gw gb gs k fv (grp n) (n.val % 8)) shapeCasts_S8x128_S1x8x128) 32 (le_refl 32) := rfl

/-- And its index stores likewise. -/
theorem pieces_idxs : (tripRun c q XW arg0 harg0 arg2 harg2 arg3 harg3 arg4 harg4 arg5 harg5 arg6 harg6 arg7 harg7 arg8 harg8 arg17 arg18 arg19 v61 v87 v92 v93 gc gw gb gs k fv fi).2.1
    = View.tilePieces (s := S8x32x128) (e := .i32) S1x8x128.size slabOff slabOff_inb
      (fun n => shapeCast S1x8x128 (i4 c XW gc gw gb gs k fv fi (grp n) (n.val % 8)) shapeCasts_S8x128_S1x8x128) 32 (le_refl 32) := rfl

/-- A trip's value lists are the insertion's values, slab by slab. -/
theorem tripVl_eq : tripVl c q XW arg0 harg0 arg2 harg2 arg3 harg3 arg4 harg4 arg5 harg5 arg6 harg6 arg7 harg7 arg8 harg8 arg17 arg18 arg19 v61 v87 v92 v93 gc gw gb gs k fv fi
    = vlM.view.writes (Elt F) fv (View.tilePieces (s := S8x32x128) (e := .f32) S1x8x128.size slabOff slabOff_inb
      (fun n => shapeCast S1x8x128 (v4 c XW gc gw gb gs k fv (grp n) (n.val % 8)) shapeCasts_S8x128_S1x8x128) 32 (le_refl 32)) := by
  unfold tripVl
  exact congrArg (vlM.view.writes (Elt F) fv) (pieces_vals ..)

/-- A trip's index lists are the insertion's indices, slab by slab. -/
theorem tripIx_eq : tripIx c q XW arg0 harg0 arg2 harg2 arg3 harg3 arg4 harg4 arg5 harg5 arg6 harg6 arg7 harg7 arg8 harg8 arg17 arg18 arg19 v61 v87 v92 v93 gc gw gb gs k fv fi
    = ixM.view.writes (Elt F) fi (View.tilePieces (s := S8x32x128) (e := .i32) S1x8x128.size slabOff slabOff_inb
      (fun n => shapeCast S1x8x128 (i4 c XW gc gw gb gs k fv fi (grp n) (n.val % 8)) shapeCasts_S8x128_S1x8x128) 32 (le_refl 32)) := by
  unfold tripIx
  exact congrArg (ixM.view.writes (Elt F) fi) (pieces_idxs ..)

end Cert.Proof.KIdeal

end
-- ==== Proof.Rank.lean ====
/-
The eight greatest of a row, without the programs. An entry is a value and its position; one entry comes no later than
another (`Le`) if its value is greater, or equal at no later position. A column of slots holds a count (`Holds`) if its
slot `l` comes no later than `t` just when more than `l` of the counted entries do, for every `t` above −∞. Inserting an
entry into a column and taking the best of several columns keep this, and it determines the slots.
-/
module

public import Idealize.ShloMosaic.PureOps.Ideal

@[expose] public section

noncomputable section

namespace Cert.Proof.Rank

/-- Entry `a` comes no later than entry `b`: its value is greater, or equal at no later position. -/
def Le (a b : EReal × ℕ) : Prop := b.1 < a.1 ∨ (a.1 = b.1 ∧ a.2 ≤ b.2)

/-- What an empty slot holds. -/
def pad : EReal × ℕ := (⊥, 2 ^ 30)

/-- The order is reflexive, -/
theorem Le.refl (a : EReal × ℕ) : Le a a := Or.inr ⟨rfl, le_rfl⟩

/-- transitive, -/
theorem Le.trans {a b c : EReal × ℕ} (h : Le a b) (h' : Le b c) : Le a c := by
  rcases h with h | ⟨h, i⟩ <;> rcases h' with h' | ⟨h', i'⟩
  · exact Or.inl (h'.trans h)
  · exact Or.inl (h' ▸ h)
  · exact Or.inl (h ▸ h')
  · exact Or.inr ⟨h.trans h', i.trans i'⟩

/-- antisymmetric -/
theorem Le.antisymm {a b : EReal × ℕ} (h : Le a b) (h' : Le b a) : a = b := by
  rcases h with h | ⟨h, i⟩ <;> rcases h' with h' | ⟨h', i'⟩
  · exact absurd h' h.not_gt
  · exact absurd h (h' ▸ lt_irrefl _)
  · exact absurd h' (h ▸ lt_irrefl _)
  · exact Prod.ext h (le_antisymm i i')

/-- and total. -/
theorem Le.total (a b : EReal × ℕ) : Le a b ∨ Le b a := by
  rcases lt_trichotomy a.1 b.1 with h | h | h
  · exact Or.inr (Or.inl h)
  · rcases le_total a.2 b.2 with i | i
    · exact Or.inl (Or.inr ⟨h, i⟩)
    · exact Or.inr (Or.inr ⟨h.symm, i⟩)
  · exact Or.inl (Or.inl h)

/-- The empty entry comes before no live one. -/
theorem not_pad_le {t : EReal × ℕ} (ht : t.1 ≠ ⊥) : ¬Le pad t := by
  rintro (h | ⟨h, -⟩)
  · exact not_lt_bot h
  · exact ht h.symm

/-- The earlier entry has the greater value. -/
theorem Le.val {a b : EReal × ℕ} (h : Le a b) : b.1 ≤ a.1 := by
  rcases h with h | ⟨h, -⟩
  · exact h.le
  · exact h.ge

/-- The first `m` slots hold the count `n`. -/
def Holds (s : ℕ → EReal × ℕ) (n : EReal × ℕ → ℕ) (m : ℕ) : Prop :=
  ∀ l, l < m → ∀ t : EReal × ℕ, t.1 ≠ ⊥ → (Le (s l) t ↔ l < n t)

/-- The first `m` slots are empty or hold a value above −∞ at a position below `q` whose remainder modulo 128 is `p`. -/
def Within (s : ℕ → EReal × ℕ) (p q m : ℕ) : Prop :=
  ∀ l, l < m → s l = pad ∨ ((s l).1 ≠ ⊥ ∧ (s l).2 < q ∧ (s l).2 % 128 = p)

/-- The values fall from slot to slot. -/
theorem Holds.mono {s : ℕ → EReal × ℕ} {n : EReal × ℕ → ℕ} {m l : ℕ} (h : Holds s n m) {p q : ℕ} (w : Within s p q m)
    (hl : l + 1 < m) : (s (l + 1)).1 ≤ (s l).1 := by
  rcases w (l + 1) hl with e | ⟨e, -, -⟩
  · rw [e]; exact bot_le
  · exact ((h l (by omega) _ e).mpr (Nat.lt_of_succ_lt ((h (l + 1) hl _ e).mp (Le.refl _)))).val

/-- The column after the value `c` at position `i` is offered to it. -/
def ins (s : ℕ → EReal × ℕ) (c : EReal) (i : ℕ) : ℕ → EReal × ℕ
  | 0 => (max (s 0).1 c, if (s 0).1 < c then i else (s 0).2)
  | l + 1 => (max (s (l + 1)).1 (min (s l).1 c),
      if (s (l + 1)).1 < c then (if (s l).1 < c then (s l).2 else i) else (s (l + 1)).2)

/-- Insertion at the first place. -/
theorem ins_zero (s : ℕ → EReal × ℕ) (c : EReal) (i : ℕ) : ins s c i 0 = if (s 0).1 < c then (c, i) else s 0 := by
  unfold ins
  split_ifs with h
  · rw [max_eq_right h.le]
  · rw [max_eq_left (not_lt.mp h)]

/-- Insertion at a later place. -/
theorem ins_succ (s : ℕ → EReal × ℕ) (c : EReal) (i l : ℕ) (h : (s (l + 1)).1 ≤ (s l).1) :
    ins s c i (l + 1) = if (s (l + 1)).1 < c then (if (s l).1 < c then s l else (c, i)) else s (l + 1) := by
  show (_, _) = _
  split_ifs with h1 h2
  · rw [min_eq_left h2.le, max_eq_right h]
  · rw [min_eq_right (not_lt.mp h2), max_eq_right h1.le]
  · rw [max_eq_left ((min_le_right _ _).trans (not_lt.mp h1))]

/-- An offered entry that is not greater than an empty or earlier one comes no earlier. -/
theorem le_of_not_lt {a : EReal × ℕ} {p q i : ℕ} {c : EReal} (ha : a = pad ∨ (a.1 ≠ ⊥ ∧ a.2 < q ∧ a.2 % 128 = p)) (hi : q ≤ i)
    (h : ¬a.1 < c) {t : EReal × ℕ} (ht : t.1 ≠ ⊥) (hc : Le (c, i) t) : Le a t := by
  refine Le.trans ?_ hc
  rcases (not_lt.mp h).lt_or_eq with h | h
  · exact Or.inl h
  · refine Or.inr ⟨h.symm, ?_⟩
    rcases ha with e | ⟨-, e, -⟩
    · subst e
      change c = ⊥ at h
      exact absurd (hc.val.trans h.le) (fun h' => ht (le_bot_iff.mp h'))
    · exact e.le.trans hi

/-- Offering an entry at a later position adds it to the count. -/
theorem Holds.ins {s : ℕ → EReal × ℕ} {n : EReal × ℕ → ℕ} {m p q i : ℕ} (h : Holds s n m) (w : Within s p q m) (c : EReal)
    (hi : q ≤ i) (n' : EReal × ℕ → ℕ) [∀ t, Decidable (Le (c, i) t)]
    (hn : ∀ t, n' t = n t + if Le (c, i) t then 1 else 0) : Holds (ins s c i) n' m := by
  intro l hl t ht
  rw [hn t]
  cases l with
  | zero =>
    rw [ins_zero]
    have h0 := h 0 hl t ht
    split_ifs with h1 h2 h2
    · exact ⟨fun _ => Nat.succ_pos _, fun _ => h2⟩
    · rw [add_zero, ← h0]
      exact ⟨fun h' => absurd h' h2, fun h' => absurd (Le.trans (Or.inl h1) h') h2⟩
    · exact ⟨fun _ => Nat.succ_pos _, fun _ => le_of_not_lt (w 0 hl) hi h1 ht h2⟩
    · rw [add_zero, ← h0]
  | succ l =>
    have hs := h.mono w hl
    rw [ins_succ _ _ _ _ hs]
    have h0 := h l (by omega) t ht
    have h1 := h (l + 1) hl t ht
    have hss : Le (s (l + 1)) t → Le (s l) t := fun h' => h0.mpr (Nat.lt_of_succ_lt (h1.mp h'))
    by_cases hc : Le (c, i) t
    · rw [if_pos hc, Nat.add_lt_add_iff_right, ← h0]
      split_ifs with g1 g2
      · rfl
      · exact ⟨fun _ => le_of_not_lt (w l (by omega)) hi g2 ht hc, fun _ => hc⟩
      · have := le_of_not_lt (w (l + 1) hl) hi g1 ht hc
        exact ⟨fun _ => hss this, fun _ => this⟩
    · rw [if_neg hc, add_zero, ← h1]
      split_ifs with g1 g2
      · exact ⟨fun h' => absurd (Le.trans (Or.inl g2) h') hc, hss⟩
      · exact ⟨fun h' => absurd h' hc, fun h' => absurd (Le.trans (Or.inl g1) h') hc⟩
      · rfl

/-- Offering an entry keeps the slots' form. -/
theorem Within.ins {s : ℕ → EReal × ℕ} {n : EReal × ℕ → ℕ} {m p q i : ℕ} (w : Within s p q m) (h : Holds s n m) (c : EReal)
    (hi : q ≤ i) (hp : i % 128 = p) : Within (ins s c i) p (i + 1) m := by
  have up : ∀ l, l < m → s l = pad ∨ ((s l).1 ≠ ⊥ ∧ (s l).2 < i + 1 ∧ (s l).2 % 128 = p) := fun l hl => by
    rcases w l hl with e | ⟨e, e', e''⟩
    · exact Or.inl e
    · exact Or.inr ⟨e, by omega, e''⟩
  intro l hl
  cases l with
  | zero =>
    rw [ins_zero]
    split_ifs with h1
    · exact Or.inr ⟨fun e => not_lt_bot (e ▸ h1 : (s 0).1 < ⊥), Nat.lt_succ_self i, hp⟩
    · exact up 0 hl
  | succ l =>
    rw [ins_succ _ _ _ _ (h.mono w hl)]
    split_ifs with h1 h2
    · exact up l (by omega)
    · exact Or.inr ⟨fun e => not_lt_bot (e ▸ h1 : (s (l + 1)).1 < ⊥), Nat.lt_succ_self i, hp⟩
    · exact up (l + 1) hl

/-- The best of the first slots and the columns with it taken. -/
structure Best (s : Fin 128 → ℕ → EReal × ℕ) (b : EReal × ℕ) : Prop where
  le : ∀ p, Le b (s p 0)
  mem : ∃ p, s p 0 = b

/-- The column after the best `b` is taken from those that show it. -/
def shift (s : ℕ → EReal × ℕ) (b : EReal × ℕ) (l : ℕ) : EReal × ℕ :=
  open Classical in if s 0 = b then s (l + 1) else s l

/-- One round: what the best comes no later than, and what the columns hold after it. -/
theorem round {s : Fin 128 → ℕ → EReal × ℕ} {n : Fin 128 → EReal × ℕ → ℕ} {m q : ℕ} (h : ∀ p, Holds (s p) (n p) (m + 1))
    (w : ∀ p, Within (s p) p.val q (m + 1)) {b : EReal × ℕ} (hb : Best s b) :
    (∀ t, t.1 ≠ ⊥ → (Le b t ↔ 0 < ∑ p, n p t)) ∧ (b = pad ∨ b.1 ≠ ⊥) ∧
      ∃ n' : Fin 128 → EReal × ℕ → ℕ, (∀ p, Holds (shift (s p) b) (n' p) m) ∧ (∀ p, Within (shift (s p) b) p.val q m) ∧
        ∀ t, t.1 ≠ ⊥ → ∑ p, n' p t = ∑ p, n p t - 1 := by
  classical
  obtain ⟨p0, hp0⟩ := hb.mem
  have hbw : b = pad ∨ (b.1 ≠ ⊥ ∧ b.2 < q ∧ b.2 % 128 = p0.val) := hp0 ▸ w p0 0 (Nat.succ_pos m)
  have key : ∀ t, t.1 ≠ ⊥ → (Le b t ↔ 0 < ∑ p, n p t) := by
    intro t ht
    rw [Finset.sum_pos_iff]
    constructor
    · intro hbt
      exact ⟨p0, Finset.mem_univ _, (h p0 0 (Nat.succ_pos m) t ht).mp (hp0 ▸ hbt)⟩
    · rintro ⟨p, -, hp⟩
      exact (hb.le p).trans ((h p 0 (Nat.succ_pos m) t ht).mpr hp)
  refine ⟨key, hbw.imp id (fun e => e.1), fun p t => if s p 0 = b then n p t - 1 else n p t, ?_, ?_, ?_⟩
  · intro p l hl t ht
    unfold shift
    by_cases e : s p 0 = b
    · rw [if_pos e]
      simp only [if_pos e]
      rw [h p (l + 1) (by omega) t ht]
      omega
    · rw [if_neg e]
      simp only [if_neg e]
      exact h p l (by omega) t ht
  · intro p l hl
    unfold shift
    split_ifs
    · exact w p (l + 1) (by omega)
    · exact w p l (by omega)
  · intro t ht
    by_cases hbt : Le b t
    · have live : b.1 ≠ ⊥ := by
        rcases hbw with e | e
        · exact absurd (e ▸ hbt) (not_pad_le ht)
        · exact e.1
      have only : ∀ p, s p 0 = b ↔ p = p0 := by
        intro p
        constructor
        · intro e
          rcases w p 0 (Nat.succ_pos m) with e' | ⟨-, -, e'⟩
          · exact absurd (by rw [← e, e']; rfl) live
          · rcases hbw with e'' | ⟨-, -, e''⟩
            · exact absurd (by rw [e'']; rfl) live
            · rw [e, e''] at e'
              exact Fin.ext e'.symm
        · rintro rfl; exact hp0
      have pos := (h p0 0 (Nat.succ_pos m) t ht).mp (hp0 ▸ hbt)
      rw [← Finset.add_sum_erase _ _ (Finset.mem_univ p0), ← Finset.add_sum_erase _ (fun p => n p t) (Finset.mem_univ p0)]
      have hrest : ∑ p ∈ Finset.univ.erase p0, (if s p 0 = b then n p t - 1 else n p t) = ∑ p ∈ Finset.univ.erase p0, n p t :=
        Finset.sum_congr rfl fun p hp => if_neg fun e => (Finset.ne_of_mem_erase hp) ((only p).mp e)
      rw [hrest]
      simp only [if_pos hp0]
      omega
    · have zero : ∑ p, n p t = 0 := Nat.eq_zero_of_not_pos fun h' => hbt ((key t ht).mpr h')
      rw [zero]
      refine Finset.sum_eq_zero fun p _ => ?_
      have : n p t = 0 := (Finset.sum_eq_zero_iff.mp zero) p (Finset.mem_univ p)
      simp only [this]
      split_ifs <;> rfl

/-- An entry, empty or above −∞, is determined by what it comes no later than. -/
theorem eq_of_le_iff {a b : EReal × ℕ} (ha : a = pad ∨ a.1 ≠ ⊥) (hb : b = pad ∨ b.1 ≠ ⊥)
    (h : ∀ t, t.1 ≠ ⊥ → (Le a t ↔ Le b t)) : a = b := by
  rcases ha with ha | ha <;> rcases hb with hb | hb
  · rw [ha, hb]
  · exact absurd (ha ▸ (h b hb).mpr (Le.refl b)) (not_pad_le hb)
  · exact absurd (hb ▸ (h a ha).mp (Le.refl a)) (not_pad_le ha)
  · exact ((h b hb).mpr (Le.refl b)).antisymm ((h a ha).mp (Le.refl a))

/-- How many of the positions `S` hold entries no later than `t`. -/
def cnt (v : ℕ → EReal) (S : Finset ℕ) (t : EReal × ℕ) : ℕ :=
  open Classical in (S.filter fun j => Le (v j, j) t).card

/-- No column, no entry counted. -/
theorem cnt_empty (v : ℕ → EReal) (t : EReal × ℕ) : cnt v ∅ t = 0 := by simp [cnt]

/-- One column more counts one more if its entry comes no later. -/
theorem cnt_insert (v : ℕ → EReal) (S : Finset ℕ) (j : ℕ) (hj : j ∉ S) (t : EReal × ℕ) [Decidable (Le (v j, j) t)] :
    cnt v (insert j S) t = cnt v S t + if Le (v j, j) t then 1 else 0 := by
  classical
  unfold cnt
  rw [Finset.filter_insert]
  split_ifs with h
  · rw [Finset.card_insert_of_notMem (fun h' => hj (Finset.mem_filter.mp h').1)]
  · rfl

/-- The first `a` positions of lane `p`. -/
def seen (p a : ℕ) : Finset ℕ := (Finset.range a).image fun g => 128 * g + p

/-- At first a lane has seen nothing. -/
theorem seen_zero (p : ℕ) : seen p 0 = ∅ := rfl

/-- A lane sees one column more. -/
theorem seen_succ (p a : ℕ) : seen p (a + 1) = insert (128 * a + p) (seen p a) := by
  unfold seen; rw [Finset.range_add_one, Finset.image_insert]

/-- The next column is new. -/
theorem notMem_seen (p a : ℕ) : 128 * a + p ∉ seen p a := by
  unfold seen
  intro h
  obtain ⟨g, hg, e⟩ := Finset.mem_image.mp h
  have := Finset.mem_range.mp hg
  omega

/-- The lanes' counts add up to the row's. -/
theorem sum_cnt_seen (v : ℕ → EReal) (a : ℕ) (t : EReal × ℕ) :
    ∑ p : Fin 128, cnt v (seen p.val a) t = cnt v (Finset.range (128 * a)) t := by
  classical
  unfold cnt
  rw [← Finset.card_biUnion]
  · congr 1
    ext j
    simp only [Finset.mem_biUnion, Finset.mem_univ, true_and, Finset.mem_filter, seen, Finset.mem_image, Finset.mem_range]
    constructor
    · rintro ⟨p, ⟨g, hg, rfl⟩, h⟩
      exact ⟨by have := p.isLt; omega, h⟩
    · rintro ⟨hj, h⟩
      exact ⟨⟨j % 128, Nat.mod_lt _ (by norm_num)⟩, ⟨j / 128, by omega, by show 128 * (j / 128) + j % 128 = j; omega⟩, h⟩
  · intro p _ p' _ hne
    refine Finset.disjoint_left.mpr fun j hj hj' => hne ?_
    simp only [Finset.mem_filter, seen, Finset.mem_image, Finset.mem_range] at hj hj'
    obtain ⟨⟨g, -, e⟩, -⟩ := hj
    obtain ⟨⟨g', -, e'⟩, -⟩ := hj'
    exact Fin.ext (by have := p.isLt; have := p'.isLt; omega)

/-- What a column holds once the first `a` positions of lane `p` have been offered to it. -/
def Col (v : ℕ → EReal) (p a : ℕ) (s : ℕ → EReal × ℕ) : Prop := Holds s (cnt v (seen p a)) 8 ∧ Within s p (128 * a + p) 8

/-- Empty lists hold the top eight of no columns. -/
theorem col_zero (v : ℕ → EReal) (p : ℕ) (s : ℕ → EReal × ℕ) (h : ∀ l, l < 8 → s l = pad) : Col v p 0 s :=
  ⟨fun l hl t ht => by rw [h l hl, seen_zero, cnt_empty]; exact ⟨fun h' => absurd h' (not_pad_le ht), fun h' => absurd h' (Nat.not_lt_zero l)⟩,
    fun l hl => Or.inl (h l hl)⟩

/-- The property is of the eight entries only. -/
theorem Col.congr {v : ℕ → EReal} {p a : ℕ} {s s' : ℕ → EReal × ℕ} (h : Col v p a s) (e : ∀ l, l < 8 → s' l = s l) : Col v p a s' :=
  ⟨fun l hl => by rw [e l hl]; exact h.1 l hl, fun l hl => by rw [e l hl]; exact h.2 l hl⟩

/-- Insertion of the next column keeps the property. -/
theorem Col.step {v : ℕ → EReal} {p a : ℕ} {s : ℕ → EReal × ℕ} (hp : p < 128) (h : Col v p a s) :
    Col v p (a + 1) (ins s (v (128 * a + p)) (128 * a + p)) := by
  classical
  refine ⟨h.1.ins h.2 _ le_rfl _ fun t => ?_, fun l hl => ?_⟩
  · rw [seen_succ, cnt_insert _ _ _ (notMem_seen p a)]
  · rcases h.2.ins h.1 (v (128 * a + p)) le_rfl (by omega) l hl with e | ⟨e, e', e''⟩
    · exact Or.inl e
    · exact Or.inr ⟨e, by omega, e''⟩

end Cert.Proof.Rank

end
-- ==== Proof.KSlot.lean ====
/-
  The trip at one row and one lane: the eight entries there after the trip are the entries before it with the trip's
  four candidates of that lane inserted.
-/
module

public import proofs.«01_k».proof.Proof.KIns
public import proofs.«01_k».proof.Proof.Rank
public import Idealize.ShloMosaic.Lib.VecWindow

@[expose] public section

noncomputable section

namespace Cert.Proof.KIdeal

open Cert.KernelIdeal Cert.KernelIdeal.Gen
open Idealize.ShloMosaic Idealize.ShloMosaic.TcCoe Idealize.SL Idealize.SL.RA Idealize.SL.Sem

set_option maxRecDepth 16384

/-- A slab with a leading dimension put in. -/
theorem castUp {α : Type} (x : S8x128.Idx → α) (r : Fin 8) (d : Fin 128) :
    shapeCast S1x8x128 x shapeCasts_S8x128_S1x8x128 (ix3 0 r d) = x (ix2 r d) := by
  pointwise []

/-- A slab with its leading dimension taken out. -/
theorem castDown {α : Type} (x : S1x8x128.Idx → α) (r : Fin 8) (d : Fin 128) :
    shapeCast S8x128 x shapeCasts_S1x8x128_S8x128 (ix2 r d) = x (ix3 0 r d) := by
  pointwise []

/-- A load through a unit-stride rectangle, at an index, reads the view at the index shifted by the offsets. -/
theorem load_at {κ : Kind} {sp : Space} {s : Shape} {e : EltTy} {Val : EltTy → Type} (v : View sig κ sp s e) (f : v.ty.Contents Val)
    {off size : Fin s.rank → ℕ} (inb : ∀ a, off a + size a ≤ s.size a) (x : (Rect.unit off size inb).toLoadRect.shape.Idx) (y : s.Idx)
    (h : ∀ a, (y a).val = off a + (x a).val) : v.readAt Val (Rect.unit off size inb).toLoadRect f x = v.read Val f y :=
  congrArg (v.read Val f) (funext fun a => Fin.ext (by
    show off a + 1 * (x a).val = (y a).val
    rw [h a, Nat.one_mul]))

variable (c : Dev nD) (XW : Buf (Elt Ideal) (wM.view.loc (c : Thread nD τ)))
  (gc : Buf (Elt Ideal) (cdM.view.loc (c : Thread nD τ))) (gw : Buf (Elt Ideal) (wsM.view.loc (c : Thread nD τ)))
  (gb : Buf (Elt Ideal) (bsM.view.loc (c : Thread nD τ))) (gs : Buf (Elt Ideal) (scM.view.loc (c : Thread nD τ)))
  (k : Fin k0_t1_loop.trips) (fv : VlBuf (F := Ideal) c) (fi : IxBuf (F := Ideal) c)

/-- The row that is the `r`-th of the `R`-th group. -/
def rowOf (R : Fin 4) (r : Fin 8) : Fin 32 := ⟨8 * R.val + r.val, by omega⟩

/-- Every row is in one of the four groups. -/
theorem row_split (r : Fin 32) : ∃ R r', r = rowOf R r' :=
  ⟨⟨r.val / 8, by omega⟩, ⟨r.val % 8, by omega⟩, Fin.ext (by show r.val = 8 * (r.val / 8) + r.val % 8; omega)⟩

/-- Slot `l`. -/
def slot (l : ℕ) : Fin 8 := ⟨l % 8, Nat.mod_lt _ (by decide)⟩

/-- The eight entries of a row and a lane. -/
def slots (r : Fin 32) (d : Fin 128) (l : ℕ) : EReal × ℕ :=
  (vlM.view.read (Elt Ideal) fv (ix3 (slot l) r d), (ixM.view.read (Elt Ideal) fi (ix3 (slot l) r d)).toNat)

/-- A list's values before a trip, at an index. -/
theorem oldV_at (R : Fin 4) (l : ℕ) (r : Fin 8) (d : Fin 128) :
    oldV c fv R l (ix2 r d) = vlM.view.read (Elt Ideal) fv (ix3 (slot l) (rowOf R r) d) := by
  unfold oldV
  rw [castDown]
  refine load_at _ _ _ _ _ fun a => ?_
  fin_cases a
  · rfl
  · rfl
  · exact (Nat.zero_add _).symm

/-- A list's indices before a trip, at an index. -/
theorem oldI_at (R : Fin 4) (l : ℕ) (r : Fin 8) (d : Fin 128) :
    oldI c fi R l (ix2 r d) = ixM.view.read (Elt Ideal) fi (ix3 (slot l) (rowOf R r) d) := by
  unfold oldI
  rw [castDown]
  refine load_at _ _ _ _ _ fun a => ?_
  fin_cases a
  · rfl
  · rfl
  · exact (Nat.zero_add _).symm

/-- One vector insertion, at an index, is the insertion of one entry. -/
theorem ins_at (s : ℕ → FVec Ideal S8x128 .f32) (t : ℕ → IVec S8x128 32) (x : FVec Ideal S8x128 .f32) (i : IVec S8x128 32)
    (r : Fin 8) (d : Fin 128) (u : ℕ → EReal × ℕ) (hu : ∀ l, (s l (ix2 r d), (t l (ix2 r d)).toNat) = u l) (l : ℕ) :
    ((insV s x l (ix2 r d), (insI s t x i l (ix2 r d)).toNat) : EReal × ℕ) = Rank.ins u (x (ix2 r d)) (i (ix2 r d)).toNat l := by
  obtain rfl : (fun l => ((s l (ix2 r d), (t l (ix2 r d)).toNat) : EReal × ℕ)) = u := funext hu
  cases l with
  | zero =>
    have e : insI s t x i 0 (ix2 r d) = if s 0 (ix2 r d) < x (ix2 r d) then i (ix2 r d) else t 0 (ix2 r d) := by
      pointwise [insI]
    have e' : insV s x 0 (ix2 r d) = max (s 0 (ix2 r d)) (x (ix2 r d)) := by
      pointwise [insV]
    rw [e, e']
    unfold Rank.ins
    dsimp only
    split_ifs <;> rfl
  | succ l =>
    have e : insI s t x i (l + 1) (ix2 r d) = if s (l + 1) (ix2 r d) < x (ix2 r d) then
        (if s l (ix2 r d) < x (ix2 r d) then t l (ix2 r d) else i (ix2 r d)) else t (l + 1) (ix2 r d) := by
      pointwise [insI]
    have e' : insV s x (l + 1) (ix2 r d) = max (s (l + 1) (ix2 r d)) (min (s l (ix2 r d)) (x (ix2 r d))) := by
      pointwise [insV]
    rw [e, e']
    unfold Rank.ins
    dsimp only
    split_ifs <;> rfl

/-- A position word of the trip. -/
theorem posn_at (G : Fin 4) (r : Fin 8) (d : Fin 128) : (posn k G (ix2 r d)).toNat = 128 * (4 * k.val + G.val) + d.val := by
  have e : posn k G (ix2 r d) = IntOp.addi (BitVec.ofNat 32 d.val)
      (Scalar.addi (Scalar.muli (Scf.iv 0#32 1#32 k.val) 512#32) (BitVec.ofNat 32 (128 * G.val))) := by
    pointwise [posn]
  have h : ∀ (k : Fin k0_t1_loop.trips) (G : Fin 4),
      (Scalar.addi (Scalar.muli (Scf.iv 0#32 1#32 k.val) 512#32) (BitVec.ofNat 32 (128 * G.val))).toNat = 512 * k.val + 128 * G.val := by
    decide +kernel
  have h' := h k G
  have hk : k.val < 63 := Nat.lt_of_lt_of_eq k.isLt trips_eq
  rw [e]
  show (BitVec.ofNat 32 d.val + _).toNat = _
  rw [BitVec.toNat_add, h', BitVec.toNat_ofNat]
  omega

/-- The slab store that holds a row and a slot. -/
theorem read_slabs {e : EltTy} (v : View sig .tc .vmem S8x32x128 e) (f : v.ty.Contents (Elt Ideal))
    (P : Fin 32 → S1x8x128.Idx → Elt Ideal e) (l : Fin 8) (R : Fin 4) (r : Fin 8) (d : Fin 128) :
    v.read (Elt Ideal) (v.writes (Elt Ideal) f (View.tilePieces (s := S8x32x128) S1x8x128.size slabOff slabOff_inb P 32 (le_refl 32))) (ix3 l (rowOf R r) d)
      = P ⟨8 * R.val + l.val, by omega⟩ (ix3 0 r d) := by
  have key : ∀ (j : ℕ) (hj : j ≤ 32), 8 * R.val + l.val < j →
      v.read (Elt Ideal) (v.writes (Elt Ideal) f (View.tilePieces (s := S8x32x128) S1x8x128.size slabOff slabOff_inb P j hj)) (ix3 l (rowOf R r) d)
        = P ⟨8 * R.val + l.val, by omega⟩ (ix3 0 r d) := by
    intro j
    induction j with
    | zero => intro _ h; exact absurd h (Nat.not_lt_zero _)
    | succ j ih =>
      intro hj h
      rw [View.tilePieces_succ]
      by_cases hn : j = 8 * R.val + l.val
      · subst hn
        refine View.read_writes_cons_unit_of_mem v f (slabOff_inb _) _ _ _ (ix3 0 r d) rfl fun a => ?_
        fin_cases a
        · show l.val = (8 * R.val + l.val) % 8 + 0; omega
        · show 8 * R.val + r.val = 8 * ((8 * R.val + l.val) / 8) + r.val; omega
        · exact (Nat.zero_add _).symm
      · by_cases hl : l.val = j % 8
        · rw [View.read_writes_cons_unit_of_not_mem v f (slabOff_inb ⟨j, hj⟩) (P ⟨j, hj⟩) _ _ rfl (1 : Fin 3) (by
            show 8 * R.val + r.val < 8 * (j / 8) ∨ 8 * (j / 8) + 8 ≤ 8 * R.val + r.val; omega)]
          exact ih _ (by omega)
        · rw [View.read_writes_cons_unit_of_not_mem v f (slabOff_inb ⟨j, hj⟩) (P ⟨j, hj⟩) _ _ rfl (0 : Fin 3) (by
            show l.val < j % 8 ∨ j % 8 + 1 ≤ l.val; omega)]
          exact ih _ (by omega)
  exact key 32 (le_refl 32) (by omega)

variable (q : PosShare TreeShare)
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec Ideal S32x7168 .f32) (v87 : IVec S32x1 32) (v92 : FVec Ideal S32x1 .f32) (v93 : IVec S32x1 32)

/-- The candidate of a group of columns, at a row and a lane. -/
def cnd (R G : Fin 4) (r : Fin 8) (d : Fin 128) : EReal := cand c XW gc gw gb gs k R G (ix2 r d)

/-- ONE TRIP at a row and a lane: four insertions. -/
theorem trip_slots (R : Fin 4) (r : Fin 8) (d : Fin 128) (l : ℕ) :
    slots c (tripVl c q XW arg0 harg0 arg2 harg2 arg3 harg3 arg4 harg4 arg5 harg5 arg6 harg6 arg7 harg7 arg8 harg8 arg17 arg18 arg19 v61 v87 v92 v93 gc gw gb gs k fv fi)
        (tripIx c q XW arg0 harg0 arg2 harg2 arg3 harg3 arg4 harg4 arg5 harg5 arg6 harg6 arg7 harg7 arg8 harg8 arg17 arg18 arg19 v61 v87 v92 v93 gc gw gb gs k fv fi) (rowOf R r) d l
      = Rank.ins (Rank.ins (Rank.ins (Rank.ins (slots c fv fi (rowOf R r) d)
          (cnd c XW gc gw gb gs k R 0 r d) (128 * (4 * k.val + 0) + d.val)) (cnd c XW gc gw gb gs k R 1 r d) (128 * (4 * k.val + 1) + d.val))
          (cnd c XW gc gw gb gs k R 2 r d) (128 * (4 * k.val + 2) + d.val)) (cnd c XW gc gw gb gs k R 3 r d) (128 * (4 * k.val + 3) + d.val) (l % 8) := by
  have h : ∀ G : Fin 4, 128 * (4 * k.val + G.val) + d.val = (posn k G (ix2 r d)).toNat := fun G => (posn_at k G r d).symm
  have h0 := h 0; have h1 := h 1; have h2 := h 2; have h3 := h 3
  have e0 : ∀ l, ((oldV c fv R l (ix2 r d), (oldI c fi R l (ix2 r d)).toNat) : EReal × ℕ) = slots c fv fi (rowOf R r) d l := fun l => by
    rw [oldV_at, oldI_at]; rfl
  have e1 := fun l => ins_at (oldV c fv R) (oldI c fi R) (cand c XW gc gw gb gs k R 0) (posn k 0) r d _ e0 l
  have e2 := fun l => ins_at (v1 c XW gc gw gb gs k fv R) (i1 c XW gc gw gb gs k fv fi R) (cand c XW gc gw gb gs k R 1) (posn k 1) r d _ e1 l
  have e3 := fun l => ins_at (v2 c XW gc gw gb gs k fv R) (i2 c XW gc gw gb gs k fv fi R) (cand c XW gc gw gb gs k R 2) (posn k 2) r d _ e2 l
  have e4 := fun l => ins_at (v3 c XW gc gw gb gs k fv R) (i3 c XW gc gw gb gs k fv fi R) (cand c XW gc gw gb gs k R 3) (posn k 3) r d _ e3 l
  have eR : grp ⟨8 * R.val + (slot l).val, by have := (slot l).isLt; omega⟩ = R := Fin.ext (by
    have := (slot l).isLt
    show (8 * R.val + (slot l).val) / 8 = R.val; omega)
  have el : (8 * R.val + (slot l).val) % 8 = l % 8 := by
    show (8 * R.val + l % 8) % 8 = l % 8; omega
  refine Eq.trans ?_ (e4 (l % 8)) |>.trans ?_
  · unfold slots
    rw [tripVl_eq, tripIx_eq, read_slabs, read_slabs, castUp, castUp]
    dsimp only
    rw [eR, el]
    rfl
  · rw [← h0, ← h1, ← h2, ← h3]
    rfl

end Cert.Proof.KIdeal

end
-- ==== Proof.KLogit.lean ====
/-
  The candidates of a trip are the logits of the trip's columns, computed from the buffers the loop reads.
-/
module

public import proofs.«01_k».proof.Proof.KSlot

@[expose] public section

noncomputable section

namespace Cert.Proof.KIdeal

open Cert.KernelIdeal Cert.KernelIdeal.Gen
open Idealize.ShloMosaic Idealize.ShloMosaic.TcCoe Idealize.SL Idealize.SL.RA Idealize.SL.Sem

set_option maxRecDepth 16384

variable (c : Dev nD) (XW : Buf (Elt Ideal) (wM.view.loc (c : Thread nD τ)))
  (gc : Buf (Elt Ideal) (cdM.view.loc (c : Thread nD τ))) (gw : Buf (Elt Ideal) (wsM.view.loc (c : Thread nD τ)))
  (gb : Buf (Elt Ideal) (bsM.view.loc (c : Thread nD τ))) (gs : Buf (Elt Ideal) (scM.view.loc (c : Thread nD τ)))
  (k : Fin k0_t1_loop.trips) (fv : VlBuf (F := Ideal) c) (fi : IxBuf (F := Ideal) c)

/-- The logit of a row and a column, from the codes, the weights, the row scales, the weight scales and the bias. -/
def logit (r : Fin 32) (j : ℕ) : EReal :=
  if h : j < 32256 then
    (∑ x : Fin 7168, cdM.view.read (Elt Ideal) gc (ix2 r x) * wM.view.read (Elt Ideal) XW (ix2 x ⟨j, h⟩))
        * scM.view.read (Elt Ideal) gs (ix2 r ⟨j % 128, Nat.mod_lt _ (by decide)⟩)
        * wsM.view.read (Elt Ideal) gw (ix1 ⟨j, h⟩) + bsM.view.read (Elt Ideal) gb (ix1 ⟨j, h⟩)
  else ⊥

/-- A slot read at an index is the ring read there. -/
theorem slot_read (s : Fin 8) (f : Buf (Elt Ideal) ((rslot s).view.loc (c : Thread nD τ))) (x : Fin 7168) (d : Fin 512) :
    ringM.view.read (Elt Ideal) f (ix3 s x d) = (rslot s).view.read (Elt Ideal) f (ix2 x d) := by
  have e : shapeCast S7168x512 (fun i : S1x7168x512.Idx => i) shapeCasts_S1x7168x512_S7168x512 (ix2 x d) = ix3 0 x d := by
    pointwise []
  refine Eq.trans ?_ (congrArg (fun i => ringM.view.read (Elt Ideal) f ((Rect.unit (s := S8x7168x512) (slotOff s) S1x7168x512.size (slotOff_inb s)).emb i)) e).symm
  refine congrArg (ringM.view.read (Elt Ideal) f) (funext fun a => Fin.ext ?_)
  fin_cases a
  · rfl
  · show x.val = 0 + 1 * x.val; omega
  · show d.val = 0 + 1 * d.val; omega

/-- The slot's block, as the trip loads it. -/
theorem block_at (x : Fin 7168) (d : Fin 512) (h : 512 * k.val + d.val < 32256) :
    tripRun.sl.v394 c XW k (ix3 0 x d) = wM.view.read (Elt Ideal) XW (ix2 x ⟨512 * k.val + d.val, h⟩) := by
  have hk : k.val < 63 := Nat.lt_of_lt_of_eq k.isLt trips_eq
  unfold tripRun.sl.v394
  refine (load_at ringM.view _ _ _ (ix3 (Ring.sl 8 k.val) x d) fun a => ?_).trans ?_
  · have h4 := congrFun (k0_off4_eq k) a
    refine Eq.trans ?_ (congrArg (· + (ix3 (0 : Fin 1) x d a).val) h4.symm)
    fin_cases a
    · rfl
    · exact (Nat.zero_add _).symm
    · exact (Nat.zero_add _).symm
  · refine (slot_read c (Ring.sl 8 k.val) _ x d).trans ?_
    rw [View.read_writes_whole]
    refine congrArg (wM.view.read (Elt Ideal) XW) (funext fun a => Fin.ext ?_)
    have hb : (Ring.bk 63 k.val).val = k.val := Nat.mod_eq_of_lt hk
    fin_cases a
    · show 0 + 1 * x.val = x.val; omega
    · show 512 * (Ring.bk 63 k.val).val + 1 * d.val = 512 * k.val + d.val; omega

/-- An element of a block's product is the sum over the row's codes. -/
theorem acc_at (r : Fin 32) (d : Fin 512) (h : 512 * k.val + d.val < 32256) :
    tripRun.sl.r c XW gc k (ix2 r d) = ∑ x : Fin 7168, cdM.view.read (Elt Ideal) gc (ix2 r x) * wM.view.read (Elt Ideal) XW (ix2 x ⟨512 * k.val + d.val, h⟩) := by
  have e : tripRun.sl.r c XW gc k (ix2 r d) = ∑ x : Fin 7168, View.readAt (Elt Ideal) cdM.view
      (Rect.unit (s := S32x7168) ![0, 0] S32x7168.size inb_S32x7168_S32x7168_0_0).toLoadRect gc (ix2 r x) * tripRun.sl.v394 c XW k (ix3 0 x d) := by
    pointwise [tripRun.sl.r, k0_pay1]
  rw [e]
  refine Finset.sum_congr rfl fun x _ => ?_
  rw [block_at c XW k x d h, load_at (y := ix2 r x)]
  intro a
  fin_cases a
  · exact (Nat.zero_add _).symm
  · exact (Nat.zero_add _).symm

/-- A trip's column lies in the row. -/
theorem col_lt (G : Fin 4) (d : Fin 128) : 128 * (4 * k.val + G.val) + d.val < 32256 := by
  have hk : k.val < 63 := Nat.lt_of_lt_of_eq k.isLt trips_eq
  omega

/-- The offset of a group of 128 columns. -/
theorem off8_val : ∀ (k : Fin k0_t1_loop.trips) (G : Fin 4), k0_off8 k (BitVec.ofNat 32 (128 * G.val)) 0 = 128 * (4 * k.val + G.val) := by
  decide +kernel

/-- The candidates of a trip are logits. -/
theorem cnd_eq (R G : Fin 4) (r : Fin 8) (d : Fin 128) :
    cnd c XW gc gw gb gs k R G r d = logit c XW gc gw gb gs (rowOf R r) (128 * (4 * k.val + G.val) + d.val) := by
  have hj := col_lt k G d
  have e : cnd c XW gc gw gb gs k R G r d
      = tripRun.sl.r c XW gc k (ix2 (rowOf R r) ⟨128 * G.val + d.val, by omega⟩)
        * View.readAt (Elt Ideal) scM.view (Rect.unit (s := S32x128) ![8 * R.val, 0] S8x128.size (rows_inb R)).toLoadRect gs (ix2 r d)
        * View.readAt (Elt Ideal) wsM.view (Rect.unit (s := S32256) (k0_off8 k (BitVec.ofNat 32 (128 * G.val))) S128.size (k0_off8_inb k G)).toLoadRect gw (ix1 d)
        + View.readAt (Elt Ideal) bsM.view (Rect.unit (s := S32256) (k0_off8 k (BitVec.ofNat 32 (128 * G.val))) S128.size (k0_off8_inb k G)).toLoadRect gb (ix1 d) := by
    unfold cnd
    pointwise [cand, lgV]
    rfl
  have hd : (⟨(128 * (4 * k.val + G.val) + d.val) % 128, Nat.mod_lt _ (by decide)⟩ : Fin 128) = d := Fin.ext (by
    show (128 * (4 * k.val + G.val) + d.val) % 128 = d.val; omega)
  rw [e, acc_at c XW gc k _ _ (by show 512 * k.val + (128 * G.val + d.val) < 32256; omega), load_at (y := ix2 (rowOf R r) d),
    load_at (y := ix1 ⟨128 * (4 * k.val + G.val) + d.val, hj⟩), load_at (y := ix1 ⟨128 * (4 * k.val + G.val) + d.val, hj⟩), logit, dif_pos hj, hd]
  · have ej : (⟨512 * k.val + (128 * G.val + d.val), by omega⟩ : Fin 32256) = ⟨128 * (4 * k.val + G.val) + d.val, hj⟩ := Fin.ext (by
      show 512 * k.val + (128 * G.val + d.val) = 128 * (4 * k.val + G.val) + d.val; omega)
    simp only [ej]
  · intro a
    fin_cases a
    exact congrArg (· + d.val) (off8_val k G).symm
  · intro a
    fin_cases a
    exact congrArg (· + d.val) (off8_val k G).symm
  · intro a
    fin_cases a
    · rfl
    · exact (Nat.zero_add _).symm

end Cert.Proof.KIdeal

end
-- ==== Proof.KCol.lean ====
/-
  The loop: after `k` trips the eight entries of a row and a lane are the best of that lane's first `4 k` columns.
-/
module

public import proofs.«01_k».proof.Proof.KLogit

@[expose] public section

noncomputable section

namespace Cert.Proof.KIdeal

open Cert.KernelIdeal Cert.KernelIdeal.Gen
open Idealize.ShloMosaic Idealize.ShloMosaic.TcCoe Idealize.SL Idealize.SL.RA Idealize.SL.Sem

set_option maxRecDepth 16384

variable (c : Dev nD) (XW : Buf (Elt Ideal) (wM.view.loc (c : Thread nD τ)))
  (gc : Buf (Elt Ideal) (cdM.view.loc (c : Thread nD τ))) (gw : Buf (Elt Ideal) (wsM.view.loc (c : Thread nD τ)))
  (gb : Buf (Elt Ideal) (bsM.view.loc (c : Thread nD τ))) (gs : Buf (Elt Ideal) (scM.view.loc (c : Thread nD τ)))
  (q : PosShare TreeShare)
  (arg0 : Memref sig .tc .hbm S32x7168 .bf16) (harg0 : arg0.IsWhole)
  (arg2 : Memref sig .tc .hbm S32256 .f32) (harg2 : arg2.IsWhole)
  (arg3 : Memref sig .tc .hbm S32256 .f32) (harg3 : arg3.IsWhole)
  (arg4 : Memref sig .tc .vmem S8x32 .f32) (harg4 : arg4.IsWhole)
  (arg5 : Memref sig .tc .vmem S8x32 .i32) (harg5 : arg5.IsWhole)
  (arg6 : Memref sig .tc .hbm S32x7168 .fp8e4m3) (harg6 : arg6.IsWhole)
  (arg7 : Memref sig .tc .vmem S1x32 .f32) (harg7 : arg7.IsWhole)
  (arg8 : Memref sig .tc .vmem S32x7168 .bf16) (harg8 : arg8.IsWhole)
  (arg17 : DmaSems sig S_) (arg18 : DmaSems sig S2) (arg19 : DmaSems sig S_)
  (v61 : FVec Ideal S32x7168 .f32) (v87 : IVec S32x1 32) (v92 : FVec Ideal S32x1 .f32) (v93 : IVec S32x1 32)
  (fv0 : VlBuf (F := Ideal) c) (fi0 : IxBuf (F := Ideal) c)

/-- The entries of a row and a lane before trip `k`. -/
abbrev lane (k : ℕ) (r : Fin 32) (d : Fin 128) : ℕ → EReal × ℕ :=
  slots c (topAt c q XW arg0 harg0 arg2 harg2 arg3 harg3 arg4 harg4 arg5 harg5 arg6 harg6 arg7 harg7 arg8 harg8 arg17 arg18 arg19 v61 v87 v92 v93 gc gw gb gs fv0 fi0 k).1
    (topAt c q XW arg0 harg0 arg2 harg2 arg3 harg3 arg4 harg4 arg5 harg5 arg6 harg6 arg7 harg7 arg8 harg8 arg17 arg18 arg19 v61 v87 v92 v93 gc gw gb gs fv0 fi0 k).2 r d

/-- The entries after a trip are the entries before it with four logits inserted. -/
theorem lane_succ (k : Fin k0_t1_loop.trips) (r : Fin 32) (d : Fin 128) (l : ℕ) (hl : l < 8) :
    lane c XW gc gw gb gs q arg0 harg0 arg2 harg2 arg3 harg3 arg4 harg4 arg5 harg5 arg6 harg6 arg7 harg7 arg8 harg8 arg17 arg18 arg19 v61 v87 v92 v93 fv0 fi0 (k.val + 1) r d l
      = Rank.ins (Rank.ins (Rank.ins (Rank.ins (lane c XW gc gw gb gs q arg0 harg0 arg2 harg2 arg3 harg3 arg4 harg4 arg5 harg5 arg6 harg6 arg7 harg7 arg8 harg8 arg17 arg18 arg19 v61 v87 v92 v93 fv0 fi0 k.val r d)
          (logit c XW gc gw gb gs r (128 * (4 * k.val) + d.val)) (128 * (4 * k.val) + d.val)) (logit c XW gc gw gb gs r (128 * (4 * k.val + 1) + d.val)) (128 * (4 * k.val + 1) + d.val))
          (logit c XW gc gw gb gs r (128 * (4 * k.val + 2) + d.val)) (128 * (4 * k.val + 2) + d.val)) (logit c XW gc gw gb gs r (128 * (4 * k.val + 3) + d.val)) (128 * (4 * k.val + 3) + d.val) l := by
  obtain ⟨R, r', rfl⟩ := row_split r
  unfold lane
  rw [topAt_succ, topStep_eq]
  refine (trip_slots c XW gc gw gb gs k _ _ q arg0 harg0 arg2 harg2 arg3 harg3 arg4 harg4 arg5 harg5 arg6 harg6 arg7 harg7 arg8 harg8 arg17 arg18 arg19 v61 v87 v92 v93 R r' d l).trans ?_
  rw [cnd_eq, cnd_eq, cnd_eq, cnd_eq, Nat.mod_eq_of_lt hl]
  rfl

/-- THE LOOP: from empty lists, after `k` trips each lane holds the best of its first `4 k` columns. -/
theorem lane_col (r : Fin 32) (d : Fin 128) (h0 : ∀ l, l < 8 → slots c fv0 fi0 r d l = Rank.pad) (k : ℕ) (hk : k ≤ 63) :
    Rank.Col (logit c XW gc gw gb gs r) d.val (4 * k) (lane c XW gc gw gb gs q arg0 harg0 arg2 harg2 arg3 harg3 arg4 harg4 arg5 harg5 arg6 harg6 arg7 harg7 arg8 harg8 arg17 arg18 arg19 v61 v87 v92 v93 fv0 fi0 k r d) := by
  induction k with
  | zero => exact Rank.col_zero _ _ _ h0
  | succ k ih =>
    have hs := (((((ih (by omega)).step d.isLt).step d.isLt).step d.isLt).step d.isLt)
    exact hs.congr fun l hl => lane_succ c XW gc gw gb gs q arg0 harg0 arg2 harg2 arg3 harg3 arg4 harg4 arg5 harg5 arg6 harg6 arg7 harg7 arg8 harg8 arg17 arg18 arg19 v61 v87 v92 v93 fv0 fi0
      ⟨k, Nat.lt_of_lt_of_eq (by omega) trips_eq.symm⟩ r d l hl

end Cert.Proof.KIdeal

end
-- ==== Proof.KPick.lean ====
/-
  The final selection at one row: each round takes the best first entry of the lanes, so the eight rounds list the
  row's eight best entries.
-/
module

public import proofs.«01_k».proof.Proof.KOut
public import proofs.«01_k».proof.Proof.KCol
public import Idealize.ShloMosaic.Lib.WordArith

@[expose] public section

noncomputable section

namespace Cert.Proof.KIdeal

open Cert.KernelIdeal Cert.KernelIdeal.Gen
open Idealize.ShloMosaic Idealize.ShloMosaic.TcCoe Idealize.SL Idealize.SL.RA Idealize.SL.Sem

set_option maxRecDepth 16384

/-- A signed minimum of words below 2³¹, as naturals: at most each of them, and one of them or the start. -/
theorem fold_minsi {ι : Type} (S : Finset ι) (f : ι → BitVec 32) (a : BitVec 32) (ha : a.toNat < 2 ^ 31)
    (hf : ∀ i, (f i).toNat < 2 ^ 31) :
    (S.fold IntOp.minsi a f).toNat ≤ a.toNat ∧ (∀ i ∈ S, (S.fold IntOp.minsi a f).toNat ≤ (f i).toNat) ∧
      (S.fold IntOp.minsi a f = a ∨ ∃ i ∈ S, S.fold IntOp.minsi a f = f i) := by
  classical
  induction S using Finset.induction_on with
  | empty => exact ⟨le_rfl, fun i h => absurd h (Finset.notMem_empty _), Or.inl rfl⟩
  | insert i S hi ih =>
    obtain ⟨h1, h2, h3⟩ := ih
    rw [Finset.fold_insert hi]
    have hlt : (S.fold IntOp.minsi a f).toNat < 2 ^ 31 := h1.trans_lt ha
    have e : (IntOp.minsi (f i) (S.fold IntOp.minsi a f)).toNat = min (f i).toNat (S.fold IntOp.minsi a f).toNat :=
      WordArith.toNat_minsi_of_lt _ _ (hf i) hlt
    refine ⟨e ▸ (min_le_right _ _).trans h1, ?_, ?_⟩
    · intro j hj
      rcases Finset.mem_insert.mp hj with rfl | hj
      · exact e ▸ min_le_left _ _
      · exact e ▸ (min_le_right _ _).trans (h2 j hj)
    · rcases min_choice (f i).toNat (S.fold IntOp.minsi a f).toNat with h | h
      · exact Or.inr ⟨i, Finset.mem_insert_self _ _, BitVec.eq_of_toNat_eq (e.trans h)⟩
      · have e' := BitVec.eq_of_toNat_eq (e.trans h)
        rcases h3 with h3 | ⟨j, hj, h3⟩
        · exact Or.inl (e'.trans h3)
        · exact Or.inr ⟨j, Finset.mem_insert_of_mem hj, e'.trans h3⟩

/-- The entries of a row and a lane, of lists held as vectors. -/
def ent (P : (ℕ → FVec Ideal S32x128 .f32) × (ℕ → IVec S32x128 32)) (r : Fin 32) (d : Fin 128) (l : ℕ) : EReal × ℕ :=
  (P.1 l (ix2 r d), (P.2 l (ix2 r d)).toNat)

/-- The entry a round takes at a row. -/
def took (P : (ℕ → FVec Ideal S32x128 .f32) × (ℕ → IVec S32x128 32)) (r : Fin 32) : EReal × ℕ :=
  (topV (P.1 0) (ix2 r 0), (topI (P.1 0) (P.2 0) (ix2 r 0)).toNat)

/-- The best value of a row is the greatest over the lanes. -/
theorem topV_at (s : FVec Ideal S32x128 .f32) (r : Fin 32) :
    topV s (ix2 r 0) = Finset.fold max (Ideal.ofBits .f32 0xFF800000#32) (fun d => s (ix2 r d)) Finset.univ := by
  pointwise [topV]

/-- The best index of a row is the least over the lanes with the best value. -/
theorem topI_at (s : FVec Ideal S32x128 .f32) (t : IVec S32x128 32) (r : Fin 32) :
    topI s t (ix2 r 0) = Finset.fold IntOp.minsi 2147483647#32
      (fun d => if s (ix2 r d) = topV s (ix2 r 0) then t (ix2 r d) else 1073741824#32) Finset.univ := by
  pointwise [topI, eqV]

/-- A lane is taken exactly if it holds the best value at the best index. -/
theorem tkV_at (s : FVec Ideal S32x128 .f32) (t : IVec S32x128 32) (r : Fin 32) (d : Fin 128) :
    tkV s t (ix2 r d) = IntOp.andi (BitVec.ofBool (decide (s (ix2 r d) = topV s (ix2 r 0))))
      (IntOp.cmpi .eq (t (ix2 r d)) (topI s t (ix2 r 0))) := by
  pointwise [tkV, eqV]

/-- The word of minus infinity denotes minus infinity. -/
theorem negInf : Ideal.ofBits .f32 0xFF800000#32 = ⊥ := by
  simp [Ideal.ofBits, Ideal.ieee]

/-- THE ENTRY A ROUND TAKES is the best first entry of the lanes. -/
theorem best_took (P : (ℕ → FVec Ideal S32x128 .f32) × (ℕ → IVec S32x128 32)) (r : Fin 32)
    (hle : ∀ d, (ent P r d 0).2 ≤ 2 ^ 30) : Rank.Best (ent P r) (took P r) := by
  have hv : ∀ d : Fin 128, P.1 0 (ix2 r d) ≤ topV (P.1 0) (ix2 r 0) := by
    intro d
    rw [topV_at]
    exact (Finset.le_fold_max _).mpr (Or.inr ⟨d, Finset.mem_univ d, le_rfl⟩)
  have hf : ∀ d : Fin 128, ((fun d => if P.1 0 (ix2 r d) = topV (P.1 0) (ix2 r 0) then P.2 0 (ix2 r d) else 1073741824#32) d).toNat < 2 ^ 31 := by
    intro d
    show (if P.1 0 (ix2 r d) = topV (P.1 0) (ix2 r 0) then P.2 0 (ix2 r d) else 1073741824#32).toNat < 2 ^ 31
    split_ifs
    · exact (hle d).trans_lt (by norm_num)
    · decide
  obtain ⟨-, hm, hw⟩ := fold_minsi Finset.univ _ 2147483647#32 (by decide) hf
  rw [← topI_at] at hm hw
  have him : ∀ d : Fin 128, P.1 0 (ix2 r d) = topV (P.1 0) (ix2 r 0) → (topI (P.1 0) (P.2 0) (ix2 r 0)).toNat ≤ (P.2 0 (ix2 r d)).toNat := by
    intro d e
    have h := hm d (Finset.mem_univ d)
    rwa [if_pos e] at h
  constructor
  · intro d
    rcases (hv d).lt_or_eq with h | h
    · exact Or.inl h
    · exact Or.inr ⟨h.symm, him d h⟩
  · have hex : ∃ d : Fin 128, P.1 0 (ix2 r d) = topV (P.1 0) (ix2 r 0) := by
      by_contra hne
      push Not at hne
      have hlt : ∀ d : Fin 128, P.1 0 (ix2 r d) < topV (P.1 0) (ix2 r 0) := fun d => (hv d).lt_of_ne (hne d)
      have hpos : (⊥ : EReal) < topV (P.1 0) (ix2 r 0) := bot_le.trans_lt (hlt 0)
      have : topV (P.1 0) (ix2 r 0) < topV (P.1 0) (ix2 r 0) := by
        conv_lhs => rw [topV_at]
        exact (Finset.fold_max_lt _).mpr ⟨by rw [negInf]; exact hpos, fun d _ => hlt d⟩
      exact lt_irrefl _ this
    obtain ⟨d0, h0⟩ := hex
    have hsmall : (topI (P.1 0) (P.2 0) (ix2 r 0)).toNat ≤ 2 ^ 30 := (him d0 h0).trans (hle d0)
    rcases hw with hw | ⟨d, -, hw⟩
    · rw [hw] at hsmall
      exact absurd hsmall (by decide)
    · by_cases e : P.1 0 (ix2 r d) = topV (P.1 0) (ix2 r 0)
      · rw [if_pos e] at hw
        exact ⟨d, Prod.ext e (by show (P.2 0 (ix2 r d)).toNat = _; rw [← hw]; rfl)⟩
      · rw [if_neg e] at hw
        refine ⟨d0, Prod.ext h0 (le_antisymm ?_ (him d0 h0))⟩
        refine (hle d0).trans (le_of_eq ?_)
        show _ = (topI (P.1 0) (P.2 0) (ix2 r 0)).toNat
        rw [hw]
        rfl

/-- A round drops the entry it took. -/
theorem ent_next (P : (ℕ → FVec Ideal S32x128 .f32) × (ℕ → IVec S32x128 32)) (r : Fin 32) (d : Fin 128) :
    ent (nextS P) r d = Rank.shift (ent P r d) (took P r) := by
  have hbit : tkV (P.1 0) (P.2 0) (ix2 r d) = 1#1 ↔ ent P r d 0 = took P r := by
    rw [tkV_at]
    have e2 : IntOp.cmpi .eq (P.2 0 (ix2 r d)) (topI (P.1 0) (P.2 0) (ix2 r 0)) = BitVec.ofBool (decide (P.2 0 (ix2 r d) = topI (P.1 0) (P.2 0) (ix2 r 0))) := by
      by_cases h : P.2 0 (ix2 r d) = topI (P.1 0) (P.2 0) (ix2 r 0)
      · simp [IntOp.cmpi, h]
      · simp [IntOp.cmpi, h, beq_false_of_ne h]
    rw [e2]
    unfold ent took
    rw [Prod.mk.injEq, BitVec.toNat_inj]
    by_cases h : P.1 0 (ix2 r d) = topV (P.1 0) (ix2 r 0) <;> by_cases h' : P.2 0 (ix2 r d) = topI (P.1 0) (P.2 0) (ix2 r 0) <;>
      simp [IntOp.andi, h, h']
  funext l
  unfold Rank.shift
  have e1 : ent (nextS P) r d l = if tkV (P.1 0) (P.2 0) (ix2 r d) = 1#1 then ent P r d (l + 1) else ent P r d l := by
    show ((if tkV (P.1 0) (P.2 0) (ix2 r d) = 1#1 then P.1 (l + 1) (ix2 r d) else P.1 l (ix2 r d)),
      (if tkV (P.1 0) (P.2 0) (ix2 r d) = 1#1 then P.2 (l + 1) (ix2 r d) else P.2 l (ix2 r d)).toNat) = _
    split_ifs <;> rfl
  rw [e1]
  by_cases h : ent P r d 0 = took P r
  · rw [if_pos (hbit.mpr h), if_pos h]
  · rw [if_neg fun h' => h (hbit.mp h'), if_neg h]

/-- What the lanes hold before round `k`: the row's entries but for `k` taken. -/
theorem rounds (v : ℕ → EReal) (P : (ℕ → FVec Ideal S32x128 .f32) × (ℕ → IVec S32x128 32)) (r : Fin 32)
    (h : ∀ d : Fin 128, Rank.Col v d.val 252 (ent P r d)) (k : ℕ) (hk : k ≤ 8) :
    ∃ n : Fin 128 → EReal × ℕ → ℕ, (∀ d, Rank.Holds (ent (lists P k) r d) (n d) (8 - k)) ∧
      (∀ d : Fin 128, Rank.Within (ent (lists P k) r d) d.val (128 * 253) (8 - k)) ∧
      ∀ t : EReal × ℕ, t.1 ≠ ⊥ → ∑ d, n d t = Rank.cnt v (Finset.range 32256) t - k := by
  induction k with
  | zero =>
    refine ⟨fun d => Rank.cnt v (Rank.seen d.val 252), fun d => (h d).1, fun d l hl => ?_, fun t _ => ?_⟩
    rcases (h d).2 l hl with e | ⟨e, e', e''⟩
    · exact Or.inl e
    · exact Or.inr ⟨e, e'.trans_le (by have := d.isLt; omega), e''⟩
    · have e252 : (32256 : ℕ) = 128 * 252 := by norm_num
      rw [e252, Nat.sub_zero]
      exact Rank.sum_cnt_seen v 252 t
  | succ k ih =>
    obtain ⟨n, hn, hw, hs⟩ := ih (by omega)
    have e8 : 8 - k = (8 - (k + 1)) + 1 := by omega
    rw [e8] at hn hw
    have hb : Rank.Best (ent (lists P k) r) (took (lists P k) r) := best_took _ r fun d => by
      rcases hw d 0 (Nat.succ_pos _) with e | ⟨-, e, -⟩
      · rw [e]; exact le_rfl
      · exact e.le.trans (by norm_num)
    obtain ⟨-, -, n', h1, h2, h3⟩ := Rank.round hn hw hb
    refine ⟨n', fun d => ?_, fun d => ?_, fun t ht => ?_⟩
    · show Rank.Holds (ent (nextS (lists P k)) r d) _ _
      rw [ent_next]; exact h1 d
    · show Rank.Within (ent (nextS (lists P k)) r d) _ _ _
      rw [ent_next]; exact h2 d
    · rw [h3 t ht, hs t ht]; omega

/-- The entry round `k` takes is the row's `k`-th: it comes no later than `t` just when more than `k` entries do. -/
theorem took_rank (v : ℕ → EReal) (P : (ℕ → FVec Ideal S32x128 .f32) × (ℕ → IVec S32x128 32)) (r : Fin 32)
    (h : ∀ d : Fin 128, Rank.Col v d.val 252 (ent P r d)) (k : ℕ) (hk : k < 8) :
    (∀ t : EReal × ℕ, t.1 ≠ ⊥ → (Rank.Le (took (lists P k) r) t ↔ k < Rank.cnt v (Finset.range 32256) t)) ∧
      (took (lists P k) r = Rank.pad ∨ (took (lists P k) r).1 ≠ ⊥) := by
  obtain ⟨n, hn, hw, hs⟩ := rounds v P r h k hk.le
  have e8 : 8 - k = (7 - k) + 1 := by omega
  rw [e8] at hn hw
  have hb : Rank.Best (ent (lists P k) r) (took (lists P k) r) := best_took _ r fun d => by
    rcases hw d 0 (Nat.succ_pos _) with e | ⟨-, e, -⟩
    · rw [e]; exact le_rfl
    · exact e.le.trans (by norm_num)
  obtain ⟨h1, h2, -⟩ := Rank.round hn hw hb
  refine ⟨fun t ht => ?_, h2⟩
  rw [h1 t ht, hs t ht]
  omega

/-- Writing one lane sets that lane and leaves the others. -/
theorem outR_at {α : Type} (j : ℕ) (hj : j < 128) (b : S32x1.Idx → α) (o : S32x128.Idx → α) (r : Fin 32) (d : Fin 128) :
    outR j b o (ix2 r d) = if d.val = j then b (ix2 r 0) else o (ix2 r d) := by
  have e : outR j b o (ix2 r d) = Scalar.select (IntOp.cmpi .eq (BitVec.ofNat 32 d.val) (BitVec.ofNat 32 j)) (b (ix2 r 0)) (o (ix2 r d)) := by
    pointwise [outR]
  rw [e]
  have hd := d.isLt
  by_cases h : d.val = j
  · rw [if_pos h, h]
    simp [Scalar.select, IntOp.cmpi]
  · rw [if_neg h]
    have : BitVec.ofNat 32 d.val ≠ BitVec.ofNat 32 j := by
      intro h'
      have := congrArg BitVec.toNat h'
      simp only [BitVec.toNat_ofNat] at this
      omega
    simp [Scalar.select, IntOp.cmpi, beq_false_of_ne this]

/-- Lane `k` of the output is what round `k` took. -/
theorem outV_at (P : (ℕ → FVec Ideal S32x128 .f32) × (ℕ → IVec S32x128 32)) (r : Fin 32) (d : Fin 128) (j : ℕ) (hj : j ≤ 8) (hd : d.val < j) :
    ((outV P j (ix2 r d), (outI P j (ix2 r d)).toNat) : EReal × ℕ) = took (lists P d.val) r := by
  induction j with
  | zero => exact absurd hd (Nat.not_lt_zero _)
  | succ j ih =>
    show ((outR j _ _ (ix2 r d), (outR (α := BitVec 32) j _ _ (ix2 r d)).toNat) : EReal × ℕ) = _
    rw [outR_at j (by omega), outR_at j (by omega)]
    by_cases h : d.val = j
    · rw [if_pos h, if_pos h, h]; rfl
    · rw [if_neg h, if_neg h]
      exact ih (by omega) (by omega)

/-- The lists after the loop, at a row and a lane. -/
theorem ent_loaded (c : Dev nD) (p : VlBuf (F := Ideal) c × IxBuf (F := Ideal) c) (r : Fin 32) (d : Fin 128) (l : ℕ) :
    ent (loaded c p) r d l = slots c p.1 p.2 r d l := by
  have cast : ∀ {α : Type} (x : S1x32x128.Idx → α), shapeCast S32x128 x shapeCasts_S1x32x128_S32x128 (ix2 r d) = x (ix3 0 r d) := by
    intro α x
    pointwise []
  unfold ent slots loaded
  dsimp only
  rw [cast, cast]
  refine congrArg₂ Prod.mk ?_ (congrArg BitVec.toNat ?_)
  · refine load_at _ _ _ _ _ fun a => ?_
    fin_cases a
    · rfl
    · exact (Nat.zero_add _).symm
    · exact (Nat.zero_add _).symm
  · refine load_at _ _ _ _ _ fun a => ?_
    fin_cases a
    · rfl
    · exact (Nat.zero_add _).symm
    · exact (Nat.zero_add _).symm

/-- The turned and cut array, at an index. -/
theorem turn {α : Type} (x : S32x128.Idx → α) (k : Fin 8) (r : Fin 32) :
    extractStridedSlice S8x32 ![0, 0] (transpose S128x32 [1, 0] x transposes_S32x128_p1_0_S128x32) slices_S128x32_o0_0_S8x32 (ix2 k r)
      = x (ix2 r ⟨k.val, by omega⟩) := by
  pointwise []

variable (c : Dev nD) (XW : Buf (Elt Ideal) (wM.view.loc (c : Thread nD τ)))
  (X0 : Buf (Elt Ideal) (xM.view.loc (c : Thread nD τ))) (X2 : Buf (Elt Ideal) (wsHM.view.loc (c : Thread nD τ))) (X3 : Buf (Elt Ideal) (bHM.view.loc (c : Thread nD τ)))
  (arg4 : Memref sig .tc .vmem S8x32 .f32) (harg4 : arg4.IsWhole)
  (arg5 : Memref sig .tc .vmem S8x32 .i32) (harg5 : arg5.IsWhole)
  (arg7 : Memref sig .tc .vmem S1x32 .f32) (harg7 : arg7.IsWhole)

/-- The body's logits. -/
abbrev bodyLogit (r : Fin 32) : ℕ → EReal :=
  logit c XW (codesBuf c X0) (bodyRun.sl.dma0_2 c X2) (bodyRun.sl.dma0_3 c X3) (scaleBuf c X0) r

/-- The lists start empty. -/
theorem empty_at (r : Fin 32) (d : Fin 128) (l : ℕ) : slots c (k0_pay530 (F := Ideal) k0_pay529) k0_pay531 r d l = Rank.pad := by
  refine congrArg₂ Prod.mk ?_ rfl
  exact negInf

/-- The body's first two outputs, at an index. -/
theorem body_took (k : Fin 8) (r : Fin 32) (P : (ℕ → FVec Ideal S32x128 .f32) × (ℕ → IVec S32x128 32))
    (hP : loaded c (bodyTop c XW X0 X2 X3 arg4 harg4 arg5 harg5 arg7 harg7 63) = P)
    (V : FVec Ideal S8x32 .f32) (hV : (bodyRun c XW X0 X2 X3 arg4 harg4 arg5 harg5 arg7 harg7).1 = V)
    (I : IVec S8x32 32) (hI : (bodyRun c XW X0 X2 X3 arg4 harg4 arg5 harg5 arg7 harg7).2.1 = I) :
    ((V (ix2 k r), (I (ix2 k r)).toNat) : EReal × ℕ) = took (lists P k.val) r := by
  have hv := body_vals c XW X0 X2 X3 arg4 harg4 arg5 harg5 arg7 harg7
  have hi := body_idxs c XW X0 X2 X3 arg4 harg4 arg5 harg5 arg7 harg7
  rw [hP] at hv hi
  rw [← hV.symm.trans hv |>.symm, ← hI.symm.trans hi |>.symm, turn, turn]
  exact outV_at P r ⟨k.val, by omega⟩ 8 le_rfl k.isLt

/-- The lanes after the loop. -/
theorem body_col (r : Fin 32) (d : Fin 128) : Rank.Col (bodyLogit c XW X0 X2 X3 r) d.val 252
      (ent (loaded c (bodyTop c XW X0 X2 X3 arg4 harg4 arg5 harg5 arg7 harg7 63)) r d) := by
  have h := lane_col c XW (codesBuf c X0) (bodyRun.sl.dma0_2 c X2) (bodyRun.sl.dma0_3 c X3) (scaleBuf c X0) fullShare.left xM (Memref.isWhole_whole _)
    wsHM (Memref.isWhole_whole _) bHM (Memref.isWhole_whole _) arg4 harg4 arg5 harg5 cdHM (Memref.isWhole_whole _) arg7 harg7 xVM (Memref.isWhole_whole _)
    cc0_scratch9 cc0_scratch10 cc0_scratch11 (bodyRun.sl.r c X0) (bodyRun.sl.r_1 c X0) (bodyRun.sl.r_2 c X0) k0_pay535
    (k0_pay530 (F := Ideal) k0_pay529) k0_pay531 r d (fun l _ => empty_at c r d l) 63 le_rfl
  exact h.congr fun l _ => ent_loaded c _ r d l

/-- THE BODY'S FIRST TWO OUTPUTS: the `k`-th entry of a row is its `k`-th best. -/
theorem body_rank (k : Fin 8) (r : Fin 32)
    (V : FVec Ideal S8x32 .f32) (hV : (bodyRun c XW X0 X2 X3 arg4 harg4 arg5 harg5 arg7 harg7).1 = V)
    (I : IVec S8x32 32) (hI : (bodyRun c XW X0 X2 X3 arg4 harg4 arg5 harg5 arg7 harg7).2.1 = I) :
    (∀ t : EReal × ℕ, t.1 ≠ ⊥ → (Rank.Le ((V (ix2 k r), (I (ix2 k r)).toNat) : EReal × ℕ) t ↔ k.val < Rank.cnt (bodyLogit c XW X0 X2 X3 r) (Finset.range 32256) t)) ∧
      (((V (ix2 k r), (I (ix2 k r)).toNat) : EReal × ℕ) = Rank.pad ∨ V (ix2 k r) ≠ (⊥ : EReal)) := by
  have e := body_took c XW X0 X2 X3 arg4 harg4 arg5 harg5 arg7 harg7 k r _ rfl V hV I hI
  have key := took_rank _ _ r (fun d => body_col c XW X0 X2 X3 arg4 harg4 arg5 harg5 arg7 harg7 r d) k.val k.isLt
  rw [← e] at key
  exact key

end Cert.Proof.KIdeal

end
-- ==== Proof.KEnd.lean ====
/-
  What the kernel leaves: its codes and scales, its logits as a sum, and its four results after the host lines.
-/
module

public import proofs.«01_k».proof.Proof.KPick
public import proofs.«01_k».proof.Proof.KFrame

@[expose] public section

set_option maxRecDepth 16384

noncomputable section

namespace Cert.Proof.KIdeal

open Cert.KernelIdeal Cert.KernelIdeal.Gen
open Idealize.ShloMosaic Idealize.ShloMosaic.TcCoe Idealize.SL Idealize.SL.RA Idealize.SL.Sem

section Body

variable (c : Dev nD) (XW : Buf (Elt Ideal) (wM.view.loc (c : Thread nD τ)))
  (X0 : Buf (Elt Ideal) (xM.view.loc (c : Thread nD τ))) (X2 : Buf (Elt Ideal) (wsHM.view.loc (c : Thread nD τ))) (X3 : Buf (Elt Ideal) (bHM.view.loc (c : Thread nD τ)))
  (arg4 : Memref sig .tc .vmem S8x32 .f32) (harg4 : arg4.IsWhole)
  (arg5 : Memref sig .tc .vmem S8x32 .i32) (harg5 : arg5.IsWhole)
  (arg7 : Memref sig .tc .vmem S1x32 .f32) (harg7 : arg7.IsWhole)

/-- A load of a whole buffer is its contents. -/
theorem load_full (b : Ref sig .tc) (f : b.ty.Contents (Elt Ideal)) {off : Fin b.ty.shape.rank → ℕ} (inb : ∀ a, off a + b.ty.shape.size a ≤ b.ty.shape.size a)
    (h : ∀ a, off a = 0) : (View.whole b).readAt (Elt Ideal) (Rect.unit off b.ty.shape.size inb).toLoadRect f = f :=
  funext fun x => load_at (View.whole b) f inb x x fun a => by rw [h a, Nat.zero_add]

/-- The offsets of a whole two-dimensional load are zero. -/
theorem zero2 : ∀ a : Fin 2, (![0, 0] : Fin 2 → ℕ) a = 0 := by decide

/-- The load of the copied rows reads the rows. -/
theorem loadX : View.readAt (Elt Ideal) xVM.view (Rect.unit (s := S32x7168) ![0, 0] S32x7168.size inb_S32x7168_S32x7168_0_0).toLoadRect (bodyRun.sl.dma0 c X0) = X0 :=
  load_full cc0_scratch0 X0 inb_S32x7168_S32x7168_0_0 zero2

/-- The body's float32 rows are those computed from `x`. -/
theorem r_eq : bodyRun.sl.r c X0 = k0_pay532 (F := Ideal) X0 := by
  unfold bodyRun.sl.r
  rw [loadX]
/-- The body's exponent words are those computed from `x`. -/
theorem r1_eq : bodyRun.sl.r_1 c X0 = k0_pay533 (F := Ideal) X0 := by
  unfold bodyRun.sl.r_1
  rw [loadX]
/-- The body's scales are those computed from `x`. -/
theorem r2_eq : bodyRun.sl.r_2 c X0 = k0_pay534 (F := Ideal) X0 := by
  unfold bodyRun.sl.r_2
  rw [loadX]

/-- THE CODES the body stores. -/
theorem codes_eq : codesBuf c X0 = k0_pay536 (k0_pay532 (F := Ideal) X0) (k0_pay533 (F := Ideal) X0) k0_pay535 := by
  unfold codesBuf
  rw [r_eq, r1_eq]

/-- THE SCALES it stores, one in every lane of its row. -/
theorem scale_eq : scaleBuf c X0 = k0_pay537 (k0_pay534 (F := Ideal) X0) := by
  unfold scaleBuf bodyRun.sl.Hsc_1
  rw [r2_eq]
  exact full_gen cc0_scratch4 _ inb_S32x128_S32x128_0_0 _

/-- Each lane of the spread scale is the row's scale. -/
theorem lanes_at (s : FVec Ideal S32x1 .f32) (r : Fin 32) (d : Fin 128) : k0_pay537 s (ix2 r d) = s (ix2 r 0) := by
  pointwise [k0_pay537]

/-- The first row of the turned scale holds each row's scale. -/
theorem turn_scale (v : FVec Ideal S32x128 .f32) (r : Fin 32) : k0_pay538 (F := Ideal) v (ix2 0 r) = v (ix2 r 0) := by
  pointwise [k0_pay538]

/-- The body's codes, -/
theorem body_codes : (bodyRun c XW X0 X2 X3 arg4 harg4 arg5 harg5 arg7 harg7).2.2.2.1
    = k0_pay536 (k0_pay532 (F := Ideal) X0) (k0_pay533 (F := Ideal) X0) k0_pay535 := by
  refine Eq.trans ?_ (codes_eq c X0)
  unfold bodyRun
  rfl
/-- and its scales, at a row. -/
theorem body_scale (r : Fin 32) : arg7.view.read (Elt Ideal) (bodyRun c XW X0 X2 X3 arg4 harg4 arg5 harg5 arg7 harg7).2.2.1 (ix2 0 r)
    = k0_pay534 (F := Ideal) X0 (ix2 r 0) := by
  unfold bodyRun
  dsimp only
  unfold bodyRun.sl.H7_1
  rw [View.read_writes_full arg7.view _ inb_S1x32_S1x32_0_0, turn_scale]
  have e : bodyRun.sl.v113 c X0 = scaleBuf c X0 := load_full cc0_scratch4 _ inb_S32x128_S32x128_0_0 zero2
  rw [e, scale_eq, lanes_at]

/-- THE BODY'S LOGITS: the codes' product with the weights, scaled and biased. -/
theorem body_logit_at (r : Fin 32) (j : Fin 32256) : bodyLogit c XW X0 X2 X3 r j.val
    = (∑ x : Fin 7168, k0_pay536 (k0_pay532 (F := Ideal) X0) (k0_pay533 (F := Ideal) X0) k0_pay535 (ix2 r x) * (XW : FVec Ideal S7168x32256 .fp8e4m3) (ix2 x j))
        * k0_pay534 (F := Ideal) X0 (ix2 r 0) * (X2 : FVec Ideal S32256 .f32) (ix1 j) + (X3 : FVec Ideal S32256 .f32) (ix1 j) := by
  unfold bodyLogit logit
  rw [dif_pos j.isLt, codes_eq, scale_eq]
  have e : ∀ d : Fin 128, scM.view.read (Elt Ideal) (k0_pay537 (k0_pay534 (F := Ideal) X0)) (ix2 r d) = k0_pay534 (F := Ideal) X0 (ix2 r 0) :=
    fun d => lanes_at _ r d
  rw [e]
  rfl

end Body

end Cert.Proof.KIdeal

end
-- ==== Proof.KRun.lean ====
/-
  The kernel's results: its staged outputs written back, turned and reshaped by the host lines.
-/
module

public import proofs.«01_k».proof.Proof.KEnd

@[expose] public section

set_option maxRecDepth 16384

noncomputable section

namespace Cert.Proof.KIdeal

open Cert.KernelIdeal Cert.KernelIdeal.Gen
open Idealize.ShloMosaic Idealize.ShloMosaic.TcCoe Idealize.SL Idealize.SL.RA Idealize.SL.Sem

/-- A count depends on the values of its set only. -/
theorem _root_.Cert.Proof.Rank.cnt_congr {v w : ℕ → EReal} {S : Finset ℕ} {t : EReal × ℕ} (h : ∀ j ∈ S, v j = w j) :
    Rank.cnt v S t = Rank.cnt w S t := by
  classical
  unfold Rank.cnt
  exact congrArg Finset.card (Finset.filter_congr fun j hj => by rw [h j hj])

section Host

variable (U : Valuation τ sig (Elt Ideal))

/-- The lines after the region. -/
abbrev tail : List (HloOp τ sig (Elt Ideal)) := List.flatten [hostOps1]

/-- The first result is the top values, turned and reshaped. -/
theorem tail_v3 : StableHlo.after tail U (Proc.devRef .tc main_v3)
    = shapeCast S32x1x8 (transpose S32x8 [1, 0] (U (Proc.devRef .tc main_v1_0) : FVec Ideal S8x32 .f32) transposes_S8x32_S32x8_1_0) shapeCasts_S32x8_S32x1x8 := by
  simp only [tail, hostOps1, List.flatten_cons, List.flatten_nil, List.append_nil]
  after_results
  rfl
/-- The second result is the top indices, turned and reshaped. -/
theorem tail_v5 : StableHlo.after tail U (Proc.devRef .tc main_v5)
    = shapeCast S32x1x8 (transpose S32x8 [1, 0] (U (Proc.devRef .tc main_v1_1) : IVec S8x32 32) transposes_S8x32_S32x8_1_0) shapeCasts_S32x8_S32x1x8 := by
  simp only [tail, hostOps1, List.flatten_cons, List.flatten_nil, List.append_nil]
  after_results
  rfl
/-- The third result is the codes, reshaped. -/
theorem tail_v6 : StableHlo.after tail U (Proc.devRef .tc main_v6)
    = shapeCast S32x1x7168 (U (Proc.devRef .tc main_v1_2) : FVec Ideal S32x7168 .fp8e4m3) shapeCasts_S32x7168_S32x1x7168 := by
  simp only [tail, hostOps1, List.flatten_cons, List.flatten_nil, List.append_nil]
  after_results
  rfl
/-- The fourth result is the scales, turned and reshaped. -/
theorem tail_v8 : StableHlo.after tail U (Proc.devRef .tc main_v8)
    = shapeCast S32x1x1 (transpose S32x1 [1, 0] (U (Proc.devRef .tc main_v1_3) : FVec Ideal S1x32 .f32) transposes_S1x32_S32x1_1_0) shapeCasts_S32x1_S32x1x1 := by
  simp only [tail, hostOps1, List.flatten_cons, List.flatten_nil, List.append_nil]
  after_results
  rfl

end Host

section Arrays

variable (m : (ℓ : Loc nD τ sig) → Buf (Elt Ideal) ℓ) (c : Dev nD)

/-- The launch's rows are `x`, reshaped. -/
theorem V_v0 : V m c main_v0 = shapeCast S32x7168 (m ((c : Thread nD τ).loc main_arg0) : FVec Ideal S32x1x7168 .bf16) shapeCasts_S32x1x7168_S32x7168 := by
  unfold V V0
  simp only [hostOps0, List.flatten_cons, List.flatten_nil, List.append_nil]
  after_results
  rfl

/-- Each window's block is its whole array. -/
theorem idx0 : ∀ t : Fin cfg0.N, win0_0.index t (0 : Fin 2) = 0 ∧ win0_0.index t (1 : Fin 2) = 0 := (by decide +kernel : ∀ t : Fin grid0.N, _)
/-- Window 0's block is its whole array. -/
theorem emb0 (t : Fin cfg0.N) (j : S8x32.Idx) : ((cfg0.win 0).blk t).view.emb j = j := by
  obtain ⟨e0, e1⟩ := idx0 t
  funext a; apply Fin.ext
  match a with
  | ⟨0, _⟩ => show win0_0.index t (0 : Fin 2) * 8 + 1 * (j 0).val = (j 0).val; omega
  | ⟨1, _⟩ => show win0_0.index t (1 : Fin 2) * 32 + 1 * (j 1).val = (j 1).val; omega
/-- Window 0's array ends as its block. -/
theorem arr0 (X : Vec Ideal S8x32 .f32) (hX : ∀ t, (dats m 0 c).after 0 t = X) : (dats m 0 c).arrAt 0 cfg0.N = X := by
  refine (dats m 0 c).arrAt_eq_of_cover 0 X (fun t _ => ?_) fun j => ⟨⟨0, by decide⟩, flush0_0 _, ?_⟩
  · show (cfg0.win 0).cut (grid0.coords t) ((dats m 0 c).after 0 t) = _
    rw [hX]
    funext j
    show X j = X (((cfg0.win 0).blk t).view.emb j)
    rw [emb0]
  · have h := ((cfg0.win 0).blk (⟨0, by decide⟩ : Fin cfg0.N)).view.emb_mem_set j
    rwa [emb0] at h
/-- Window 1 starts at zero. -/
theorem idx1 : ∀ t : Fin cfg0.N, win0_1.index t (0 : Fin 2) = 0 ∧ win0_1.index t (1 : Fin 2) = 0 := (by decide +kernel : ∀ t : Fin grid0.N, _)
/-- Window 1's block is its whole array. -/
theorem emb1 (t : Fin cfg0.N) (j : S8x32.Idx) : ((cfg0.win 1).blk t).view.emb j = j := by
  obtain ⟨e0, e1⟩ := idx1 t
  funext a; apply Fin.ext
  match a with
  | ⟨0, _⟩ => show win0_1.index t (0 : Fin 2) * 8 + 1 * (j 0).val = (j 0).val; omega
  | ⟨1, _⟩ => show win0_1.index t (1 : Fin 2) * 32 + 1 * (j 1).val = (j 1).val; omega
/-- Window 1's array ends as its block. -/
theorem arr1 (X : Vec Ideal S8x32 .i32) (hX : ∀ t, (dats m 0 c).after 1 t = X) : (dats m 0 c).arrAt 1 cfg0.N = X := by
  refine (dats m 0 c).arrAt_eq_of_cover 1 X (fun t _ => ?_) fun j => ⟨⟨0, by decide⟩, flush0_1 _, ?_⟩
  · show (cfg0.win 1).cut (grid0.coords t) ((dats m 0 c).after 1 t) = _
    rw [hX]
    funext j
    show X j = X (((cfg0.win 1).blk t).view.emb j)
    rw [emb1]
  · have h := ((cfg0.win 1).blk (⟨0, by decide⟩ : Fin cfg0.N)).view.emb_mem_set j
    rwa [emb1] at h
/-- Window 2 starts at zero. -/
theorem idx2 : ∀ t : Fin cfg0.N, win0_2.index t (0 : Fin 2) = 0 ∧ win0_2.index t (1 : Fin 2) = 0 := (by decide +kernel : ∀ t : Fin grid0.N, _)
/-- Window 2's block is its whole array. -/
theorem emb2 (t : Fin cfg0.N) (j : S1x32.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 32 + 1 * (j 1).val = (j 1).val; omega
/-- Window 2's array ends as its block. -/
theorem arr2 (X : Vec Ideal S1x32 .f32) (hX : ∀ t, (dats m 0 c).after 2 t = X) : (dats m 0 c).arrAt 2 cfg0.N = X := by
  refine (dats m 0 c).arrAt_eq_of_cover 2 X (fun t _ => ?_) fun j => ⟨⟨0, by decide⟩, flush0_2 _, ?_⟩
  · show (cfg0.win 2).cut (grid0.coords t) ((dats m 0 c).after 2 t) = _
    rw [hX]
    funext j
    show X j = X (((cfg0.win 2).blk t).view.emb j)
    rw [emb2]
  · have h := ((cfg0.win 2).blk (⟨0, by decide⟩ : Fin cfg0.N)).view.emb_mem_set j
    rwa [emb2] at h

/-- What the region leaves. -/
abbrev mid : Valuation τ sig (Elt Ideal) :=
  Pipeline.withArrays spec0 c (Pipeline.withR (V0 m c) WR c (fun b => Gv m c (Proc.devRef .tc b))) fun w => (dats m 0 c).arrAt w cfg0.N

/-- Different windows have different arrays. -/
theorem spec_inj : Function.Injective (Pipeline.arrRef spec0) := by decide

/-- After the launch the top values are the body's. -/
theorem mid_v1_0 : mid m c (Proc.devRef .tc main_v1_0) = (runAt m c t0_0).1 :=
  (Pipeline.withArrays_arr spec0 spec_inj c _ _ 0).trans (arr0 m c _ fun t => by rw [after_w0, fin_N0' t])
/-- After the launch the top indices are the body's. -/
theorem mid_v1_1 : mid m c (Proc.devRef .tc main_v1_1) = (runAt m c t0_0).2.1 :=
  (Pipeline.withArrays_arr spec0 spec_inj c _ _ 1).trans (arr1 m c _ fun t => by rw [after_w1, fin_N0' t])
/-- After the launch the scales are the body's. -/
theorem mid_v1_3 : mid m c (Proc.devRef .tc main_v1_3) = (st2 t0_0).view.read (Elt Ideal) (runAt m c t0_0).2.2.1 :=
  (Pipeline.withArrays_arr spec0 spec_inj c _ _ 2).trans (arr2 m c _ fun t => by rw [after_w2, fin_N0' t])
/-- After the launch the codes are the body's. -/
theorem mid_v1_2 : mid m c (Proc.devRef .tc main_v1_2) = (runAt m c t0_0).2.2.2.1 := by
  refine (Pipeline.withArrays_of_ne _ c _ _ main_v1_2 (by decide)).trans ?_
  exact (Pipeline.withR_of_mem _ _ _ _ _ (by decide)).trans (Gv_codes m c)

/-- The eight entries of a row with the middle dimension put in. -/
theorem up8 {α : Type} (x : S8x32.Idx → α) (r : Fin 32) (k : Fin 8) :
    shapeCast S32x1x8 (transpose S32x8 [1, 0] x transposes_S8x32_S32x8_1_0) shapeCasts_S32x8_S32x1x8 (ix3 r 0 k) = x (ix2 k r) := by
  pointwise []
/-- A row's scale with the middle dimension put in. -/
theorem up1 {α : Type} (x : S1x32.Idx → α) (r : Fin 32) :
    shapeCast S32x1x1 (transpose S32x1 [1, 0] x transposes_S1x32_S32x1_1_0) shapeCasts_S32x1_S32x1x1 (ix3 r 0 0) = x (ix2 0 r) := by
  pointwise []
/-- A row of codes with the middle dimension put in. -/
theorem upD {α : Type} (x : S32x7168.Idx → α) (r : Fin 32) (d : Fin 7168) :
    shapeCast S32x1x7168 x shapeCasts_S32x7168_S32x1x7168 (ix3 r 0 d) = x (ix2 r d) := by
  pointwise []
/-- A row of `x` with the middle dimension taken out. -/
theorem downD {α : Type} (x : S32x1x7168.Idx → α) (r : Fin 32) (d : Fin 7168) :
    shapeCast S32x7168 x shapeCasts_S32x1x7168_S32x7168 (ix2 r d) = x (ix3 r 0 d) := by
  pointwise []

/-- The two-dimensional input. -/
abbrev X0 : FVec Ideal S32x7168 .bf16 := shapeCast S32x7168 (m ((c : Thread nD τ).loc main_arg0) : FVec Ideal S32x1x7168 .bf16) shapeCasts_S32x1x7168_S32x7168

/-- THE TOP EIGHT: the results' entry `k` of a row is its `k`-th best logit, with the logits' values below. -/
theorem end_rank (r : Fin 32) (k : Fin 8) (v : ℕ → EReal)
    (hv : ∀ j : Fin 32256, v j.val
      = (∑ x : Fin 7168, k0_pay536 (k0_pay532 (F := Ideal) (X0 m c)) (k0_pay533 (F := Ideal) (X0 m c)) k0_pay535 (ix2 r x)
          * (m ((c : Thread nD τ).loc main_arg1) : FVec Ideal S7168x32256 .fp8e4m3) (ix2 x j))
        * k0_pay534 (F := Ideal) (X0 m c) (ix2 r 0) * (m ((c : Thread nD τ).loc main_arg2) : FVec Ideal S32256 .f32) (ix1 j)
          + (m ((c : Thread nD τ).loc main_arg3) : FVec Ideal S32256 .f32) (ix1 j))
    (e : EReal × ℕ) (he : e = ((endVal m c (Proc.devRef .tc main_v3) : FVec Ideal S32x1x8 .f32) (ix3 r 0 k),
      ((endVal m c (Proc.devRef .tc main_v5) : IVec S32x1x8 32) (ix3 r 0 k)).toNat)) :
    (∀ t : EReal × ℕ, t.1 ≠ ⊥ → (Rank.Le e t ↔ k.val < Rank.cnt v (Finset.range 32256) t)) ∧ (e = Rank.pad ∨ e.1 ≠ ⊥) := by
  have h3 : endVal m c (Proc.devRef .tc main_v3) = _ := tail_v3 (mid m c)
  have h5 : endVal m c (Proc.devRef .tc main_v5) = _ := tail_v5 (mid m c)
  rw [h3, h5, mid_v1_0, mid_v1_1, up8, up8] at he
  subst he
  have key := body_rank c (V m c main_arg1) (V m c main_v0) (V m c main_arg2) (V m c main_arg3) (st0 t0_0) (hst0 t0_0) (st1 t0_0) (hst1 t0_0) (st2 t0_0) (hst2 t0_0)
    k r (runAt m c t0_0).1 rfl (runAt m c t0_0).2.1 rfl
  have hc : ∀ t, Rank.cnt (bodyLogit c (V m c main_arg1) (V m c main_v0) (V m c main_arg2) (V m c main_arg3) r) (Finset.range 32256) t = Rank.cnt v (Finset.range 32256) t := by
    intro t
    refine Rank.cnt_congr fun j hj => ?_
    have hj' := Finset.mem_range.1 hj
    have e1 := body_logit_at c (V m c main_arg1) (V m c main_v0) (V m c main_arg2) (V m c main_arg3) r ⟨j, hj'⟩
    rw [V_v0, V_main_arg1, V_main_arg2, V_main_arg3] at e1
    rw [V_v0, V_main_arg1, V_main_arg2, V_main_arg3]
    exact e1.trans (hv ⟨j, hj'⟩).symm
  refine ⟨fun t ht => ?_, key.2⟩
  rw [← hc]
  exact key.1 t ht

/-- THE CODES' RESULT, -/
theorem end_codes (r : Fin 32) (d : Fin 7168) : (endVal m c (Proc.devRef .tc main_v6) : FVec Ideal S32x1x7168 .fp8e4m3) (ix3 r 0 d)
    = k0_pay536 (k0_pay532 (F := Ideal) (X0 m c)) (k0_pay533 (F := Ideal) (X0 m c)) k0_pay535 (ix2 r d) := by
  have h : endVal m c (Proc.devRef .tc main_v6) = _ := tail_v6 (mid m c)
  rw [h, upD, mid_v1_2]
  unfold runAt
  rw [body_codes, V_v0]
/-- and the scales'. -/
theorem end_scale (r : Fin 32) : (endVal m c (Proc.devRef .tc main_v8) : FVec Ideal S32x1x1 .f32) (ix3 r 0 0)
    = k0_pay534 (F := Ideal) (X0 m c) (ix2 r 0) := by
  have h : endVal m c (Proc.devRef .tc main_v8) = _ := tail_v8 (mid m c)
  rw [h, up1, mid_v1_3]
  unfold runAt
  rw [body_scale, V_v0]

end Arrays

end Cert.Proof.KIdeal

end
-- ==== Proof.RRegion.lean ====
/-
  The reference's region: what its three arrays hold after it, as functions of the arrays it finds.
-/
module

public import proofs.«01_k».proof.Proof.Gen.ReferenceIdeal.Frame
public import Idealize.ShloMosaic.Lib.Pipeline.Value

@[expose] public section

set_option maxRecDepth 16384

noncomputable section

namespace Cert.Proof.RIdeal

open Cert.ReferenceIdeal Cert.ReferenceIdeal.Gen
open Idealize.ShloMosaic Idealize.ShloMosaic.TcCoe
open Idealize.SL Idealize.SL.Sem

variable {F : FTy → Type} [FloatOps F]
variable (m : (ℓ : Loc nD τ sig) → Buf (Elt F) ℓ)

/-- The offsets of a whole load are zero. -/
theorem hz : (![0, 0] : Fin 2 → ℕ) = fun _ => 0 := funext fun a => by fin_cases a <;> rfl

/-- The window's stores, as its payloads of the whole blocks. -/
theorem out4_eq (x0 : Vec F S32x7168 .bf16) (x1 : Vec F S7168x32256 .fp8e4m3) (x2 : Vec F S1x32256 .f32) (x3 : Vec F S1x32256 .f32) :
    out0_4 x0 x1 x2 x3 = k0_pay1 (k0_pay6 x0 x1) x2 x3 := by
  unfold out0_4
  rw [View.canon_unit_zero hz, View.ld_unit_zero hz, View.ld_unit_zero hz, View.ld_unit_zero hz, View.ld_unit_zero hz]
/-- The codes the region stores. -/
theorem out5_eq (x0 : Vec F S32x7168 .bf16) (x1 : Vec F S7168x32256 .fp8e4m3) (x2 : Vec F S1x32256 .f32) (x3 : Vec F S1x32256 .f32) :
    out0_5 x0 x1 x2 x3 = k0_pay5 x0 := by
  unfold out0_5
  rw [View.canon_unit_zero hz, View.ld_unit_zero hz]
/-- The scales the region stores. -/
theorem out6_eq (x0 : Vec F S32x7168 .bf16) (x1 : Vec F S7168x32256 .fp8e4m3) (x2 : Vec F S1x32256 .f32) (x3 : Vec F S1x32256 .f32) :
    out0_6 x0 x1 x2 x3 = k0_pay4 x0 := by
  unfold out0_6
  rw [View.canon_unit_zero hz, View.ld_unit_zero hz]

/-- Each window's block is its whole array. -/
theorem idx0 : ∀ t : Fin cfg0.N, win0_0.index t (0 : Fin 2) = 0 ∧ win0_0.index t (1 : Fin 2) = 0 := (by decide +kernel : ∀ t : Fin grid0.N, _)
/-- Window 0's block is its whole array. -/
theorem emb0 (t : Fin cfg0.N) (j : S32x7168.Idx) : ((cfg0.win 0).blk t).view.emb j = j := by
  obtain ⟨e0, e1⟩ := idx0 t
  funext a; apply Fin.ext
  match a with
  | ⟨0, _⟩ => show win0_0.index t (0 : Fin 2) * 32 + 1 * (j 0).val = (j 0).val; omega
  | ⟨1, _⟩ => show win0_0.index t (1 : Fin 2) * 7168 + 1 * (j 1).val = (j 1).val; omega
/-- Window 0's block is the launch's array. -/
theorem iblk0 (c : Dev nD) (t : Fin cfg0.N) : iblk m c 0 t = V m c main_v0 := by
  funext j; show V m c main_v0 (((cfg0.win 0).blk t).view.emb j) = V m c main_v0 j; rw [emb0]
/-- Window 1 starts at zero. -/
theorem idx1 : ∀ t : Fin cfg0.N, win0_1.index t (0 : Fin 2) = 0 ∧ win0_1.index t (1 : Fin 2) = 0 := (by decide +kernel : ∀ t : Fin grid0.N, _)
/-- Window 1's block is its whole array. -/
theorem emb1 (t : Fin cfg0.N) (j : S7168x32256.Idx) : ((cfg0.win 1).blk t).view.emb j = j := by
  obtain ⟨e0, e1⟩ := idx1 t
  funext a; apply Fin.ext
  match a with
  | ⟨0, _⟩ => show win0_1.index t (0 : Fin 2) * 7168 + 1 * (j 0).val = (j 0).val; omega
  | ⟨1, _⟩ => show win0_1.index t (1 : Fin 2) * 32256 + 1 * (j 1).val = (j 1).val; omega
/-- Window 1's block is the launch's array. -/
theorem iblk1 (c : Dev nD) (t : Fin cfg0.N) : iblk m c 1 t = V m c main_arg1 := by
  funext j; show V m c main_arg1 (((cfg0.win 1).blk t).view.emb j) = V m c main_arg1 j; rw [emb1]
/-- Window 2 starts at zero. -/
theorem idx2 : ∀ t : Fin cfg0.N, win0_2.index t (0 : Fin 2) = 0 ∧ win0_2.index t (1 : Fin 2) = 0 := (by decide +kernel : ∀ t : Fin grid0.N, _)
/-- Window 2's block is its whole array. -/
theorem emb2 (t : Fin cfg0.N) (j : S1x32256.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 32256 + 1 * (j 1).val = (j 1).val; omega
/-- Window 2's block is the launch's array. -/
theorem iblk2 (c : Dev nD) (t : Fin cfg0.N) : iblk m c 2 t = V m c main_v1 := by
  funext j; show V m c main_v1 (((cfg0.win 2).blk t).view.emb j) = V m c main_v1 j; rw [emb2]
/-- Window 3 starts at zero. -/
theorem idx3 : ∀ t : Fin cfg0.N, win0_3.index t (0 : Fin 2) = 0 ∧ win0_3.index t (1 : Fin 2) = 0 := (by decide +kernel : ∀ t : Fin grid0.N, _)
/-- Window 3's block is its whole array. -/
theorem emb3 (t : Fin cfg0.N) (j : S1x32256.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 32256 + 1 * (j 1).val = (j 1).val; omega
/-- Window 3's block is the launch's array. -/
theorem iblk3 (c : Dev nD) (t : Fin cfg0.N) : iblk m c 3 t = V m c main_v2 := by
  funext j; show V m c main_v2 (((cfg0.win 3).blk t).view.emb j) = V m c main_v2 j; rw [emb3]
/-- Window 4 starts at zero. -/
theorem idx4 : ∀ t : Fin cfg0.N, win0_4.index t (0 : Fin 2) = 0 ∧ win0_4.index t (1 : Fin 2) = 0 := (by decide +kernel : ∀ t : Fin grid0.N, _)
/-- Window 4's block is its whole array. -/
theorem emb4 (t : Fin cfg0.N) (j : S32x32256.Idx) : ((cfg0.win 4).blk t).view.emb j = j := by
  obtain ⟨e0, e1⟩ := idx4 t
  funext a; apply Fin.ext
  match a with
  | ⟨0, _⟩ => show win0_4.index t (0 : Fin 2) * 32 + 1 * (j 0).val = (j 0).val; omega
  | ⟨1, _⟩ => show win0_4.index t (1 : Fin 2) * 32256 + 1 * (j 1).val = (j 1).val; omega
/-- Window 4's array ends as its block. -/
theorem arr4 (c : Dev nD) (X : Vec F S32x32256 .f32) (hX : ∀ t, (dats m 0 c).after 4 t = X) : (dats m 0 c).arrAt 4 cfg0.N = X := by
  refine (dats m 0 c).arrAt_eq_of_cover 4 X (fun t _ => ?_) fun j => ⟨⟨0, by decide⟩, flush0_4 _, ?_⟩
  · show (cfg0.win 4).cut (grid0.coords t) ((dats m 0 c).after 4 t) = _
    rw [hX]
    funext j
    show X j = X (((cfg0.win 4).blk t).view.emb j)
    rw [emb4]
  · have h := ((cfg0.win 4).blk (⟨0, by decide⟩ : Fin cfg0.N)).view.emb_mem_set j
    rwa [emb4] at h
/-- Window 5 starts at zero. -/
theorem idx5 : ∀ t : Fin cfg0.N, win0_5.index t (0 : Fin 2) = 0 ∧ win0_5.index t (1 : Fin 2) = 0 := (by decide +kernel : ∀ t : Fin grid0.N, _)
/-- Window 5's block is its whole array. -/
theorem emb5 (t : Fin cfg0.N) (j : S32x7168.Idx) : ((cfg0.win 5).blk t).view.emb j = j := by
  obtain ⟨e0, e1⟩ := idx5 t
  funext a; apply Fin.ext
  match a with
  | ⟨0, _⟩ => show win0_5.index t (0 : Fin 2) * 32 + 1 * (j 0).val = (j 0).val; omega
  | ⟨1, _⟩ => show win0_5.index t (1 : Fin 2) * 7168 + 1 * (j 1).val = (j 1).val; omega
/-- Window 5's array ends as its block. -/
theorem arr5 (c : Dev nD) (X : Vec F S32x7168 .fp8e4m3) (hX : ∀ t, (dats m 0 c).after 5 t = X) : (dats m 0 c).arrAt 5 cfg0.N = X := by
  refine (dats m 0 c).arrAt_eq_of_cover 5 X (fun t _ => ?_) fun j => ⟨⟨0, by decide⟩, flush0_5 _, ?_⟩
  · show (cfg0.win 5).cut (grid0.coords t) ((dats m 0 c).after 5 t) = _
    rw [hX]
    funext j
    show X j = X (((cfg0.win 5).blk t).view.emb j)
    rw [emb5]
  · have h := ((cfg0.win 5).blk (⟨0, by decide⟩ : Fin cfg0.N)).view.emb_mem_set j
    rwa [emb5] at h
/-- Window 6 starts at zero. -/
theorem idx6 : ∀ t : Fin cfg0.N, win0_6.index t (0 : Fin 2) = 0 ∧ win0_6.index t (1 : Fin 2) = 0 := (by decide +kernel : ∀ t : Fin grid0.N, _)
/-- Window 6's block is its whole array. -/
theorem emb6 (t : Fin cfg0.N) (j : S32x1.Idx) : ((cfg0.win 6).blk t).view.emb j = j := by
  obtain ⟨e0, e1⟩ := idx6 t
  funext a; apply Fin.ext
  match a with
  | ⟨0, _⟩ => show win0_6.index t (0 : Fin 2) * 32 + 1 * (j 0).val = (j 0).val; omega
  | ⟨1, _⟩ => show win0_6.index t (1 : Fin 2) * 1 + 1 * (j 1).val = (j 1).val; omega
/-- Window 6's array ends as its block. -/
theorem arr6 (c : Dev nD) (X : Vec F S32x1 .f32) (hX : ∀ t, (dats m 0 c).after 6 t = X) : (dats m 0 c).arrAt 6 cfg0.N = X := by
  refine (dats m 0 c).arrAt_eq_of_cover 6 X (fun t _ => ?_) fun j => ⟨⟨0, by decide⟩, flush0_6 _, ?_⟩
  · show (cfg0.win 6).cut (grid0.coords t) ((dats m 0 c).after 6 t) = _
    rw [hX]
    funext j
    show X j = X (((cfg0.win 6).blk t).view.emb j)
    rw [emb6]
  · have h := ((cfg0.win 6).blk (⟨0, by decide⟩ : Fin cfg0.N)).view.emb_mem_set j
    rwa [emb6] at h

/-- THE LOGITS' ARRAY after the region, -/
theorem final4 (c : Dev nD) : (dats m 0 c).arrAt 4 cfg0.N = k0_pay1 (k0_pay6 (V m c main_v0) (V m c main_arg1)) (V m c main_v1) (V m c main_v2) :=
  arr4 m c _ fun t => by rw [after0_4, out4_eq, iblk0, iblk1, iblk2, iblk3]
/-- the codes', -/
theorem final5 (c : Dev nD) : (dats m 0 c).arrAt 5 cfg0.N = k0_pay5 (V m c main_v0) :=
  arr5 m c _ fun t => by rw [after0_5, out5_eq, iblk0]
/-- and the scales'. -/
theorem final6 (c : Dev nD) : (dats m 0 c).arrAt 6 cfg0.N = k0_pay4 (V m c main_v0) :=
  arr6 m c _ fun t => by rw [after0_6, out6_eq, iblk0]

end Cert.Proof.RIdeal

end
-- ==== Proof.RHost.lean ====
/-
  The reference's host lines: its operands reshaped before the region, and the stable top eight after it.
-/
module

public import proofs.«01_k».proof.Proof.RRegion
public import Idealize.ShloMosaic.Lib.StableHlo.ReadAt
public import Idealize.ShloMosaic.Lib.Pointwise

@[expose] public section

set_option maxRecDepth 16384

noncomputable section

namespace Cert.Proof.RIdeal

open Cert.ReferenceIdeal Cert.ReferenceIdeal.Gen
open Idealize.ShloMosaic Idealize.ShloMosaic.TcCoe
open Idealize.SL Idealize.SL.Sem

variable (U : Valuation τ sig (Elt Ideal))

/-- The stable top eight of each row: the values, and their positions. -/
def topOf (x : FVec Ideal S32x32256 .f32) : FVec Ideal S32x8 .f32 × IVec S32x8 32 :=
  Host.topK S32x8 1 (FloatOps.cmpfTotal (F := Ideal) (φ := .f32) .gt) x sliceFits_S32x32256_S32x8

/-- The lines after the region. -/
abbrev tail : List (HloOp τ sig (Elt Ideal)) := List.flatten [hostOps1, hostOps1_1, hostOps1_2]

/-- The first result is the row's eight values, reshaped. -/
theorem tail_v7 : StableHlo.after tail U (Proc.devRef .tc main_v7)
    = shapeCast S32x1x8 (topOf (U (Proc.devRef .tc main_v3_0))).1 shapeCasts_S32x8_S32x1x8 := by
  simp only [tail, hostOps1, hostOps1_1, hostOps1_2, List.flatten_cons, List.flatten_nil, List.append_nil, List.cons_append, List.nil_append]
  after_results
  rfl
/-- The second result is their indices, reshaped. -/
theorem tail_v8 : StableHlo.after tail U (Proc.devRef .tc main_v8)
    = shapeCast S32x1x8 (select (cmpf .oeq (topOf (U (Proc.devRef .tc main_v3_0))).1
        (broadcastInDim S32x8 ![] bcast_S_S32x8 (constant (F := Ideal) S_ .f32 0xFF800000#32)))
        (broadcastInDim S32x8 ![] bcast_S_S32x8 (constantI S_ 32 1073741824#32))
        (topOf (U (Proc.devRef .tc main_v3_0))).2) shapeCasts_S32x8_S32x1x8 := by
  simp only [tail, hostOps1, hostOps1_1, hostOps1_2, List.flatten_cons, List.flatten_nil, List.append_nil, List.cons_append, List.nil_append]
  after_results
  rfl
/-- The third result is the codes, reshaped. -/
theorem tail_v9 : StableHlo.after tail U (Proc.devRef .tc main_v9)
    = shapeCast S32x1x7168 (U (Proc.devRef .tc main_v3_1) : FVec Ideal S32x7168 .fp8e4m3) shapeCasts_S32x7168_S32x1x7168 := by
  simp only [tail, hostOps1, hostOps1_1, hostOps1_2, List.flatten_cons, List.flatten_nil, List.append_nil, List.cons_append, List.nil_append]
  after_results
  rfl
/-- The fourth result is the scales, reshaped. -/
theorem tail_v10 : StableHlo.after tail U (Proc.devRef .tc main_v10)
    = shapeCast S32x1x1 (U (Proc.devRef .tc main_v3_2) : FVec Ideal S32x1 .f32) shapeCasts_S32x1_S32x1x1 := by
  simp only [tail, hostOps1, hostOps1_1, hostOps1_2, List.flatten_cons, List.flatten_nil, List.append_nil, List.cons_append, List.nil_append]
  after_results
  rfl

variable (m : (ℓ : Loc nD τ sig) → Buf (Elt Ideal) ℓ)

/-- The launch's rows are `x`, reshaped. -/
theorem V_v0 (c : Dev nD) : V m c main_v0 = shapeCast S32x7168 (m ((c : Thread nD τ).loc main_arg0) : FVec Ideal S32x1x7168 .bf16) shapeCasts_S32x1x7168_S32x7168 := by
  unfold V V0
  simp only [hostOps0, List.flatten_cons, List.flatten_nil, List.append_nil]
  after_results
  rfl
/-- The launch's weight scales are the argument, reshaped. -/
theorem V_v1 (c : Dev nD) : V m c main_v1 = shapeCast S1x32256 (m ((c : Thread nD τ).loc main_arg2) : FVec Ideal S32256 .f32) shapeCasts_S32256_S1x32256 := by
  unfold V V0
  simp only [hostOps0, List.flatten_cons, List.flatten_nil, List.append_nil]
  after_results
  rfl
/-- The launch's biases are the argument, reshaped. -/
theorem V_v2 (c : Dev nD) : V m c main_v2 = shapeCast S1x32256 (m ((c : Thread nD τ).loc main_arg3) : FVec Ideal S32256 .f32) shapeCasts_S32256_S1x32256 := by
  unfold V V0
  simp only [hostOps0, List.flatten_cons, List.flatten_nil, List.append_nil]
  after_results
  rfl

end Cert.Proof.RIdeal

end
-- ==== Proof.Sort.lean ====
/-
  A stable sort by the greater value: its `k`-th position holds the `k`-th best entry of the row.
-/
module

public import proofs.«01_k».proof.Proof.Rank
public import Idealize.ShloMosaic.Lib.SortFacts

@[expose] public section

noncomputable section

namespace Cert.Proof.Rank

open Idealize.ShloMosaic

/-- Inserting a position before later ones keeps the entries in order. -/
theorem pairwise_insert {n : ℕ} (v : Fin n → EReal) (before : Fin n → Fin n → Bool) (hb : ∀ i j, before i j = true ↔ v j < v i)
    (a : Fin n) (l : List (Fin n)) (ha : ∀ b ∈ l, a < b) (hl : l.Pairwise fun i j => Le (v i, i.val) (v j, j.val)) :
    (insertBefore before a l).Pairwise fun i j => Le (v i, i.val) (v j, j.val) := by
  induction l with
  | nil => exact List.pairwise_singleton _ _
  | cons b l ih =>
    rw [List.pairwise_cons] at hl
    unfold insertBefore
    split_ifs with h
    · rw [List.pairwise_cons]
      refine ⟨fun j hj => ?_, ih (fun c hc => ha c (List.mem_cons_of_mem _ hc)) hl.2⟩
      rcases List.mem_cons.mp ((perm_insertBefore before a l).mem_iff.mp hj) with rfl | hj
      · exact Or.inl ((hb _ _).mp h)
      · exact hl.1 j hj
    · have hab : Le (v a, a.val) (v b, b.val) := by
        have hle : v b ≤ v a := by
          rw [hb] at h
          exact not_lt.mp h
        rcases hle.lt_or_eq with h' | h'
        · exact Or.inl h'
        · exact Or.inr ⟨h'.symm, (ha b List.mem_cons_self).le⟩
      rw [List.pairwise_cons, List.pairwise_cons]
      refine ⟨fun j hj => ?_, hl.1, hl.2⟩
      rcases List.mem_cons.mp hj with rfl | hj
      · exact hab
      · exact hab.trans (hl.1 j hj)

/-- In the sorted row each entry comes before the later ones, ties by position. -/
theorem pairwise_sort {n : ℕ} (v : Fin n → EReal) (before : Fin n → Fin n → Bool) (hb : ∀ i j, before i j = true ↔ v j < v i)
    (l : List (Fin n)) (hl : l.Pairwise (· < ·)) : (stableSort before l).Pairwise fun i j => Le (v i, i.val) (v j, j.val) := by
  induction l with
  | nil => exact List.Pairwise.nil
  | cons a l ih =>
    rw [List.pairwise_cons] at hl
    unfold stableSort
    exact pairwise_insert v before hb a _ (fun b h => hl.1 b ((perm_stableSort before l).mem_iff.mp h)) (ih hl.2)

/-- The sorted positions list the entries in order. -/
theorem sorted_le {n : ℕ} (v : Fin n → EReal) (before : Fin n → Fin n → Bool) (hb : ∀ i j, before i j = true ↔ v j < v i)
    (i j : Fin n) (hij : i ≤ j) :
    Le (v (sortedFrom before i), (sortedFrom before i).val) (v (sortedFrom before j), (sortedFrom before j).val) := by
  rcases hij.lt_or_eq with h | rfl
  · have hp := List.pairwise_iff_get.mp (pairwise_sort v before hb (List.finRange n) (List.pairwise_lt_finRange n))
    exact hp (i.cast (length_sortPositions n before).symm) (j.cast (length_sortPositions n before).symm) h
  · exact Le.refl _

/-- THE SORT'S RANKS: the `k`-th entry comes no later than `t` just when more than `k` entries do. -/
theorem sorted_rank {n : ℕ} (v : ℕ → EReal) (before : Fin n → Fin n → Bool) (hb : ∀ i j : Fin n, before i j = true ↔ v j.val < v i.val)
    (k : Fin n) (t : EReal × ℕ) :
    Le (v (sortedFrom before k).val, (sortedFrom before k).val) t ↔ k.val < cnt v (Finset.range n) t := by
  classical
  have hcard : cnt v (Finset.range n) t = (Finset.univ.filter fun i : Fin n => Le (v (sortedFrom before i).val, (sortedFrom before i).val) t).card := by
    unfold cnt
    symm
    refine Finset.card_bij (fun i _ => (sortedFrom before i).val) ?_ ?_ ?_
    · intro i hi
      rw [Finset.mem_filter] at hi ⊢
      exact ⟨Finset.mem_range.mpr (sortedFrom before i).isLt, hi.2⟩
    · intro i _ j _ h
      exact sortedFrom_injective before (Fin.ext h)
    · intro j hj
      rw [Finset.mem_filter, Finset.mem_range] at hj
      obtain ⟨i, hi⟩ := sortedFrom_surjective before ⟨j, hj.1⟩
      refine ⟨i, ?_, by rw [hi]⟩
      rw [Finset.mem_filter, hi]
      exact ⟨Finset.mem_univ _, hj.2⟩
  rw [hcard]
  constructor
  · intro h
    have hsub : Finset.Iic k ⊆ Finset.univ.filter fun i : Fin n => Le (v (sortedFrom before i).val, (sortedFrom before i).val) t := by
      intro i hi
      rw [Finset.mem_filter]
      exact ⟨Finset.mem_univ _, (sorted_le (fun i => v i.val) before hb i k (Finset.mem_Iic.mp hi)).trans h⟩
    have := Finset.card_le_card hsub
    rw [Fin.card_Iic] at this
    omega
  · intro h
    by_contra hk
    have hsub : (Finset.univ.filter fun i : Fin n => Le (v (sortedFrom before i).val, (sortedFrom before i).val) t) ⊆ Finset.Iio k := by
      intro i hi
      rw [Finset.mem_filter] at hi
      rw [Finset.mem_Iio]
      by_contra hik
      exact hk ((sorted_le (fun i => v i.val) before hb k i (not_lt.mp hik)).trans hi.2)
    have := Finset.card_le_card hsub
    rw [Fin.card_Iio] at this
    omega

/-- An entry whose value is −∞ given the empty index. -/
def dead (e : EReal × ℕ) : EReal × ℕ := open Classical in if e.1 = ⊥ then pad else e

/-- Replacing a dead entry's index changes no comparison with a live one. -/
theorem dead_rank {e : EReal × ℕ} {t : EReal × ℕ} (ht : t.1 ≠ ⊥) : Le (dead e) t ↔ Le e t := by
  unfold dead
  split_ifs with h
  · refine ⟨fun h' => absurd h' (not_pad_le ht), ?_⟩
    rintro (h' | ⟨h', -⟩)
    · exact absurd (h ▸ h') not_lt_bot
    · exact absurd (h'.symm.trans h) ht
  · rfl

/-- An entry so replaced is the empty one or live. -/
theorem dead_live (e : EReal × ℕ) : dead e = pad ∨ (dead e).1 ≠ ⊥ := by
  unfold dead
  split_ifs with h
  · exact Or.inl rfl
  · exact Or.inr h

end Cert.Proof.Rank

end
-- ==== Proof.RTop.lean ====
/-
  The reference's top eight at a row: its `k`-th entry, with the empty index at −∞, is the row's `k`-th best.
-/
module

public import proofs.«01_k».proof.Proof.RHost
public import proofs.«01_k».proof.Proof.Sort

@[expose] public section

set_option maxRecDepth 16384

noncomputable section

namespace Cert.Proof.RIdeal

open Cert.ReferenceIdeal Cert.ReferenceIdeal.Gen
open Idealize.ShloMosaic Idealize.ShloMosaic.TcCoe
open Idealize.SL Idealize.SL.Sem
open Cert.Proof

/-- Which of two positions of a row the sort puts first. -/
def bef (x : FVec Ideal S32x32256 .f32) (r : Fin 32) (i j : Fin 32256) : Bool :=
  FloatOps.cmpfTotal (F := Ideal) (φ := .f32) .gt (x (ix2 r i)) (x (ix2 r j)) == 1#1

/-- The sort's order puts one column before another exactly if its logit is greater. -/
theorem bef_iff (x : FVec Ideal S32x32256 .f32) (r : Fin 32) (i j : Fin 32256) :
    bef x r i j = true ↔ (x (ix2 r j) : EReal) < x (ix2 r i) := by
  have e : FloatOps.cmpfTotal (F := Ideal) (φ := .f32) .gt (x (ix2 r i)) (x (ix2 r j)) = BitVec.ofBool (decide ((x (ix2 r j) : EReal) < x (ix2 r i))) := rfl
  unfold bef
  rw [e]
  by_cases h : (x (ix2 r j) : EReal) < x (ix2 r i) <;> simp [h]

/-- The position a row's `k`-th entry comes from. -/
def src (x : FVec Ideal S32x32256 .f32) (r : Fin 32) (k : Fin 8) : Fin 32256 := sortedFrom (bef x r) ⟨k.val, by omega⟩

/-- The entries along a row. -/
theorem along_row (i : S32x32256.Idx) (k : Fin 32256) : i.along (1 : Fin 2) k = ix2 (n0 := 32) (n1 := 32256) (i 0) k := by
  funext a
  fin_cases a <;> rfl

/-- The top eight are the first eight of the sorted row. -/
theorem topOf_eq (x : FVec Ideal S32x32256 .f32) :
    topOf x = (extractStridedSlice S32x8 (fun _ => 0) (fun j : S32x32256.Idx => x (j.along (1 : Fin 2)
        (sortedFrom (fun p q => FloatOps.cmpfTotal (F := Ideal) (φ := .f32) .gt (x (j.along (1 : Fin 2) p)) (x (j.along (1 : Fin 2) q)) == 1#1) (j 1)))) sliceFits_S32x32256_S32x8,
      extractStridedSlice S32x8 (fun _ => 0) (fun j : S32x32256.Idx => iotaInDim S32x32256 32 (1 : Fin 2) (j.along (1 : Fin 2)
        (sortedFrom (fun p q => FloatOps.cmpfTotal (F := Ideal) (φ := .f32) .gt (x (j.along (1 : Fin 2) p)) (x (j.along (1 : Fin 2) q)) == 1#1) (j 1)))) sliceFits_S32x32256_S32x8) := rfl

/-- The sorted row's source column. -/
theorem row_src (x : FVec Ideal S32x32256 .f32) (r : Fin 32) (q : Fin 32256) :
    ((ix2 r q : S32x32256.Idx).along (1 : Fin 2)
        (sortedFrom (fun p p' => FloatOps.cmpfTotal (F := Ideal) (φ := .f32) .gt (x ((ix2 r q : S32x32256.Idx).along (1 : Fin 2) p)) (x ((ix2 r q : S32x32256.Idx).along (1 : Fin 2) p')) == 1#1) ((ix2 r q : S32x32256.Idx) 1)))
      = ix2 r (sortedFrom (bef x r) q) := by
  have e : (fun p p' : Fin 32256 => FloatOps.cmpfTotal (F := Ideal) (φ := .f32) .gt (x ((ix2 r q : S32x32256.Idx).along (1 : Fin 2) p)) (x ((ix2 r q : S32x32256.Idx).along (1 : Fin 2) p')) == 1#1) = bef x r := by
    funext p p'
    rw [along_row, along_row]
    rfl
  exact (along_row _ _).trans (congrArg (fun f : Fin 32256 → Fin 32256 → Bool => (ix2 r (sortedFrom f q) : S32x32256.Idx)) e)

/-- The cut to eight, at an index. -/
theorem cut_at {α : Type} (f : S32x32256.Idx → α) (r : Fin 32) (k : Fin 8) :
    extractStridedSlice S32x8 (fun _ => 0) f sliceFits_S32x32256_S32x8 (ix2 r k) = f (ix2 r ⟨k.val, by omega⟩) := by
  refine congrArg f (funext fun a => Fin.ext ?_)
  fin_cases a
  · exact Nat.zero_add _
  · exact Nat.zero_add _

/-- The top eight of a row, at an index. -/
theorem topOf_at (x : FVec Ideal S32x32256 .f32) (r : Fin 32) (k : Fin 8) :
    (topOf x).1 (ix2 r k) = x (ix2 r (src x r k)) ∧ (topOf x).2 (ix2 r k) = BitVec.ofNat 32 (src x r k).val := by
  rw [topOf_eq]
  dsimp only
  rw [cut_at, cut_at, row_src]
  exact ⟨rfl, rfl⟩

/-- The entry with the index the reference gives it. -/
theorem entry_at (x : FVec Ideal S32x32256 .f32) (r : Fin 32) (k : Fin 8) :
    (((topOf x).1 (ix2 r k), (select (cmpf .oeq (topOf x).1 (broadcastInDim S32x8 ![] bcast_S_S32x8 (constant (F := Ideal) S_ .f32 0xFF800000#32)))
        (broadcastInDim S32x8 ![] bcast_S_S32x8 (constantI S_ 32 1073741824#32)) (topOf x).2 (ix2 r k)).toNat) : EReal × ℕ)
      = Rank.dead (x (ix2 r (src x r k)), (src x r k).val) := by
  have hs : select (cmpf .oeq (topOf x).1 (broadcastInDim S32x8 ![] bcast_S_S32x8 (constant (F := Ideal) S_ .f32 0xFF800000#32)))
        (broadcastInDim S32x8 ![] bcast_S_S32x8 (constantI S_ 32 1073741824#32)) (topOf x).2 (ix2 r k)
      = if ((topOf x).1 (ix2 r k) : EReal) = Ideal.ofBits .f32 0xFF800000#32 then 1073741824#32 else (topOf x).2 (ix2 r k) := by
    generalize topOf x = T
    pointwise []
  have hn : Ideal.ofBits .f32 0xFF800000#32 = ⊥ := by simp [Ideal.ofBits, Ideal.ieee]
  rw [hs, hn, (topOf_at x r k).1, (topOf_at x r k).2]
  unfold Rank.dead
  dsimp only
  have hlt := (src x r k).isLt
  by_cases h : (x (ix2 r (src x r k)) : EReal) = ⊥
  · rw [if_pos h, if_pos h]
    exact Prod.ext h rfl
  · rw [if_neg h, if_neg h]
    refine Prod.ext rfl ?_
    show (BitVec.ofNat 32 (src x r k).val).toNat = _
    rw [BitVec.toNat_ofNat]
    omega

/-- THE REFERENCE'S TOP EIGHT: a row's `k`-th entry is its `k`-th best. -/
theorem entry_rank (x : FVec Ideal S32x32256 .f32) (r : Fin 32) (v : ℕ → EReal) (hv : ∀ j : Fin 32256, v j.val = x (ix2 r j)) (k : Fin 8)
    (e : EReal × ℕ) (he : e = Rank.dead (x (ix2 r (src x r k)), (src x r k).val)) :
    (∀ t : EReal × ℕ, t.1 ≠ ⊥ → (Rank.Le e t ↔ k.val < Rank.cnt v (Finset.range 32256) t)) ∧ (e = Rank.pad ∨ e.1 ≠ ⊥) := by
  subst he
  refine ⟨fun t ht => ?_, Rank.dead_live _⟩
  rw [Rank.dead_rank ht, ← hv]
  exact Rank.sorted_rank v (bef x r) (fun i j => by rw [bef_iff, hv, hv]) ⟨k.val, by omega⟩ t

end Cert.Proof.RIdeal

end
-- ==== Proof.Scale.lean ====
/-
The quantiser's scale, one row at a time, without the programs. The kernel counts the powers of two not above the row's
maximum over 448 and builds the words of `2 ^ e` and `2 ^ -e` from the count; the reference takes the least `e` with the
quotient below `2 ^ e`. On a row that is zero, infinite or normal they agree.
-/
module

public import Idealize.ShloMosaic.Lib.Pointwise

@[expose] public section

noncomputable section

namespace Cert.Proof.Scale

open Idealize.ShloMosaic

/-- The kernel's count of the powers of two not above `v`. -/
def kcnt (v : EReal) : BitVec 32 :=
  Finset.fold IntOp.addi (0#32) (fun i : Fin 255 => BitVec.setWidth 32 (BitVec.ofBool (decide
    (Ideal.ofBits FTy.f32 (IntOp.shli ArithUnit.vector (IntOp.addi (BitVec.ofNat 32 i.val) 1#32) 23#32) ≤ v)))) Finset.univ

/-- The kernel's exponent. -/
def kexp (v : EReal) : BitVec 32 :=
  Scalar.select (IntOp.ori (IntOp.cmpi CmpIPredicate.eq (kcnt v) 0#32) (IntOp.cmpi CmpIPredicate.eq (kcnt v) 255#32)) (0#32)
    (IntOp.subi (kcnt v) 126#32)

/-- The kernel's scale and its inverse. -/
def kscale (v : EReal) : EReal := Ideal.ofBits FTy.f32 (IntOp.shli ArithUnit.vector (IntOp.addi (kexp v) 127#32) 23#32)
def kinv (v : EReal) : EReal := Ideal.ofBits FTy.f32 (IntOp.shli ArithUnit.vector (IntOp.subi 127#32 (kexp v)) 23#32)

/-- The reference's candidate exponent `i`. -/
def grid (i : Fin 254) : EReal := FloatOps.sitofp (F := Ideal) FTy.f32 (BitVec.ofNat 32 i.val) - Ideal.ofBits FTy.f32 0x42FC0000#32

/-- The reference's exponent. -/
def rexp (a : EReal) : EReal :=
  Scalar.select (IntOp.ori (BitVec.ofBool (decide (a = 0))) (BitVec.ofBool (decide (a = Ideal.ofBits FTy.f32 0x7F800000#32)))) 0
    (Finset.fold min (Ideal.ofBits FTy.f32 0x7F800000#32)
      (fun i : Fin 254 => if a * Ideal.ofBits FTy.f32 0x3B124925#32 < Ideal.exp2 (grid i) then grid i
        else Ideal.ofBits FTy.f32 0x43000000#32) Finset.univ)

/-- A float32 word by its fields. -/
theorem ofBits_f32 (b : BitVec 32) : Ideal.ofBits FTy.f32 b = Ideal.ieee 8 23 b := rfl

/-- The sign and exponent of a word that is an exponent shifted up. -/
theorem word_parts : ∀ i : Fin 256, ((BitVec.ofNat 32 i.val <<< (23#32)).extractLsb' 31 1 == 1#1) = false
    ∧ ((BitVec.ofNat 32 i.val <<< (23#32)).extractLsb' 23 8).toNat = i.val ∧ ((BitVec.ofNat 32 i.val <<< (23#32)).extractLsb' 0 23).toNat = 0 := by
  decide +kernel

/-- The kernel's shift, as a shift of words. -/
theorem shl_word (b : BitVec 32) : IntOp.shli ArithUnit.vector b 23#32 = b <<< (23#32) := by
  unfold IntOp.shli; rw [if_pos (by decide)]

/-- The value of a word with zero fraction is a power of two. -/
theorem pow_real (i : ℕ) : (if false = true then (-1 : ℝ) else 1) * ((2 ^ 23 + 0 : ℕ) : ℝ)
    * (2 : ℝ) ^ ((i : ℤ) - (2 ^ (8 - 1) - 1) - ((23 : ℕ) : ℤ)) = (2 : ℝ) ^ ((i : ℤ) - 127) := by
  have e : ((2 ^ 23 + 0 : ℕ) : ℝ) = (2 : ℝ) ^ (23 : ℤ) := by norm_num
  rw [e, if_neg (by simp), one_mul, ← zpow_add₀ (by norm_num)]
  congr 1
  push_cast
  ring

/-- The word with exponent field `i` denotes `2 ^ (i - 127)`. -/
theorem pow_word (i : ℕ) (h0 : 0 < i) (h1 : i < 255) (b : BitVec 32) (hb : b = BitVec.ofNat 32 i) :
    Ideal.ofBits FTy.f32 (IntOp.shli ArithUnit.vector b 23#32) = (((2 : ℝ) ^ ((i : ℤ) - 127) : ℝ) : EReal) := by
  subst hb
  rw [shl_word]
  obtain ⟨p1, p2, p3⟩ := word_parts ⟨i, by omega⟩
  rw [ofBits_f32]
  unfold Ideal.ieee
  dsimp only at p1 p2 p3 ⊢
  rw [show (8 + 23 : ℕ) = 31 from rfl, p1, p2, p3, if_neg (by omega), if_neg (by omega)]
  exact congrArg _ (pow_real i)

/-- The word of exponent 255 is infinity. -/
theorem top_word (b : BitVec 32) (hb : b = BitVec.ofNat 32 255) : Ideal.ofBits FTy.f32 (IntOp.shli ArithUnit.vector b 23#32) = ⊤ := by
  subst hb
  rw [shl_word]
  obtain ⟨p1, p2, p3⟩ := word_parts 255
  rw [ofBits_f32]
  unfold Ideal.ieee
  dsimp only at p1 p2 p3 ⊢
  have p1' : ((BitVec.ofNat 32 255 <<< (23#32)).extractLsb' 31 1 == 1#1) = false := p1
  have p2' : ((BitVec.ofNat 32 255 <<< (23#32)).extractLsb' 23 8).toNat = 255 := p2
  have p3' : ((BitVec.ofNat 32 255 <<< (23#32)).extractLsb' 0 23).toNat = 0 := p3
  rw [show (8 + 23 : ℕ) = 31 from rfl, p1', p2', p3']
  simp

/-- The word of infinity denotes infinity. -/
theorem inf_word : Ideal.ofBits FTy.f32 0x7F800000#32 = ⊤ := by
  rw [show (0x7F800000#32 : BitVec 32) = IntOp.shli ArithUnit.vector (BitVec.ofNat 32 255) 23#32 by rw [shl_word]; decide]
  exact top_word _ rfl

/-- Adding one to a word. -/
theorem add_one_word (i : ℕ) : IntOp.addi (BitVec.ofNat 32 i) 1#32 = BitVec.ofNat 32 (i + 1) := by
  unfold IntOp.addi; rw [BitVec.ofNat_add]

/-- A sum of `n` words each one below `m` and zero from `m` on. -/
theorem fold_count (n m : ℕ) (f : Fin n → BitVec 32) (hf : ∀ i, f i = if i.val < m then 1#32 else 0#32) :
    Finset.fold IntOp.addi (0#32) f Finset.univ = BitVec.ofNat 32 (min n m) := by
  rw [show f = (fun i : Fin n => (fun k : ℕ => if k < m then 1#32 else 0#32) i.val) from funext hf]
  induction n with
  | zero => simp
  | succ n ih =>
    rw [Fin.univ_castSuccEmb, Finset.fold_cons, Finset.fold_map]
    have := ih (fun i => if i.val < m then 1#32 else 0#32) (fun i => rfl)
    refine (congrArg (IntOp.addi (if n < m then 1#32 else 0#32)) this).trans ?_
    unfold IntOp.addi
    split_ifs with h
    · rw [show min (n + 1) m = 1 + min n m by omega, BitVec.ofNat_add]
    · rw [show min (n + 1) m = min n m by omega, BitVec.zero_add]

/-- The count, from how many of the powers are not above. -/
theorem kcnt_of {v : EReal} {m : ℕ} (hm : m ≤ 255)
    (h : ∀ i : Fin 255, Ideal.ofBits FTy.f32 (IntOp.shli ArithUnit.vector (BitVec.ofNat 32 (i.val + 1)) 23#32) ≤ v ↔ i.val < m) :
    kcnt v = BitVec.ofNat 32 m := by
  unfold kcnt
  rw [fold_count 255 m _ (fun i => ?_), Nat.min_eq_right hm]
  rw [add_one_word]
  by_cases hi : i.val < m
  · rw [if_pos hi, decide_eq_true ((h i).mpr hi)]; rfl
  · rw [if_neg hi, decide_eq_false (fun h' => hi ((h i).mp h'))]; rfl

/-- The kernel's count for zero. -/
theorem kcnt_zero : kcnt 0 = 0#32 := by
  refine kcnt_of (m := 0) (by omega) fun i => ⟨fun h => absurd h (not_le.mpr ?_), fun h => absurd h (Nat.not_lt_zero _)⟩
  by_cases hi : i.val + 1 < 255
  · rw [pow_word (i.val + 1) (Nat.succ_pos _) hi _ rfl]
    exact_mod_cast zpow_pos (by norm_num : (0 : ℝ) < 2) _
  · rw [top_word _ (by congr 1; have := i.isLt; omega)]
    exact EReal.zero_lt_top

/-- The kernel's count for infinity. -/
theorem kcnt_top : kcnt ⊤ = 255#32 := kcnt_of (m := 255) le_rfl fun i => ⟨fun _ => i.isLt, fun _ => le_top⟩

/-- Of a normal value the count is its exponent's field. -/
theorem kcnt_real {r : ℝ} {n : ℤ} (h0 : (2 : ℝ) ^ n ≤ r) (h1 : r < (2 : ℝ) ^ (n + 1)) (ha : -126 ≤ n) (hb : n ≤ 126) :
    kcnt (r : EReal) = BitVec.ofNat 32 (n + 127).toNat := by
  refine kcnt_of (by omega) fun i => ?_
  by_cases hi : i.val + 1 < 255
  · rw [pow_word (i.val + 1) (Nat.succ_pos _) hi _ rfl, EReal.coe_le_coe_iff]
    constructor
    · intro h
      have := (zpow_lt_zpow_iff_right₀ (by norm_num : (1 : ℝ) < 2)).mp (h.trans_lt h1)
      push_cast at this
      omega
    · intro h
      refine le_trans (zpow_le_zpow_right₀ (by norm_num : (1 : ℝ) ≤ 2) ?_) h0
      push_cast
      omega
  · rw [top_word _ (by congr 1; have := i.isLt; omega)]
    refine ⟨fun h => absurd (top_le_iff.mp h) (EReal.coe_ne_top r), fun h => absurd h ?_⟩
    omega

/-- The reference's exponents run from -126 up. -/
theorem grid_eq (i : Fin 254) : grid i = (((i.val : ℝ) - 126 : ℝ) : EReal) := by
  have e : Ideal.ofBits FTy.f32 0x42FC0000#32 = ((126 : ℝ) : EReal) := by
    rw [ofBits_f32]
    unfold Ideal.ieee
    rw [show ((0x42FC0000#32 : BitVec 32).extractLsb' (8 + 23) 1 == 1#1) = false by decide,
      show ((0x42FC0000#32 : BitVec 32).extractLsb' 23 8).toNat = 133 by decide,
      show ((0x42FC0000#32 : BitVec 32).extractLsb' 0 23).toNat = 0x7C0000 by decide]
    norm_num
  unfold grid
  rw [e, EReal.coe_sub]
  congr 1
  show (((BitVec.ofNat 32 i.val).toInt : ℝ) : EReal) = _
  have : (BitVec.ofNat 32 i.val).toInt = (i.val : ℤ) := by
    rw [BitVec.toInt_eq_toNat_of_lt] <;> rw [BitVec.toNat_ofNat] <;> have := i.isLt <;> omega
  rw [this]
  push_cast
  rfl

/-- Two to an integer. -/
theorem exp2_int (n : ℤ) : Ideal.exp2 ((n : ℝ) : EReal) = (((2 : ℝ) ^ n : ℝ) : EReal) := by
  show ((Real.rpow 2 (n : ℝ) : ℝ) : EReal) = _
  rw [← Real.rpow_intCast]
  rfl

/-- Two to one of the reference's exponents. -/
theorem exp2_grid (i : Fin 254) : Ideal.exp2 (grid i) = (((2 : ℝ) ^ ((i.val : ℤ) - 126) : ℝ) : EReal) := by
  rw [grid_eq, ← exp2_int]
  push_cast
  rfl

/-- The reference's fallback exponent is 128. -/
theorem big_word : Ideal.ofBits FTy.f32 0x43000000#32 = ((128 : ℝ) : EReal) := by
  rw [ofBits_f32]
  unfold Ideal.ieee
  rw [show ((0x43000000#32 : BitVec 32).extractLsb' (8 + 23) 1 == 1#1) = false by decide,
    show ((0x43000000#32 : BitVec 32).extractLsb' 23 8).toNat = 134 by decide,
    show ((0x43000000#32 : BitVec 32).extractLsb' 0 23).toNat = 0 by decide]
  norm_num

/-- The least exponent of a number between two neighbouring powers of two. -/
theorem least {r : ℝ} {n : ℤ} (h0 : (2 : ℝ) ^ n ≤ r) (h1 : r < (2 : ℝ) ^ (n + 1)) (ha : -126 ≤ n) (hb : n ≤ 126) :
    Finset.fold min (⊤ : EReal) (fun i : Fin 254 => if (r : EReal) < Ideal.exp2 (grid i) then grid i
        else Ideal.ofBits FTy.f32 0x43000000#32) Finset.univ = (((n + 1 : ℤ) : ℝ) : EReal) := by
  refine le_antisymm ?_ ?_
  · refine (Finset.fold_min_le _).mpr (Or.inr ⟨⟨(n + 127).toNat, by omega⟩, Finset.mem_univ _, ?_⟩)
    have e : (((n + 127).toNat : ℕ) : ℤ) = n + 127 := by omega
    rw [if_pos]
    · rw [grid_eq, EReal.coe_le_coe_iff]
      have : (((n + 127).toNat : ℕ) : ℝ) = (n : ℝ) + 127 := by exact_mod_cast congrArg (Int.cast : ℤ → ℝ) e
      show (((n + 127).toNat : ℕ) : ℝ) - 126 ≤ _
      rw [this]
      push_cast
      linarith
    · rw [exp2_grid, EReal.coe_lt_coe_iff]
      show r < (2 : ℝ) ^ ((((n + 127).toNat : ℕ) : ℤ) - 126)
      rw [e, show n + 127 - 126 = n + 1 by ring]
      exact h1
  · refine (Finset.le_fold_min _).mpr ⟨le_top, fun i _ => ?_⟩
    split_ifs with h
    · rw [exp2_grid, EReal.coe_lt_coe_iff] at h
      have := (zpow_lt_zpow_iff_right₀ (by norm_num : (1 : ℝ) < 2)).mp (h0.trans_lt h)
      rw [grid_eq, EReal.coe_le_coe_iff]
      have h2 : n + 1 ≤ (i.val : ℤ) - 126 := by omega
      have h3 : ((n + 1 : ℤ) : ℝ) ≤ (((i.val : ℤ) - 126 : ℤ) : ℝ) := by exact_mod_cast h2
      push_cast at h3 ⊢
      exact h3
    · rw [big_word, EReal.coe_le_coe_iff]
      have : ((n + 1 : ℤ) : ℝ) ≤ ((127 : ℤ) : ℝ) := by exact_mod_cast (by omega : n + 1 ≤ 127)
      push_cast at this ⊢
      linarith

/-- The constant 1 / 448: a positive real at most a quarter. -/
theorem inv448 : ∃ s : ℝ, 0 < s ∧ s ≤ 1 / 4 ∧ Ideal.ofBits FTy.f32 0x3B124925#32 = (s : EReal) := by
  refine ⟨((2 ^ 23 + 0x124925 : ℕ) : ℝ) * (2 : ℝ) ^ (-32 : ℤ), by positivity, by norm_num, ?_⟩
  rw [ofBits_f32]
  unfold Ideal.ieee
  rw [show ((0x3B124925#32 : BitVec 32).extractLsb' (8 + 23) 1 == 1#1) = false by decide,
    show ((0x3B124925#32 : BitVec 32).extractLsb' 23 8).toNat = 118 by decide,
    show ((0x3B124925#32 : BitVec 32).extractLsb' 0 23).toNat = 0x124925 by decide]
  norm_num

/-- The precondition's bound is 2 to the -126. -/
theorem tiny_word : Ideal.ofBits FTy.f32 0x00800000#32 = (((2 : ℝ) ^ (-126 : ℤ) : ℝ) : EReal) := by
  rw [show (0x00800000#32 : BitVec 32) = IntOp.shli ArithUnit.vector (BitVec.ofNat 32 1) 23#32 by rw [shl_word]; decide]
  rw [pow_word 1 (by omega) (by omega) _ rfl]
  norm_num

/-- The largest bf16 is a real below `2 ^ 128`. -/
theorem huge_word : ∃ s : ℝ, s < (2 : ℝ) ^ (128 : ℤ) ∧ Ideal.ofBits FTy.f32 0x7F7F0000#32 = (s : EReal) := by
  refine ⟨((2 ^ 23 + 0x7F0000 : ℕ) : ℝ) * (2 : ℝ) ^ (104 : ℤ), by norm_num, ?_⟩
  rw [ofBits_f32]
  unfold Ideal.ieee
  rw [show ((0x7F7F0000#32 : BitVec 32).extractLsb' (8 + 23) 1 == 1#1) = false by decide,
    show ((0x7F7F0000#32 : BitVec 32).extractLsb' 23 8).toNat = 254 by decide,
    show ((0x7F7F0000#32 : BitVec 32).extractLsb' 0 23).toNat = 0x7F0000 by decide]
  norm_num

/-- A row's maximum the precondition admits. -/
def Ok (a : EReal) : Prop :=
  a = 0 ∨ a = ⊤ ∨ (Ideal.ofBits FTy.f32 0x00800000#32 ≤ a * Ideal.ofBits FTy.f32 0x3B124925#32 ∧ a ≤ Ideal.ofBits FTy.f32 0x7F7F0000#32)

/-- A true word selects the first. -/
theorem select_one {α : Type} (a b : α) : Scalar.select (1#1) a b = a := rfl
/-- A false word selects the second. -/
theorem select_zero {α : Type} (a b : α) : Scalar.select (0#1) a b = b := rfl

/-- Exponent zero gives scale and inverse scale one. -/
theorem scale_of_zero {v : EReal} (hv : kexp v = 0#32) : kscale v = Ideal.exp2 0 ∧ kinv v = Ideal.exp2 (0 - 0) := by
  have e : Ideal.exp2 0 = (((2 : ℝ) ^ (0 : ℤ) : ℝ) : EReal) := by
    have := exp2_int 0
    rwa [Int.cast_zero, EReal.coe_zero] at this
  unfold kscale kinv
  rw [hv, sub_zero, e]
  constructor
  · rw [pow_word 127 (by omega) (by omega) _ (by decide)]; norm_num
  · rw [pow_word 127 (by omega) (by omega) _ (by decide)]; norm_num

/-- THE SCALES AGREE: the kernel's power of two and its inverse are the reference's. -/
theorem scale_eq {a : EReal} (ha : Ok a) : kscale (a * Ideal.ofBits FTy.f32 0x3B124925#32) = Ideal.exp2 (rexp a)
    ∧ kinv (a * Ideal.ofBits FTy.f32 0x3B124925#32) = Ideal.exp2 (0 - rexp a) := by
  obtain ⟨s, hs0, hs1, hs⟩ := inv448
  by_cases a0 : a = 0
  · subst a0
    have : rexp 0 = 0 := by unfold rexp; rw [decide_eq_true rfl]; exact select_one _ _
    rw [this, zero_mul]
    exact scale_of_zero (by unfold kexp; rw [kcnt_zero]; rfl)
  by_cases at' : a = ⊤
  · subst at'
    have : rexp ⊤ = 0 := by
      unfold rexp; rw [inf_word, decide_eq_false (EReal.top_ne_zero), decide_eq_true rfl]; exact select_one _ _
    rw [this, hs, EReal.top_mul_coe_of_pos hs0]
    exact scale_of_zero (by unfold kexp; rw [kcnt_top]; rfl)
  obtain ⟨h0, h1⟩ := (ha.resolve_left a0).resolve_left at'
  obtain ⟨b, hb, hbe⟩ := huge_word
  have ab : a ≠ ⊥ := by
    rintro rfl
    rw [hs, EReal.bot_mul_coe_of_pos hs0, tiny_word] at h0
    exact absurd (le_bot_iff.mp h0) (EReal.coe_ne_bot _)
  lift a to ℝ using ⟨at', ab⟩
  have hre : rexp (a : EReal) = Finset.fold min (⊤ : EReal) (fun i : Fin 254 => if ((a * s : ℝ) : EReal) < Ideal.exp2 (grid i) then grid i
        else Ideal.ofBits FTy.f32 0x43000000#32) Finset.univ := by
    unfold rexp
    rw [inf_word, decide_eq_false a0, decide_eq_false at', hs, ← EReal.coe_mul]
    exact select_zero _ _
  rw [hre]
  rw [hs, ← EReal.coe_mul] at h0 ⊢
  rw [tiny_word, EReal.coe_le_coe_iff] at h0
  rw [hbe, EReal.coe_le_coe_iff] at h1
  have pos : 0 < a * s := lt_of_lt_of_le (by positivity) h0
  obtain ⟨n, hn0, hn1⟩ := exists_mem_Ico_zpow pos (by norm_num : (1 : ℝ) < 2)
  have hna : -126 ≤ n := by
    have := (zpow_lt_zpow_iff_right₀ (by norm_num : (1 : ℝ) < 2)).mp (h0.trans_lt hn1)
    omega
  have hnb : n ≤ 125 := by
    have apos : 0 < a := pos_of_mul_pos_left pos hs0.le
    have h126 : a * s < (2 : ℝ) ^ (126 : ℤ) := by
      calc a * s ≤ a * (1 / 4) := mul_le_mul_of_nonneg_left hs1 apos.le
        _ < (2 : ℝ) ^ (128 : ℤ) * (1 / 4) := by nlinarith
        _ = (2 : ℝ) ^ (126 : ℤ) := by norm_num
    have := (zpow_lt_zpow_iff_right₀ (by norm_num : (1 : ℝ) < 2)).mp (hn0.trans_lt h126)
    omega
  rw [least hn0 hn1 hna (by omega)]
  obtain ⟨m, hm⟩ : ∃ m : ℕ, (m : ℤ) = n + 127 := ⟨(n + 127).toNat, by omega⟩
  have hcnt : kcnt ((a * s : ℝ) : EReal) = BitVec.ofNat 32 m := by
    rw [kcnt_real hn0 hn1 hna (by omega)]; congr 1; omega
  have hm1 : 1 ≤ m := by omega
  have hm2 : m ≤ 252 := by omega
  have hk : kexp ((a * s : ℝ) : EReal) = BitVec.ofNat 32 m - 126#32 := by
    unfold kexp
    rw [hcnt]
    have c0 : IntOp.cmpi CmpIPredicate.eq (BitVec.ofNat 32 m) 0#32 = 0#1 := by
      have : BitVec.ofNat 32 m ≠ 0#32 := fun h => by
        have := congrArg BitVec.toNat h; simp only [BitVec.toNat_ofNat] at this; omega
      unfold IntOp.cmpi; rw [beq_eq_false_iff_ne.mpr this]; rfl
    have c1 : IntOp.cmpi CmpIPredicate.eq (BitVec.ofNat 32 m) 255#32 = 0#1 := by
      have : BitVec.ofNat 32 m ≠ 255#32 := fun h => by
        have := congrArg BitVec.toNat h; simp only [BitVec.toNat_ofNat] at this; omega
      unfold IntOp.cmpi; rw [beq_eq_false_iff_ne.mpr this]; rfl
    rw [c0, c1]
    rfl
  unfold kscale kinv
  rw [hk]
  constructor
  · rw [exp2_int, pow_word (m + 1) (by omega) (by omega) _ ?_]
    · rw [Nat.cast_add, hm]; congr 2; push_cast; ring
    · unfold IntOp.addi
      show (BitVec.ofNat 32 m - 126#32 : BitVec 32) + 127#32 = BitVec.ofNat 32 (m + 1)
      apply BitVec.eq_of_toNat_eq
      simp only [BitVec.toNat_add, BitVec.toNat_sub, BitVec.toNat_ofNat]
      omega
  · rw [show (0 : EReal) - (((n + 1 : ℤ) : ℝ) : EReal) = (((-(n + 1) : ℤ) : ℝ) : EReal) by rw [zero_sub, ← EReal.coe_neg, Int.cast_neg], exp2_int,
      pow_word (253 - m) (by omega) (by omega) _ ?_]
    · rw [Nat.cast_sub (by omega : m ≤ 253), hm]; congr 2; push_cast; ring
    · unfold IntOp.subi
      show (127#32 : BitVec 32) - (BitVec.ofNat 32 m - 126#32) = BitVec.ofNat 32 (253 - m)
      apply BitVec.eq_of_toNat_eq
      simp only [BitVec.toNat_sub, BitVec.toNat_ofNat]
      omega

end Cert.Proof.Scale

end
-- ==== Proof.Quant.lean ====
/-
  The two quantisers, row by row: the kernel's codes and scale are the reference's on a row the precondition admits.
-/
module

public import proofs.«01_k».proof.Proof.Scale
public import proofs.«01_k».proof.Proof.Gen.KernelIdeal.Skeleton
public import proofs.«01_k».proof.Proof.Gen.KernelIdeal
public import proofs.«01_k».proof.Proof.Gen.ReferenceIdeal.Frame

@[expose] public section

set_option maxRecDepth 16384

noncomputable section

namespace Cert.Proof.Quant

open Idealize.ShloMosaic
open Cert.KernelIdeal (S32x7168 S32x1 S32x128)

/-- A row's largest magnitude. -/
def rowMax (x : FVec Ideal S32x7168 .bf16) (r : Fin 32) : EReal :=
  Finset.fold max (Ideal.ofBits .f32 0xFF800000#32) (fun d : Fin 7168 => FloatOps.absf (F := Ideal) (φ := .f32) (x (ix2 r d))) Finset.univ

/-- The kernel's exponent word of a row. -/
theorem kexp_at (x : FVec Ideal S32x7168 .bf16) (r : Fin 32) :
    Cert.KernelIdeal.Gen.k0_pay533 (F := Ideal) x (ix2 r 0) = Scale.kexp (rowMax x r * Ideal.ofBits .f32 0x3B124925#32) := by
  pointwise [Cert.KernelIdeal.Gen.k0_pay533, Cert.KernelIdeal.Gen.k0_pay532]
  rfl

/-- The kernel's scale of a row. -/
theorem kscale_at (x : FVec Ideal S32x7168 .bf16) (r : Fin 32) :
    Cert.KernelIdeal.Gen.k0_pay534 (F := Ideal) x (ix2 r 0) = Scale.kscale (rowMax x r * Ideal.ofBits .f32 0x3B124925#32) := by
  have e : Cert.KernelIdeal.Gen.k0_pay534 (F := Ideal) x (ix2 r 0)
      = Ideal.ofBits .f32 (IntOp.shli .vector (IntOp.addi (Cert.KernelIdeal.Gen.k0_pay533 (F := Ideal) x (ix2 r 0)) 127#32) 23#32) := by
    pointwise [Cert.KernelIdeal.Gen.k0_pay534]
  rw [e, kexp_at]
  rfl

/-- The kernel's code of an element. -/
theorem kcode_at (x : FVec Ideal S32x7168 .bf16) (r : Fin 32) (d : Fin 7168) :
    Cert.KernelIdeal.Gen.k0_pay536 (F := Ideal) (Cert.KernelIdeal.Gen.k0_pay532 (F := Ideal) x) (Cert.KernelIdeal.Gen.k0_pay533 (F := Ideal) x) Cert.KernelIdeal.Gen.k0_pay535 (ix2 r d)
      = min (Ideal.ofBits .f32 0x43E00000#32) (max (Ideal.ofBits .f32 0xC3E00000#32)
          (x (ix2 r d) * Scale.kinv (rowMax x r * Ideal.ofBits .f32 0x3B124925#32))) := by
  have e : ∀ (v w : IVec S32x1 32), Cert.KernelIdeal.Gen.k0_pay536 (F := Ideal) (Cert.KernelIdeal.Gen.k0_pay532 (F := Ideal) x) v w (ix2 r d)
      = min (Ideal.ofBits .f32 0x43E00000#32) (max (Ideal.ofBits .f32 0xC3E00000#32)
          (x (ix2 r d) * Ideal.ofBits .f32 (IntOp.shli .vector (IntOp.subi (w (ix2 r 0)) (v (ix2 r 0))) 23#32))) := by
    intro v w
    pointwise [Cert.KernelIdeal.Gen.k0_pay536, Cert.KernelIdeal.Gen.k0_pay532]
  rw [e, kexp_at]
  rfl

/-- The reference's exponent of a row. -/
theorem rexp_at (x : FVec Ideal S32x7168 .bf16) (r : Fin 32) :
    Cert.ReferenceIdeal.Gen.k0_pay3 (F := Ideal) x (ix2 r 0) = Scale.rexp (rowMax x r) := by
  pointwise [Cert.ReferenceIdeal.Gen.k0_pay3, Cert.ReferenceIdeal.Gen.k0_pay2]
  rfl

/-- The reference's scale of a row. -/
theorem rscale_at (x : FVec Ideal S32x7168 .bf16) (r : Fin 32) :
    Cert.ReferenceIdeal.Gen.k0_pay4 (F := Ideal) x (ix2 r 0) = Ideal.exp2 (Scale.rexp (rowMax x r)) := by
  have e : Cert.ReferenceIdeal.Gen.k0_pay4 (F := Ideal) x (ix2 r 0) = Ideal.exp2 (Cert.ReferenceIdeal.Gen.k0_pay3 (F := Ideal) x (ix2 r 0)) := by
    rfl
  rw [e, rexp_at]

/-- The reference's code of an element. -/
theorem rcode_at (x : FVec Ideal S32x7168 .bf16) (r : Fin 32) (d : Fin 7168) :
    Cert.ReferenceIdeal.Gen.k0_pay5 (F := Ideal) x (ix2 r d)
      = min (Ideal.ofBits .f32 0x43E00000#32) (max (Ideal.ofBits .f32 0xC3E00000#32)
          (x (ix2 r d) * Ideal.exp2 (0 - Scale.rexp (rowMax x r)))) := by
  have e : Cert.ReferenceIdeal.Gen.k0_pay5 (F := Ideal) x (ix2 r d) = min (Ideal.ofBits .f32 0x43E00000#32) (max (Ideal.ofBits .f32 0xC3E00000#32)
          (x (ix2 r d) * FloatOps.exp2 (F := Ideal) (φ := .f32) (0 - Cert.ReferenceIdeal.Gen.k0_pay3 (F := Ideal) x (ix2 r 0)))) := by
    pointwise [Cert.ReferenceIdeal.Gen.k0_pay5, Cert.ReferenceIdeal.Gen.k0_pay2]
  rw [e, rexp_at]
  rfl

/-- THE SCALES AGREE, -/
theorem scale_at (x : FVec Ideal S32x7168 .bf16) (r : Fin 32) (h : Scale.Ok (rowMax x r)) :
    Cert.KernelIdeal.Gen.k0_pay534 (F := Ideal) x (ix2 r 0) = Cert.ReferenceIdeal.Gen.k0_pay4 (F := Ideal) x (ix2 r 0) := by
  rw [kscale_at, rscale_at]
  exact (Scale.scale_eq h).1
/-- and the codes. -/
theorem code_at (x : FVec Ideal S32x7168 .bf16) (r : Fin 32) (d : Fin 7168) (h : Scale.Ok (rowMax x r)) :
    Cert.KernelIdeal.Gen.k0_pay536 (F := Ideal) (Cert.KernelIdeal.Gen.k0_pay532 (F := Ideal) x) (Cert.KernelIdeal.Gen.k0_pay533 (F := Ideal) x) Cert.KernelIdeal.Gen.k0_pay535 (ix2 r d)
      = Cert.ReferenceIdeal.Gen.k0_pay5 (F := Ideal) x (ix2 r d) := by
  rw [kcode_at, rcode_at, (Scale.scale_eq h).2]

/-- The reference's logits, at a row and a column. -/
theorem rlogit_at (x : FVec Ideal S32x7168 .bf16) (w : FVec Ideal Cert.ReferenceIdeal.S7168x32256 .fp8e4m3)
    (ws b : FVec Ideal Cert.ReferenceIdeal.S1x32256 .f32) (r : Fin 32) (j : Fin 32256) :
    Cert.ReferenceIdeal.Gen.k0_pay1 (F := Ideal) (Cert.ReferenceIdeal.Gen.k0_pay6 (F := Ideal) x w) ws b (ix2 r j)
      = (∑ k : Fin 7168, Cert.ReferenceIdeal.Gen.k0_pay5 (F := Ideal) x (ix2 r k) * w (ix2 k j)) * Cert.ReferenceIdeal.Gen.k0_pay4 (F := Ideal) x (ix2 r 0)
          * ws (ix2 0 j) + b (ix2 0 j) := by
  pointwise [Cert.ReferenceIdeal.Gen.k0_pay1, Cert.ReferenceIdeal.Gen.k0_pay6]

end Cert.Proof.Quant

end
-- ==== Proof.RRun.lean ====
/-
  The reference's results: its region's three arrays, put through the host lines, element by element.
-/
module

public import proofs.«01_k».proof.Proof.RTop
public import proofs.«01_k».proof.Proof.Quant

@[expose] public section

set_option maxRecDepth 16384

noncomputable section

namespace Cert.Proof.RIdeal

open Cert.ReferenceIdeal Cert.ReferenceIdeal.Gen
open Idealize.ShloMosaic Idealize.ShloMosaic.TcCoe
open Idealize.SL Idealize.SL.Sem
open Cert.Proof

variable (m : (ℓ : Loc nD τ sig) → Buf (Elt Ideal) ℓ) (ρ : Dev nD → PrngReg) (c : Dev nD)

/-- What the region leaves. -/
abbrev mid : Valuation τ sig (Elt Ideal) := Pipeline.withArrays spec0 c (V0 m c) fun w => (dats m 0 c).arrAt w cfg0.N

/-- What every buffer holds at the end. -/
def endVal : Valuation τ sig (Elt Ideal) := StableHlo.after tail (mid m c)

/-- Different windows have different arrays. -/
theorem spec_inj : Function.Injective (Pipeline.arrRef spec0) := by decide

/-- The two-dimensional input. -/
abbrev X0 : FVec Ideal S32x7168 .bf16 := shapeCast S32x7168 (m ((c : Thread nD τ).loc main_arg0) : FVec Ideal S32x1x7168 .bf16) shapeCasts_S32x1x7168_S32x7168

/-- The logits. -/
def logits : FVec Ideal S32x32256 .f32 :=
  k0_pay1 (k0_pay6 (X0 m c) (m ((c : Thread nD τ).loc main_arg1) : FVec Ideal S7168x32256 .fp8e4m3))
    (shapeCast S1x32256 (m ((c : Thread nD τ).loc main_arg2) : FVec Ideal S32256 .f32) shapeCasts_S32256_S1x32256)
    (shapeCast S1x32256 (m ((c : Thread nD τ).loc main_arg3) : FVec Ideal S32256 .f32) shapeCasts_S32256_S1x32256)

/-- After the region the logits are as computed. -/
theorem mid_v3_0 : mid m c (Proc.devRef .tc main_v3_0) = logits m c := by
  refine (Pipeline.withArrays_arr spec0 spec_inj c _ _ 4).trans ((final4 m c).trans ?_)
  rw [V_v0, V_v1, V_v2, V_main_arg1]
  rfl
/-- After the region the codes are as computed. -/
theorem mid_v3_1 : mid m c (Proc.devRef .tc main_v3_1) = k0_pay5 (F := Ideal) (X0 m c) := by
  refine (Pipeline.withArrays_arr spec0 spec_inj c _ _ 5).trans ((final5 m c).trans ?_)
  rw [V_v0]
/-- After the region the scales are as computed. -/
theorem mid_v3_2 : mid m c (Proc.devRef .tc main_v3_2) = k0_pay4 (F := Ideal) (X0 m c) := by
  refine (Pipeline.withArrays_arr spec0 spec_inj c _ _ 6).trans ((final6 m c).trans ?_)
  rw [V_v0]

/-- The eight entries of a row with the middle dimension put in. -/
theorem up8 {α : Type} (x : S32x8.Idx → α) (r : Fin 32) (k : Fin 8) :
    shapeCast S32x1x8 x shapeCasts_S32x8_S32x1x8 (ix3 r 0 k) = x (ix2 r k) := by
  pointwise []
/-- A row's scale with the middle dimension put in. -/
theorem up1 {α : Type} (x : S32x1.Idx → α) (r : Fin 32) :
    shapeCast S32x1x1 x shapeCasts_S32x1_S32x1x1 (ix3 r 0 0) = x (ix2 r 0) := by
  pointwise []
/-- A row of codes with the middle dimension put in. -/
theorem upD {α : Type} (x : S32x7168.Idx → α) (r : Fin 32) (d : Fin 7168) :
    shapeCast S32x1x7168 x shapeCasts_S32x7168_S32x1x7168 (ix3 r 0 d) = x (ix2 r d) := by
  pointwise []
/-- A vector as one row. -/
theorem row {α : Type} (x : S32256.Idx → α) (j : Fin 32256) :
    shapeCast S1x32256 x shapeCasts_S32256_S1x32256 (ix2 0 j) = x (ix1 j) := by
  pointwise []

/-- A logit. -/
theorem logits_at (r : Fin 32) (j : Fin 32256) : logits m c (ix2 r j)
    = (∑ x : Fin 7168, k0_pay5 (F := Ideal) (X0 m c) (ix2 r x) * (m ((c : Thread nD τ).loc main_arg1) : FVec Ideal S7168x32256 .fp8e4m3) (ix2 x j))
        * k0_pay4 (F := Ideal) (X0 m c) (ix2 r 0) * (m ((c : Thread nD τ).loc main_arg2) : FVec Ideal S32256 .f32) (ix1 j)
          + (m ((c : Thread nD τ).loc main_arg3) : FVec Ideal S32256 .f32) (ix1 j) := by
  unfold logits
  rw [Quant.rlogit_at, row, row]

/-- THE TOP EIGHT: the results' entry `k` of a row is its `k`-th best logit. -/
theorem end_rank (r : Fin 32) (k : Fin 8) (v : ℕ → EReal) (hv : ∀ j : Fin 32256, v j.val = logits m c (ix2 r j))
    (e : EReal × ℕ) (he : e = ((endVal m c (Proc.devRef .tc main_v7) : FVec Ideal S32x1x8 .f32) (ix3 r 0 k),
      ((endVal m c (Proc.devRef .tc main_v8) : IVec S32x1x8 32) (ix3 r 0 k)).toNat)) :
    (∀ t : EReal × ℕ, t.1 ≠ ⊥ → (Rank.Le e t ↔ k.val < Rank.cnt v (Finset.range 32256) t)) ∧ (e = Rank.pad ∨ e.1 ≠ ⊥) := by
  have h7 : endVal m c (Proc.devRef .tc main_v7) = _ := tail_v7 (mid m c)
  have h8 : endVal m c (Proc.devRef .tc main_v8) = _ := tail_v8 (mid m c)
  rw [h7, h8, mid_v3_0, up8, up8, entry_at] at he
  exact entry_rank (logits m c) r v hv k e he

/-- THE CODES' RESULT, -/
theorem end_codes (r : Fin 32) (d : Fin 7168) : (endVal m c (Proc.devRef .tc main_v9) : FVec Ideal S32x1x7168 .fp8e4m3) (ix3 r 0 d)
    = k0_pay5 (F := Ideal) (X0 m c) (ix2 r d) := by
  have h : endVal m c (Proc.devRef .tc main_v9) = _ := tail_v9 (mid m c)
  rw [h, upD, mid_v3_1]
/-- and the scales'. -/
theorem end_scale (r : Fin 32) : (endVal m c (Proc.devRef .tc main_v10) : FVec Ideal S32x1x1 .f32) (ix3 r 0 0)
    = k0_pay4 (F := Ideal) (X0 m c) (ix2 r 0) := by
  have h : endVal m c (Proc.devRef .tc main_v10) = _ := tail_v10 (mid m c)
  rw [h, up1, mid_v3_2]

/-- THE REFERENCE'S RUN: every weakly fair execution terminates with the four results at `endVal` and the arguments unchanged. -/
theorem run_vals : θ_run defs (onTc (τ := τ) (main (F := Ideal))) ⟨m, fun _ => 0, ρ⟩ (fun r => ∀ c : Dev nD,
      r.2.mem ((c.tc : Thread nD τ).loc main_v7) = endVal m c (Proc.devRef .tc main_v7)
      ∧ r.2.mem ((c.tc : Thread nD τ).loc main_v8) = endVal m c (Proc.devRef .tc main_v8)
      ∧ r.2.mem ((c.tc : Thread nD τ).loc main_v9) = endVal m c (Proc.devRef .tc main_v9)
      ∧ r.2.mem ((c.tc : Thread nD τ).loc main_v10) = endVal m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).2 main_v7 (Pipeline.mem_restRefs_of main_v7 (by decide) (by decide)),
    (h.1 c).2 main_v8 (Pipeline.mem_restRefs_of main_v8 (by decide) (by decide)),
    (h.1 c).2 main_v9 (Pipeline.mem_restRefs_of main_v9 (by decide) (by decide)),
    (h.1 c).2 main_v10 (Pipeline.mem_restRefs_of main_v10 (by decide) (by decide)), h.2 c⟩)
    (θ_run_and (run_main m ρ) (unchanged m ρ))

end Cert.Proof.RIdeal

end
-- ==== Proof.Pre.lean ====
/-
  The precondition, row by row: a row's largest magnitude is zero, infinite, or large enough for its scale to be normal.
-/
module

public import proofs.«01_k».proof.Proof.Quant
public import proofs.«01_k».proof.Pre_normal_rows

@[expose] public section

set_option maxRecDepth 16384

noncomputable section

namespace Cert.Proof.Quant

open Idealize.ShloMosaic
open Cert.Pre_normal_rows

variable [Facts]

/-- The value the precondition gives a row. -/
theorem pre_at (x : FVec Ideal S32x1x7168 .bf16) (w : FVec Ideal S7168x32256 .fp8e4m3) (ws b : FVec Ideal S32256 .f32) (r : Fin 32) (a : EReal)
    (ha : a = Finset.fold max (Ideal.ofBits .f32 0xFF800000#32) (fun d : Fin 7168 => FloatOps.absf (F := Ideal) (φ := .f32) (x (ix3 r 0 d))) Finset.univ) :
    fn (F := Ideal) x w ws b (ix2 r 0)
      = IntOp.ori (IntOp.ori (BitVec.ofBool (decide (a = 0))) (BitVec.ofBool (decide (a = Ideal.ofBits .f32 0x7F800000#32))))
          (IntOp.andi (BitVec.ofBool (decide (Ideal.ofBits .f32 0x00800000#32 ≤ a * Ideal.ofBits .f32 0x3B124925#32)))
            (BitVec.ofBool (decide (a ≤ Ideal.ofBits .f32 0x7F7F0000#32)))) := by
  subst ha
  pointwise [fn]

end Cert.Proof.Quant

end
-- ==== Proof.Equal.lean ====
/-
  The two programs' results are equal: the codes and the scales element by element, the top eight by what they rank.
-/
module

public import proofs.«01_k».proof.Defs
public import proofs.«01_k».proof.Proof.KRun
public import proofs.«01_k».proof.Proof.RRun
public import proofs.«01_k».proof.Proof.Pre

@[expose] public section

set_option maxRecDepth 16384

noncomputable section

namespace Cert.Proof

open Idealize.ShloMosaic Idealize.ShloMosaic.TcCoe Idealize.SL Idealize.SL.Sem

/-- The shape relations the precondition's operations take. -/
theorem preFacts : Cert.Pre_normal_rows.Facts where
  bitsLt_bf16_f32 := by decide
  reducesTo_S32x1x7168_S32x1_d2 := by decide
  h_S_ := by decide
  bcast_S_S32x1 := by decide

/-- A true word of the precondition makes one of its three cases true. -/
theorem one_of : ∀ A B C D : Bool,
    IntOp.ori (IntOp.ori (BitVec.ofBool A) (BitVec.ofBool B)) (IntOp.andi (BitVec.ofBool C) (BitVec.ofBool D)) = 1#1
      → A = true ∨ B = true ∨ (C = true ∧ D = true) := by decide

/-- Every index of a three-dimensional array of which the middle dimension is one. -/
theorem ix3_eta {n p : ℕ} (i : (⟨3, ![n, 1, p]⟩ : Shape).Idx) : ∃ (r : Fin n) (k : Fin p), i = ix3 r 0 k := by
  refine ⟨i 0, i 2, funext fun a => ?_⟩
  match a with
  | ⟨0, _⟩ => rfl
  | ⟨1, _⟩ => exact Subsingleton.elim (α := Fin 1) _ _
  | ⟨2, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The rows the precondition admits have scales on which the two quantisers agree. -/
theorem ok_of_pre (hp : Cert.Pre_KernelIdeal_normal_rows (hPre_normal_rows := preFacts) m) (c : Dev Cert.KernelIdeal.nD) (r : Fin 32) :
    Scale.Ok (Quant.rowMax (KIdeal.X0 m c) r) := by
  haveI := preFacts
  have hr : Quant.rowMax (KIdeal.X0 m c) r = Finset.fold max (Ideal.ofBits .f32 0xFF800000#32)
      (fun d : Fin 7168 => FloatOps.absf (F := Ideal) (φ := .f32) ((m ((c : Thread Cert.KernelIdeal.nD Cert.KernelIdeal.τ).loc Cert.KernelIdeal.main_arg0) : FVec Ideal Cert.KernelIdeal.S32x1x7168 .bf16) (ix3 r 0 d))) Finset.univ := by
    unfold Quant.rowMax
    simp only [KIdeal.X0, KIdeal.downD]
  have h := congrFun (hp c) (ix2 r 0)
  rw [Quant.pre_at _ _ _ _ r _ hr] at h
  unfold Scale.Ok
  rcases one_of _ _ _ _ h with h | h | ⟨h, h'⟩
  · exact Or.inl (of_decide_eq_true h)
  · exact Or.inr (Or.inl ((of_decide_eq_true h).trans Scale.inf_word))
  · exact Or.inr (Or.inr ⟨of_decide_eq_true h, of_decide_eq_true h'⟩)

section Results

variable (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (hok : ∀ r, Scale.Ok (Quant.rowMax (KIdeal.X0 m c) r))

include h0 in
/-- Equal arguments give the two programs equal rows of `x`. -/
theorem X0_eq : RIdeal.X0 m' c = KIdeal.X0 m c :=
  congrArg (fun a : FVec Ideal Cert.KernelIdeal.S32x1x7168 .bf16 => shapeCast Cert.KernelIdeal.S32x7168 a Cert.KernelIdeal.Gen.shapeCasts_S32x1x7168_S32x7168) h0

include h0 hok in
/-- THE SCALES are the reference's, -/
theorem scale_eq : RIdeal.endVal m' c (Proc.devRef .tc Cert.ReferenceIdeal.main_v10) = KIdeal.endVal m c (Proc.devRef .tc Cert.KernelIdeal.main_v8) := by
  funext i
  obtain ⟨r, k, rfl⟩ := ix3_eta (n := 32) (p := 1) i
  obtain rfl : k = 0 := Subsingleton.elim _ _
  refine (RIdeal.end_scale m' c r).trans (Eq.trans ?_ (KIdeal.end_scale m c r).symm)
  rw [X0_eq m m' c h0, Quant.scale_at _ r (hok r)]
include h0 hok in
/-- the codes too, -/
theorem codes_eq : RIdeal.endVal m' c (Proc.devRef .tc Cert.ReferenceIdeal.main_v9) = KIdeal.endVal m c (Proc.devRef .tc Cert.KernelIdeal.main_v6) := by
  funext i
  obtain ⟨r, d, rfl⟩ := ix3_eta (n := 32) (p := 7168) i
  refine (RIdeal.end_codes m' c r d).trans (Eq.trans ?_ (KIdeal.end_codes m c r d).symm)
  rw [X0_eq m m' c h0, Quant.code_at _ r d (hok r)]

include h0 h1 h2 h3 hok in
/-- and each entry of the top eight, value and index. -/
theorem entry_eq (r : Fin 32) (k : Fin 8) :
    (((RIdeal.endVal m' c (Proc.devRef .tc Cert.ReferenceIdeal.main_v7) : FVec Ideal Cert.ReferenceIdeal.S32x1x8 .f32) (ix3 r 0 k),
        ((RIdeal.endVal m' c (Proc.devRef .tc Cert.ReferenceIdeal.main_v8) : IVec Cert.ReferenceIdeal.S32x1x8 32) (ix3 r 0 k)).toNat) : EReal × ℕ)
      = ((KIdeal.endVal m c (Proc.devRef .tc Cert.KernelIdeal.main_v3) : FVec Ideal Cert.KernelIdeal.S32x1x8 .f32) (ix3 r 0 k),
        ((KIdeal.endVal m c (Proc.devRef .tc Cert.KernelIdeal.main_v5) : IVec Cert.KernelIdeal.S32x1x8 32) (ix3 r 0 k)).toNat) := by
  have hR := RIdeal.end_rank m' c r k (fun j => if h : j < 32256 then RIdeal.logits m' c (ix2 r ⟨j, h⟩) else ⊥) (fun j => dif_pos j.isLt) _ rfl
  have hK := KIdeal.end_rank m c r k (fun j => if h : j < 32256 then RIdeal.logits m' c (ix2 r ⟨j, h⟩) else ⊥) (fun j => by
    refine (dif_pos j.isLt).trans ((RIdeal.logits_at m' c r j).trans ?_)
    rw [X0_eq m m' c h0, Quant.scale_at _ r (hok r), h1, h2, h3]
    refine congrArg (fun s : EReal => s * _ * _ + _) (Finset.sum_congr rfl fun x _ => ?_)
    rw [Quant.code_at _ r x (hok r)]) _ rfl
  exact Rank.eq_of_le_iff hR.2 hK.2 fun t ht => (hR.1 t ht).trans (hK.1 t ht).symm

include h0 h1 h2 h3 hok in
/-- The top eight values are equal, -/
theorem vals_eq : RIdeal.endVal m' c (Proc.devRef .tc Cert.ReferenceIdeal.main_v7) = KIdeal.endVal m c (Proc.devRef .tc Cert.KernelIdeal.main_v3) := by
  funext i
  obtain ⟨r, k, rfl⟩ := ix3_eta (n := 32) (p := 8) i
  exact congrArg Prod.fst (entry_eq m m' c h0 h1 h2 h3 hok r k)
include h0 h1 h2 h3 hok in
/-- and so are their indices. -/
theorem idxs_eq : RIdeal.endVal m' c (Proc.devRef .tc Cert.ReferenceIdeal.main_v8) = KIdeal.endVal m c (Proc.devRef .tc Cert.KernelIdeal.main_v5) := by
  funext i
  obtain ⟨r, k, rfl⟩ := ix3_eta (n := 32) (p := 8) i
  exact BitVec.eq_of_toNat_eq (congrArg Prod.snd (entry_eq m m' c h0 h1 h2 h3 hok r k))

end Results

/-- THE KERNEL COMPUTES THE REFERENCE: on the rows the precondition admits, both programs run and end with equal results. -/
theorem algebraic : Cert.algebraic_KernelIdeal_ReferenceIdeal_pre_normal_rows (hKernelIdeal := Cert.KernelIdeal.Gen.facts)
    (hReferenceIdeal := Cert.ReferenceIdeal.Gen.facts) (hPre_normal_rows := preFacts) := by
  intro m g m' g' hp hm
  refine ⟨fun c => KIdeal.endVal m c (Proc.devRef .tc Cert.KernelIdeal.main_v3), fun c => KIdeal.endVal m c (Proc.devRef .tc Cert.KernelIdeal.main_v5),
    fun c => KIdeal.endVal m c (Proc.devRef .tc Cert.KernelIdeal.main_v6), fun c => KIdeal.endVal m c (Proc.devRef .tc Cert.KernelIdeal.main_v8), ?_, ?_⟩
  · exact (θ_run Cert.KernelIdeal.defs _ _).mono (fun r h c => ⟨h.1 c Cert.KernelIdeal.main_v3 (KIdeal.rest _ (by decide) (by decide)),
      h.1 c Cert.KernelIdeal.main_v5 (KIdeal.rest _ (by decide) (by decide)), h.1 c Cert.KernelIdeal.main_v6 (KIdeal.rest _ (by decide) (by decide)),
      h.1 c Cert.KernelIdeal.main_v8 (KIdeal.rest _ (by decide) (by decide)),
      (h.1 c Cert.KernelIdeal.main_arg0 (KIdeal.rest _ (by decide) (by decide))).trans (KIdeal.endVal_arg0 m c),
      (h.1 c Cert.KernelIdeal.main_arg1 (KIdeal.rest _ (by decide) (by decide))).trans (KIdeal.endVal_arg1 m c),
      (h.1 c Cert.KernelIdeal.main_arg2 (KIdeal.rest _ (by decide) (by decide))).trans (KIdeal.endVal_arg2 m c),
      (h.1 c Cert.KernelIdeal.main_arg3 (KIdeal.rest _ (by decide) (by decide))).trans (KIdeal.endVal_arg3 m c)⟩) (KIdeal.run_main m g)
  · refine (θ_run Cert.ReferenceIdeal.defs _ _).mono (fun r h c => ?_) (RIdeal.run_vals m' g')
    obtain ⟨h0, h1, h2, h3⟩ := hm c
    have hok := ok_of_pre m hp c
    obtain ⟨e7, e8, e9, e10, ea⟩ := h c
    exact ⟨e7.trans (vals_eq m m' c h0 h1 h2 h3 hok), e8.trans (idxs_eq m m' c h0 h1 h2 h3 hok), e9.trans (codes_eq m m' c h0 hok),
      e10.trans (scale_eq m m' c h0 hok), ea⟩

end Cert.Proof

end
-- ==== Proof.lean ====
/-
  The claims: each program runs from any launch memory, leaves its arguments alone and ends quiescent; the idealized
  kernel is the kernel's own text; on the rows the precondition admits it computes the reference, in all four results.
-/
module

public import proofs.«01_k».proof.Defs
public import proofs.«01_k».proof.Proof.BFrame
public import proofs.«01_k».proof.Proof.KFrame
public import proofs.«01_k».proof.Proof.Gen.ReferenceIdeal.Frame
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Proof.preFacts,
  fun m ρ _ => Cert.Proof.KBits.frame m ρ, fun m ρ _ => Cert.Proof.KIdeal.frame m ρ, fun m ρ _ => Cert.Proof.KIdeal.frame m ρ,
  fun m ρ _ => Cert.ReferenceIdeal.Gen.frame m ρ, fun m ρ _ => Cert.ReferenceIdeal.Gen.frame m ρ, trivial, Cert.Proof.algebraic⟩

end Cert.Proof

end
